-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S32x128 Cert.KernelIdeal.S16x128
  ∧ IdealRules.bf16_pair.Statement Cert.KernelIdeal.S16x128 Cert.KernelIdeal.S8x128
  ∧ IdealRules.truncf_extf.Statement Cert.KernelIdeal.S32x128 .bf16 .fp8e5m2

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x32768x5120 : Shape := ⟨3, ![1, 32768, 5120]⟩
abbrev S1x32768x1280 : Shape := ⟨3, ![1, 32768, 1280]⟩
abbrev S1x1024x1280 : Shape := ⟨3, ![1, 1024, 1280]⟩
abbrev S1280x5120 : Shape := ⟨2, ![1280, 5120]⟩
abbrev S1280x160 : Shape := ⟨2, ![1280, 160]⟩
abbrev S32768x5120 : Shape := ⟨2, ![32768, 5120]⟩
abbrev S32768x1280 : Shape := ⟨2, ![32768, 1280]⟩
abbrev S1024x1280 : Shape := ⟨2, ![1024, 1280]⟩
abbrev S32768x160 : Shape := ⟨2, ![32768, 160]⟩
abbrev S1024x5120 : Shape := ⟨2, ![1024, 5120]⟩
abbrev S256x5120 : Shape := ⟨2, ![256, 5120]⟩
abbrev S256x1280 : Shape := ⟨2, ![256, 1280]⟩
abbrev S32x1280 : Shape := ⟨2, ![32, 1280]⟩
abbrev S256x160 : Shape := ⟨2, ![256, 160]⟩
abbrev S32x5120 : Shape := ⟨2, ![32, 5120]⟩
abbrev S5120x1280 : Shape := ⟨2, ![5120, 1280]⟩
abbrev S160x1280 : Shape := ⟨2, ![160, 1280]⟩
abbrev S2x1280x256 : Shape := ⟨3, ![2, 1280, 256]⟩
abbrev S1280x256 : Shape := ⟨2, ![1280, 256]⟩
abbrev S160x1x256 : Shape := ⟨3, ![160, 1, 256]⟩
abbrev S4x8x5120 : Shape := ⟨3, ![4, 8, 5120]⟩
abbrev S2 : Shape := ⟨1, ![2]⟩
abbrev S1 : Shape := ⟨1, ![1]⟩
abbrev S_ : Shape := ⟨0, ![]⟩
abbrev S1x1280x256 : Shape := ⟨3, ![1, 1280, 256]⟩
abbrev S8x1280 : Shape := ⟨2, ![8, 1280]⟩
abbrev S1x1280 : Shape := ⟨2, ![1, 1280]⟩
abbrev S8x128 : Shape := ⟨2, ![8, 128]⟩
abbrev S32x128 : Shape := ⟨2, ![32, 128]⟩
abbrev S16x128 : Shape := ⟨2, ![16, 128]⟩
abbrev S1x8x128 : Shape := ⟨3, ![1, 8, 128]⟩
abbrev S128x128 : Shape := ⟨2, ![128, 128]⟩
abbrev S1x128 : Shape := ⟨2, ![1, 128]⟩
abbrev S1x1x128 : Shape := ⟨3, ![1, 1, 128]⟩
abbrev S160x256 : Shape := ⟨2, ![160, 256]⟩
abbrev S1280x1280 : Shape := ⟨2, ![1280, 1280]⟩
abbrev S256x256 : Shape := ⟨2, ![256, 256]⟩

abbrev nBuf : Space → Nat
  | .hbm => 14
  | .vmem => 28
  | .smem => 0
  | _ => 0

abbrev bufTy : (tb : Table) → Fin (tcTables nBuf tb) → BufTy
  | .hbm, ⟨0, _⟩ => ⟨S1x32768x5120, .bf16⟩
  | .hbm, ⟨1, _⟩ => ⟨S1x32768x1280, .fp8e4m3⟩
  | .hbm, ⟨2, _⟩ => ⟨S1x1024x1280, .i8⟩
  | .hbm, ⟨3, _⟩ => ⟨S1280x5120, .fp8e4m3⟩
  | .hbm, ⟨4, _⟩ => ⟨S1280x160, .i8⟩
  | .hbm, ⟨5, _⟩ => ⟨S32768x5120, .bf16⟩
  | .hbm, ⟨6, _⟩ => ⟨S32768x1280, .fp8e4m3⟩
  | .hbm, ⟨7, _⟩ => ⟨S1024x1280, .i8⟩
  | .hbm, ⟨8, _⟩ => ⟨S32768x1280, .bf16⟩
  | .hbm, ⟨9, _⟩ => ⟨S1280x5120, .f32⟩
  | .hbm, ⟨10, _⟩ => ⟨S32768x5120, .fp8e5m2⟩
  | .hbm, ⟨11, _⟩ => ⟨S32768x160, .i8⟩
  | .hbm, ⟨12, _⟩ => ⟨S32768x5120, .fp8e5m2⟩
  | .hbm, ⟨13, _⟩ => ⟨S1024x5120, .i8⟩
  | .local _ .vmem, ⟨0, _⟩ => ⟨S256x5120, .bf16⟩
  | .local _ .vmem, ⟨1, _⟩ => ⟨S256x5120, .bf16⟩
  | .local _ .vmem, ⟨2, _⟩ => ⟨S256x1280, .fp8e4m3⟩
  | .local _ .vmem, ⟨3, _⟩ => ⟨S256x1280, .fp8e4m3⟩
  | .local _ .vmem, ⟨4, _⟩ => ⟨S32x1280, .i8⟩
  | .local _ .vmem, ⟨5, _⟩ => ⟨S32x1280, .i8⟩
  | .local _ .vmem, ⟨6, _⟩ => ⟨S1280x160, .i8⟩
  | .local _ .vmem, ⟨7, _⟩ => ⟨S256x1280, .bf16⟩
  | .local _ .vmem, ⟨8, _⟩ => ⟨S256x1280, .bf16⟩
  | .local _ .vmem, ⟨9, _⟩ => ⟨S1280x5120, .f32⟩
  | .local _ .vmem, ⟨10, _⟩ => ⟨S256x5120, .fp8e5m2⟩
  | .local _ .vmem, ⟨11, _⟩ => ⟨S256x5120, .fp8e5m2⟩
  | .local _ .vmem, ⟨12, _⟩ => ⟨S256x160, .i8⟩
  | .local _ .vmem, ⟨13, _⟩ => ⟨S256x160, .i8⟩
  | .local _ .vmem, ⟨14, _⟩ => ⟨S256x5120, .fp8e5m2⟩
  | .local _ .vmem, ⟨15, _⟩ => ⟨S256x5120, .fp8e5m2⟩
  | .local _ .vmem, ⟨16, _⟩ => ⟨S32x5120, .i8⟩
  | .local _ .vmem, ⟨17, _⟩ => ⟨S32x5120, .i8⟩
  | .local _ .vmem, ⟨18, _⟩ => ⟨S5120x1280, .bf16⟩
  | .local _ .vmem, ⟨19, _⟩ => ⟨S160x1280, .f32⟩
  | .local _ .vmem, ⟨20, _⟩ => ⟨S2x1280x256, .fp8e4m3⟩
  | .local _ .vmem, ⟨21, _⟩ => ⟨S256x5120, .bf16⟩
  | .local _ .vmem, ⟨22, _⟩ => ⟨S256x5120, .bf16⟩
  | .local _ .vmem, ⟨23, _⟩ => ⟨S1280x256, .bf16⟩
  | .local _ .vmem, ⟨24, _⟩ => ⟨S256x1280, .f32⟩
  | .local _ .vmem, ⟨25, _⟩ => ⟨S32x1280, .f32⟩
  | .local _ .vmem, ⟨26, _⟩ => ⟨S160x1x256, .i32⟩
  | .local _ .vmem, ⟨27, _⟩ => ⟨S4x8x5120, .i32⟩
  | _, _ => ⟨S1x32768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨1, ![129], ![false]⟩

def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

def k0_mult1 : BitVec 32 :=
  let c0_i32_7 : BitVec 32 := 0#32
  c0_i32_7
@[reducible] def k0_t1_loop : Scf.Loop 32 :=
  let c0_i32_22 : BitVec 32 := 0#32
  let c20_i32 : BitVec 32 := 20#32
  let v38 : BitVec 32 := Scalar.addi c0_i32_22 c20_i32
  let c1_i32_23 : BitVec 32 := 1#32
  ⟨c0_i32_22, v38, c1_i32_23⟩
def k0_cond2 (k0_t1 : Fin k0_t1_loop.trips) : BitVec 1 :=
  let c0_i32_22 : BitVec 32 := 0#32
  let c1_i32_23 : BitVec 32 := 1#32
  let arg23 : BitVec 32 := Scf.iv c0_i32_22 c1_i32_23 k0_t1
  let c1_i32_43 : BitVec 32 := 1#32
  let v59 : BitVec 32 := Scalar.addi arg23 c1_i32_43
  let c20_i32_44 : BitVec 32 := 20#32
  let v60 : BitVec 1 := Scalar.cmpi .slt v59 c20_i32_44
  let v61 : BitVec 32 := Scalar.extui v60
  let c0_i32_45 : BitVec 32 := 0#32
  let v62 : BitVec 1 := Scalar.cmpi .ne v61 c0_i32_45
  v62

def k0_mult2 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c1_i32_69 : BitVec 32 := 1#32
  let v168 : BitVec 32 := Scalar.addi arg23 c1_i32_69
  let c256_i32_71 : BitVec 32 := 256#32
  let v170 : BitVec 32 := Scalar.muli v168 c256_i32_71
  v170
def k0_off1 (k0_t1 : Fin k0_t1_loop.trips) : Fin 1 → Nat :=
  let c1_i32_70 : BitVec 32 := 1#32
  let c0_i32_22 : BitVec 32 := 0#32
  let c1_i32_23 : BitVec 32 := 1#32
  let arg23 : BitVec 32 := Scf.iv c0_i32_22 c1_i32_23 k0_t1
  let c2_i32 : BitVec 32 := 2#32
  let c0_i32_38 : BitVec 32 := 0#32
  let v49 : BitVec 1 := Scalar.cmpi .eq c2_i32 c0_i32_38
  let c1_i32_39 : BitVec 32 := 1#32
  let v50 : BitVec 32 := Scalar.select v49 c1_i32_39 c2_i32
  let v51 : BitVec 32 := Scalar.remsi arg23 v50
  let c0_i32_41 : BitVec 32 := 0#32
  let v53 : BitVec 1 := Scalar.cmpi .slt v51 c0_i32_41
  let c0_i32_42 : BitVec 32 := 0#32
  let v54 : BitVec 1 := Scalar.cmpi .slt v50 c0_i32_42
  let v55 : BitVec 1 := Scalar.xori v53 v54
  let c0_i32_40 : BitVec 32 := 0#32
  let v52 : BitVec 1 := Scalar.cmpi .ne v51 c0_i32_40
  let v56 : BitVec 1 := Scalar.andi v55 v52
  let v57 : BitVec 32 := Scalar.addi v51 v50
  let v58 : BitVec 32 := Scalar.select v56 v57 v51
  let v169 : BitVec 32 := Scalar.subi c1_i32_70 v58
  ![v169.toNat]
def k0_off2 (k0_t1 : Fin k0_t1_loop.trips) : Fin 3 → Nat :=
  let c1_i32_70 : BitVec 32 := 1#32
  let c0_i32_22 : BitVec 32 := 0#32
  let c1_i32_23 : BitVec 32 := 1#32
  let arg23 : BitVec 32 := Scf.iv c0_i32_22 c1_i32_23 k0_t1
  let c2_i32 : BitVec 32 := 2#32
  let c0_i32_38 : BitVec 32 := 0#32
  let v49 : BitVec 1 := Scalar.cmpi .eq c2_i32 c0_i32_38
  let c1_i32_39 : BitVec 32 := 1#32
  let v50 : BitVec 32 := Scalar.select v49 c1_i32_39 c2_i32
  let v51 : BitVec 32 := Scalar.remsi arg23 v50
  let c0_i32_41 : BitVec 32 := 0#32
  let v53 : BitVec 1 := Scalar.cmpi .slt v51 c0_i32_41
  let c0_i32_42 : BitVec 32 := 0#32
  let v54 : BitVec 1 := Scalar.cmpi .slt v50 c0_i32_42
  let v55 : BitVec 1 := Scalar.xori v53 v54
  let c0_i32_40 : BitVec 32 := 0#32
  let v52 : BitVec 1 := Scalar.cmpi .ne v51 c0_i32_40
  let v56 : BitVec 1 := Scalar.andi v55 v52
  let v57 : BitVec 32 := Scalar.addi v51 v50
  let v58 : BitVec 32 := Scalar.select v56 v57 v51
  let v169 : BitVec 32 := Scalar.subi c1_i32_70 v58
  let c0_i32_72 : BitVec 32 := 0#32
  let c0_i32_73 : BitVec 32 := 0#32
  ![v169.toNat, 0, 0]
def k0_off3 (k0_t1 : Fin k0_t1_loop.trips) : Fin 2 → Nat :=
  let c0_i32_74 : BitVec 32 := 0#32
  let c0_i32_22 : BitVec 32 := 0#32
  let c1_i32_23 : BitVec 32 := 1#32
  let arg23 : BitVec 32 := Scf.iv c0_i32_22 c1_i32_23 k0_t1
  let c1_i32_69 : BitVec 32 := 1#32
  let v168 : BitVec 32 := Scalar.addi arg23 c1_i32_69
  let c256_i32_71 : BitVec 32 := 256#32
  let v170 : BitVec 32 := Scalar.muli v168 c256_i32_71
  let v171 : BitVec 32 := v170
  ![0, v171.toNat]
def k0_mult3 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32 : BitVec 32 := 256#32
  let v63 : BitVec 32 := Scalar.muli arg23 c256_i32
  v63
def k0_off4 (k0_t1 : Fin k0_t1_loop.trips) : Fin 1 → Nat :=
  let c0_i32_22 : BitVec 32 := 0#32
  let c1_i32_23 : BitVec 32 := 1#32
  let arg23 : BitVec 32 := Scf.iv c0_i32_22 c1_i32_23 k0_t1
  let c2_i32 : BitVec 32 := 2#32
  let c0_i32_38 : BitVec 32 := 0#32
  let v49 : BitVec 1 := Scalar.cmpi .eq c2_i32 c0_i32_38
  let c1_i32_39 : BitVec 32 := 1#32
  let v50 : BitVec 32 := Scalar.select v49 c1_i32_39 c2_i32
  let v51 : BitVec 32 := Scalar.remsi arg23 v50
  let c0_i32_41 : BitVec 32 := 0#32
  let v53 : BitVec 1 := Scalar.cmpi .slt v51 c0_i32_41
  let c0_i32_42 : BitVec 32 := 0#32
  let v54 : BitVec 1 := Scalar.cmpi .slt v50 c0_i32_42
  let v55 : BitVec 1 := Scalar.xori v53 v54
  let c0_i32_40 : BitVec 32 := 0#32
  let v52 : BitVec 1 := Scalar.cmpi .ne v51 c0_i32_40
  let v56 : BitVec 1 := Scalar.andi v55 v52
  let v57 : BitVec 32 := Scalar.addi v51 v50
  let v58 : BitVec 32 := Scalar.select v56 v57 v51
  ![v58.toNat]
def k0_off5 (k0_t1 : Fin k0_t1_loop.trips) : Fin 3 → Nat :=
  let c0_i32_22 : BitVec 32 := 0#32
  let c1_i32_23 : BitVec 32 := 1#32
  let arg23 : BitVec 32 := Scf.iv c0_i32_22 c1_i32_23 k0_t1
  let c2_i32 : BitVec 32 := 2#32
  let c0_i32_38 : BitVec 32 := 0#32
  let v49 : BitVec 1 := Scalar.cmpi .eq c2_i32 c0_i32_38
  let c1_i32_39 : BitVec 32 := 1#32
  let v50 : BitVec 32 := Scalar.select v49 c1_i32_39 c2_i32
  let v51 : BitVec 32 := Scalar.remsi arg23 v50
  let c0_i32_41 : BitVec 32 := 0#32
  let v53 : BitVec 1 := Scalar.cmpi .slt v51 c0_i32_41
  let c0_i32_42 : BitVec 32 := 0#32
  let v54 : BitVec 1 := Scalar.cmpi .slt v50 c0_i32_42
  let v55 : BitVec 1 := Scalar.xori v53 v54
  let c0_i32_40 : BitVec 32 := 0#32
  let v52 : BitVec 1 := Scalar.cmpi .ne v51 c0_i32_40
  let v56 : BitVec 1 := Scalar.andi v55 v52
  let v57 : BitVec 32 := Scalar.addi v51 v50
  let v58 : BitVec 32 := Scalar.select v56 v57 v51
  let c0_i32_46 : BitVec 32 := 0#32
  let c0_i32_47 : BitVec 32 := 0#32
  ![v58.toNat, 0, 0]
def k0_off6 (k0_t1 : Fin k0_t1_loop.trips) : Fin 2 → Nat :=
  let c0_i32_48 : BitVec 32 := 0#32
  let c0_i32_22 : BitVec 32 := 0#32
  let c1_i32_23 : BitVec 32 := 1#32
  let arg23 : BitVec 32 := Scf.iv c0_i32_22 c1_i32_23 k0_t1
  let c256_i32 : BitVec 32 := 256#32
  let v63 : BitVec 32 := Scalar.muli arg23 c256_i32
  let v64 : BitVec 32 := v63
  ![0, v64.toNat]
def k0_mult4 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c8_i32 : BitVec 32 := 8#32
  let v70 : BitVec 32 := Scalar.muli arg23 c8_i32
  v70
def k0_off7 (k0_t1 : Fin k0_t1_loop.trips) : Fin 2 → Nat :=
  let c0_i32_22 : BitVec 32 := 0#32
  let c1_i32_23 : BitVec 32 := 1#32
  let arg23 : BitVec 32 := Scf.iv c0_i32_22 c1_i32_23 k0_t1
  let c8_i32 : BitVec 32 := 8#32
  let v70 : BitVec 32 := Scalar.muli arg23 c8_i32
  let v71 : BitVec 32 := v70
  let v72 : Index := Scalar.indexCast v71
  let c0_49 : Index := 0#32
  ![v72.toNat, 0]
def k0_off8 (k0_t1 : Fin k0_t1_loop.trips) : Fin 3 → Nat :=
  let c0_i32_22 : BitVec 32 := 0#32
  let c1_i32_23 : BitVec 32 := 1#32
  let arg23 : BitVec 32 := Scf.iv c0_i32_22 c1_i32_23 k0_t1
  let c2_i32 : BitVec 32 := 2#32
  let c0_i32_38 : BitVec 32 := 0#32
  let v49 : BitVec 1 := Scalar.cmpi .eq c2_i32 c0_i32_38
  let c1_i32_39 : BitVec 32 := 1#32
  let v50 : BitVec 32 := Scalar.select v49 c1_i32_39 c2_i32
  let v51 : BitVec 32 := Scalar.remsi arg23 v50
  let c0_i32_41 : BitVec 32 := 0#32
  let v53 : BitVec 1 := Scalar.cmpi .slt v51 c0_i32_41
  let c0_i32_42 : BitVec 32 := 0#32
  let v54 : BitVec 1 := Scalar.cmpi .slt v50 c0_i32_42
  let v55 : BitVec 1 := Scalar.xori v53 v54
  let c0_i32_40 : BitVec 32 := 0#32
  let v52 : BitVec 1 := Scalar.cmpi .ne v51 c0_i32_40
  let v56 : BitVec 1 := Scalar.andi v55 v52
  let v57 : BitVec 32 := Scalar.addi v51 v50
  let v58 : BitVec 32 := Scalar.select v56 v57 v51
  let v75 : Index := Scalar.indexCast v58
  let c0_50 : Index := 0#32
  let c0_51 : Index := 0#32
  ![v75.toNat, 0, 0]
def k0_mult5 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_52 : BitVec 32 := 256#32
  let v80 : BitVec 32 := Scalar.muli arg23 c256_i32_52
  let c0_i32_53 : BitVec 32 := 0#32
  let v81 : BitVec 32 := Scalar.addi v80 c0_i32_53
  v81
def k0_off9 (k0_t1 : Fin k0_t1_loop.trips) (c0_i32_53 : BitVec 32) : Fin 2 → Nat :=
  let c0_i32_22 : BitVec 32 := 0#32
  let c1_i32_23 : BitVec 32 := 1#32
  let arg23 : BitVec 32 := Scf.iv c0_i32_22 c1_i32_23 k0_t1
  let c256_i32_52 : BitVec 32 := 256#32
  let v80 : BitVec 32 := Scalar.muli arg23 c256_i32_52
  let v81 : BitVec 32 := Scalar.addi v80 c0_i32_53
  let v82 : BitVec 32 := v81
  let v87 : Index := Scalar.indexCast v82
  let c0_54 : Index := 0#32
  ![v87.toNat, 0]
def k0_mult6 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_55 : BitVec 32 := 256#32
  let v91 : BitVec 32 := Scalar.muli arg23 c256_i32_55
  let c32_i32 : BitVec 32 := 32#32
  let v92 : BitVec 32 := Scalar.addi v91 c32_i32
  v92
def k0_mult7 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_57 : BitVec 32 := 256#32
  let v102 : BitVec 32 := Scalar.muli arg23 c256_i32_57
  let c64_i32 : BitVec 32 := 64#32
  let v103 : BitVec 32 := Scalar.addi v102 c64_i32
  v103
def k0_mult8 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_59 : BitVec 32 := 256#32
  let v113 : BitVec 32 := Scalar.muli arg23 c256_i32_59
  let c96_i32 : BitVec 32 := 96#32
  let v114 : BitVec 32 := Scalar.addi v113 c96_i32
  v114
def k0_mult9 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_61 : BitVec 32 := 256#32
  let v124 : BitVec 32 := Scalar.muli arg23 c256_i32_61
  let c128_i32 : BitVec 32 := 128#32
  let v125 : BitVec 32 := Scalar.addi v124 c128_i32
  v125
def k0_mult10 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_63 : BitVec 32 := 256#32
  let v135 : BitVec 32 := Scalar.muli arg23 c256_i32_63
  let c160_i32 : BitVec 32 := 160#32
  let v136 : BitVec 32 := Scalar.addi v135 c160_i32
  v136
def k0_mult11 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_65 : BitVec 32 := 256#32
  let v146 : BitVec 32 := Scalar.muli arg23 c256_i32_65
  let c192_i32 : BitVec 32 := 192#32
  let v147 : BitVec 32 := Scalar.addi v146 c192_i32
  v147
def k0_mult12 (k0_t1 : Fin k0_t1_loop.trips) : BitVec 32 :=
  let c0_i32_22 : BitVec 32 := 0#32
  let c1_i32_23 : BitVec 32 := 1#32
  let arg23 : BitVec 32 := Scf.iv c0_i32_22 c1_i32_23 k0_t1
  let c256_i32_67 : BitVec 32 := 256#32
  let v157 : BitVec 32 := Scalar.muli arg23 c256_i32_67
  let c224_i32 : BitVec 32 := 224#32
  let v158 : BitVec 32 := Scalar.addi v157 c224_i32
  v158
@[reducible] def k0_t2_loop : Scf.Loop 32 :=
  let c0_i32_25 : BitVec 32 := 0#32
  let c40_i32 : BitVec 32 := 40#32
  let v39 : BitVec 32 := Scalar.addi c0_i32_25 c40_i32
  let c1_i32_26 : BitVec 32 := 1#32
  ⟨c0_i32_25, v39, c1_i32_26⟩
def k0_mult13 (k0_t2 : Fin k0_t2_loop.trips) : BitVec 32 :=
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  v49
def k0_off10 (k0_t2 : Fin k0_t2_loop.trips) : Fin 2 → Nat :=
  let c0_39 : Index := 0#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v53 : Index := Scalar.indexCast v50
  ![0, v53.toNat]
def k0_off11 (k0_t2 : Fin k0_t2_loop.trips) : Fin 2 → Nat :=
  let c32 : Index := 32#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v157 : Index := Scalar.indexCast v50
  ![32, v157.toNat]
def k0_off12 (k0_t2 : Fin k0_t2_loop.trips) : Fin 2 → Nat :=
  let c64 : Index := 64#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v261 : Index := Scalar.indexCast v50
  ![64, v261.toNat]
def k0_off13 (k0_t2 : Fin k0_t2_loop.trips) : Fin 2 → Nat :=
  let c96 : Index := 96#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v365 : Index := Scalar.indexCast v50
  ![96, v365.toNat]
def k0_off14 (k0_t2 : Fin k0_t2_loop.trips) : Fin 2 → Nat :=
  let c128 : Index := 128#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v469 : Index := Scalar.indexCast v50
  ![128, v469.toNat]
def k0_off15 (k0_t2 : Fin k0_t2_loop.trips) : Fin 2 → Nat :=
  let c160 : Index := 160#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v573 : Index := Scalar.indexCast v50
  ![160, v573.toNat]
def k0_off16 (k0_t2 : Fin k0_t2_loop.trips) : Fin 2 → Nat :=
  let c192 : Index := 192#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v677 : Index := Scalar.indexCast v50
  ![192, v677.toNat]
def k0_off17 (k0_t2 : Fin k0_t2_loop.trips) : Fin 2 → Nat :=
  let c224 : Index := 224#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v781 : Index := Scalar.indexCast v50
  ![224, v781.toNat]
def k0_off18 (i : grid0.Coords) (k0_t2 : Fin k0_t2_loop.trips) : Fin 3 → Nat :=
  let arg0 : BitVec 32 := BitVec.ofNat 32 (i 0).val
  let c127_i32 : BitVec 32 := 127#32
  let v0 : BitVec 32 := Scalar.minsi arg0 c127_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v885 : Index := Scalar.indexCast v10
  let c0_206 : Index := 0#32
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let v886 : Index := Scalar.indexCast v50
  ![v885.toNat, 0, v886.toNat]
def k0_off19 (k0_t2 : Fin k0_t2_loop.trips) (c0_i32_229 : BitVec 32) : Fin 3 → Nat :=
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let c0_i32_223 : BitVec 32 := 0#32
  let v965 : BitVec 1 := Scalar.cmpi .sgt v50 c0_i32_223
  let v966 : BitVec 32 := Scalar.extui v965
  let c0_i32_224 : BitVec 32 := 0#32
  let v967 : BitVec 1 := Scalar.cmpi .slt v50 c0_i32_224
  let v968 : BitVec 32 := Scalar.extui v967
  let v969 : BitVec 32 := Scalar.subi v966 v968
  let c32_i32 : BitVec 32 := 32#32
  let c0_i32_225 : BitVec 32 := 0#32
  let v970 : BitVec 1 := Scalar.cmpi .sgt c32_i32 c0_i32_225
  let v971 : BitVec 32 := Scalar.extui v970
  let c0_i32_226 : BitVec 32 := 0#32
  let v972 : BitVec 1 := Scalar.cmpi .slt c32_i32 c0_i32_226
  let v973 : BitVec 32 := Scalar.extui v972
  let v974 : BitVec 32 := Scalar.subi v971 v973
  let v975 : BitVec 1 := Scalar.cmpi .ne v969 v974
  let v976 : BitVec 32 := Scalar.remsi v50 c32_i32
  let c0_i32_227 : BitVec 32 := 0#32
  let v977 : BitVec 1 := Scalar.cmpi .ne v976 c0_i32_227
  let v978 : BitVec 1 := Scalar.andi v975 v977
  let v964 : BitVec 32 := Scalar.divsi v50 c32_i32
  let c1_i32_228 : BitVec 32 := 1#32
  let v979 : BitVec 32 := Scalar.subi v964 c1_i32_228
  let v980 : BitVec 32 := Scalar.select v978 v979 v964
  let v981 : BitVec 32 := Scalar.addi v980 c0_i32_229
  let v986 : Index := Scalar.indexCast v981
  let c0_231 : Index := 0#32
  let c0_232 : Index := 0#32
  ![v986.toNat, 0, 0]
def k0_off20 (k0_t2 : Fin k0_t2_loop.trips) (c0_i32_361 : BitVec 32) : Fin 3 → Nat :=
  let c0_i32_25 : BitVec 32 := 0#32
  let c1_i32_26 : BitVec 32 := 1#32
  let arg23 : BitVec 32 := Scf.iv c0_i32_25 c1_i32_26 k0_t2
  let c128_i32 : BitVec 32 := 128#32
  let v49 : BitVec 32 := Scalar.muli arg23 c128_i32
  let v50 : BitVec 32 := v49
  let c0_i32_355 : BitVec 32 := 0#32
  let v1465 : BitVec 1 := Scalar.cmpi .sgt v50 c0_i32_355
  let v1466 : BitVec 32 := Scalar.extui v1465
  let c0_i32_356 : BitVec 32 := 0#32
  let v1467 : BitVec 1 := Scalar.cmpi .slt v50 c0_i32_356
  let v1468 : BitVec 32 := Scalar.extui v1467
  let v1469 : BitVec 32 := Scalar.subi v1466 v1468
  let c32_i32_354 : BitVec 32 := 32#32
  let c0_i32_357 : BitVec 32 := 0#32
  let v1470 : BitVec 1 := Scalar.cmpi .sgt c32_i32_354 c0_i32_357
  let v1471 : BitVec 32 := Scalar.extui v1470
  let c0_i32_358 : BitVec 32 := 0#32
  let v1472 : BitVec 1 := Scalar.cmpi .slt c32_i32_354 c0_i32_358
  let v1473 : BitVec 32 := Scalar.extui v1472
  let v1474 : BitVec 32 := Scalar.subi v1471 v1473
  let v1475 : BitVec 1 := Scalar.cmpi .ne v1469 v1474
  let v1476 : BitVec 32 := Scalar.remsi v50 c32_i32_354
  let c0_i32_359 : BitVec 32 := 0#32
  let v1477 : BitVec 1 := Scalar.cmpi .ne v1476 c0_i32_359
  let v1478 : BitVec 1 := Scalar.andi v1475 v1477
  let v1464 : BitVec 32 := Scalar.divsi v50 c32_i32_354
  let c1_i32_360 : BitVec 32 := 1#32
  let v1479 : BitVec 32 := Scalar.subi v1464 c1_i32_360
  let v1480 : BitVec 32 := Scalar.select v1478 v1479 v1464
  let v1481 : BitVec 32 := Scalar.addi v1480 c0_i32_361
  let v1486 : Index := Scalar.indexCast v1481
  let c0_363 : Index := 0#32
  let c128_364 : Index := 128#32
  ![v1486.toNat, 0, 128]
def k0_cond3 (i : grid0.Coords) : BitVec 1 :=
  let arg0 : BitVec 32 := BitVec.ofNat 32 (i 0).val
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .ne v15 c0_i32_6
  v16

def k0_mult14 (i : grid0.Coords) : BitVec 32 :=
  let arg0 : BitVec 32 := BitVec.ofNat 32 (i 0).val
  let c1_i32_10 : BitVec 32 := 1#32
  let v26 : BitVec 32 := Scalar.subi arg0 c1_i32_10
  let c4_i32_11 : BitVec 32 := 4#32
  let c0_i32_12 : BitVec 32 := 0#32
  let v27 : BitVec 1 := Scalar.cmpi .eq c4_i32_11 c0_i32_12
  let c1_i32_13 : BitVec 32 := 1#32
  let v28 : BitVec 32 := Scalar.select v27 c1_i32_13 c4_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let c8_i32 : BitVec 32 := 8#32
  let v37 : BitVec 32 := Scalar.muli v36 c8_i32
  v37
def k0_off21 (i : grid0.Coords) : Fin 2 → Nat :=
  let arg0 : BitVec 32 := BitVec.ofNat 32 (i 0).val
  let c1_i32_10 : BitVec 32 := 1#32
  let v26 : BitVec 32 := Scalar.subi arg0 c1_i32_10
  let c4_i32_11 : BitVec 32 := 4#32
  let c0_i32_12 : BitVec 32 := 0#32
  let v27 : BitVec 1 := Scalar.cmpi .eq c4_i32_11 c0_i32_12
  let c1_i32_13 : BitVec 32 := 1#32
  let v28 : BitVec 32 := Scalar.select v27 c1_i32_13 c4_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let c8_i32 : BitVec 32 := 8#32
  let v37 : BitVec 32 := Scalar.muli v36 c8_i32
  let v38 : BitVec 32 := v37
  let v39 : Index := Scalar.indexCast v38
  let c0_17 : Index := 0#32
  ![v39.toNat, 0]
@[reducible] def k0_t3_loop : Scf.Loop 32 :=
  let c0_i32_29 : BitVec 32 := 0#32
  let c4_i32_30 : BitVec 32 := 4#32
  let v102 : BitVec 32 := Scalar.addi c0_i32_29 c4_i32_30
  let c1_i32_31 : BitVec 32 := 1#32
  ⟨c0_i32_29, v102, c1_i32_31⟩
def k0_mult15 (k0_t3 : Fin k0_t3_loop.trips) : BitVec 32 :=
  let c0_i32_29 : BitVec 32 := 0#32
  let c1_i32_31 : BitVec 32 := 1#32
  let arg23 : BitVec 32 := Scf.iv c0_i32_29 c1_i32_31 k0_t3
  let c1280_i32 : BitVec 32 := 1280#32
  let v112 : BitVec 32 := Scalar.muli arg23 c1280_i32
  v112
def k0_off22 (k0_t3 : Fin k0_t3_loop.trips) : Fin 2 → Nat :=
  let c0_43 : Index := 0#32
  let c0_i32_29 : BitVec 32 := 0#32
  let c1_i32_31 : BitVec 32 := 1#32
  let arg23 : BitVec 32 := Scf.iv c0_i32_29 c1_i32_31 k0_t3
  let c1280_i32 : BitVec 32 := 1280#32
  let v112 : BitVec 32 := Scalar.muli arg23 c1280_i32
  let v113 : BitVec 32 := v112
  let v114 : Index := Scalar.indexCast v113
  ![0, v114.toNat]
def k0_off23 (k0_t3 : Fin k0_t3_loop.trips) : Fin 2 → Nat :=
  let c0_i32_29 : BitVec 32 := 0#32
  let c1_i32_31 : BitVec 32 := 1#32
  let arg23 : BitVec 32 := Scf.iv c0_i32_29 c1_i32_31 k0_t3
  let c1280_i32 : BitVec 32 := 1280#32
  let v112 : BitVec 32 := Scalar.muli arg23 c1280_i32
  let v113 : BitVec 32 := v112
  let v116 : Index := Scalar.indexCast v113
  let c0_44 : Index := 0#32
  ![v116.toNat, 0]
@[reducible] def k0_t4_loop : Scf.Loop 32 :=
  let c0_i32_54 : BitVec 32 := 0#32
  let c5_i32 : BitVec 32 := 5#32
  let v132 : BitVec 32 := Scalar.addi c0_i32_54 c5_i32
  let c1_i32_55 : BitVec 32 := 1#32
  ⟨c0_i32_54, v132, c1_i32_55⟩
def k0_mult16 (k0_t3 : Fin k0_t3_loop.trips) (k0_t4 : Fin k0_t4_loop.trips) : BitVec 32 :=
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  v135
def k0_off24 (k0_t3 : Fin k0_t3_loop.trips) (k0_t4 : Fin k0_t4_loop.trips) : Fin 2 → Nat :=
  let c0_58 : Index := 0#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let v137 : Index := Scalar.indexCast v136
  ![0, v137.toNat]
def k0_off25 (k0_t3 : Fin k0_t3_loop.trips) (k0_t4 : Fin k0_t4_loop.trips) : Fin 2 → Nat :=
  let c0_61 : Index := 0#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let v141 : Index := Scalar.indexCast v136
  ![0, v141.toNat]
@[reducible] def k0_t5_loop : Scf.Loop 32 :=
  let c0_i32_64 : BitVec 32 := 0#32
  let c2_i32 : BitVec 32 := 2#32
  let v147 : BitVec 32 := Scalar.addi c0_i32_64 c2_i32
  let c1_i32_65 : BitVec 32 := 1#32
  ⟨c0_i32_64, v147, c1_i32_65⟩
def k0_mult17 (k0_t3 : Fin k0_t3_loop.trips) (k0_t4 : Fin k0_t4_loop.trips) (k0_t5 : Fin k0_t5_loop.trips) : BitVec 32 :=
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  v149
def k0_off26 (k0_t3 : Fin k0_t3_loop.trips) (k0_t4 : Fin k0_t4_loop.trips) (k0_t5 : Fin k0_t5_loop.trips) : Fin 2 → Nat :=
  let c0_68 : Index := 0#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v153 : Index := Scalar.indexCast v150
  ![0, v153.toNat]
def k0_off27 (k0_t3 : Fin k0_t3_loop.trips) (k0_t4 : Fin k0_t4_loop.trips) (k0_t5 : Fin k0_t5_loop.trips) : Fin 2 → Nat :=
  let c32_79 : Index := 32#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v257 : Index := Scalar.indexCast v150
  ![32, v257.toNat]
def k0_off28 (k0_t3 : Fin k0_t3_loop.trips) (k0_t4 : Fin k0_t4_loop.trips) (k0_t5 : Fin k0_t5_loop.trips) : Fin 2 → Nat :=
  let c64_103 : Index := 64#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v361 : Index := Scalar.indexCast v150
  ![64, v361.toNat]
def k0_off29 (k0_t3 : Fin k0_t3_loop.trips) (k0_t4 : Fin k0_t4_loop.trips) (k0_t5 : Fin k0_t5_loop.trips) : Fin 2 → Nat :=
  let c96_127 : Index := 96#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v465 : Index := Scalar.indexCast v150
  ![96, v465.toNat]
def k0_off30 (k0_t3 : Fin k0_t3_loop.trips) (k0_t4 : Fin k0_t4_loop.trips) (k0_t5 : Fin k0_t5_loop.trips) : Fin 2 → Nat :=
  let c128_150 : Index := 128#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v569 : Index := Scalar.indexCast v150
  ![128, v569.toNat]
def k0_off31 (k0_t3 : Fin k0_t3_loop.trips) (k0_t4 : Fin k0_t4_loop.trips) (k0_t5 : Fin k0_t5_loop.trips) : Fin 2 → Nat :=
  let c160_174 : Index := 160#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v673 : Index := Scalar.indexCast v150
  ![160, v673.toNat]
def k0_off32 (k0_t3 : Fin k0_t3_loop.trips) (k0_t4 : Fin k0_t4_loop.trips) (k0_t5 : Fin k0_t5_loop.trips) : Fin 2 → Nat :=
  let c192_198 : Index := 192#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v777 : Index := Scalar.indexCast v150
  ![192, v777.toNat]
def k0_off33 (k0_t3 : Fin k0_t3_loop.trips) (k0_t4 : Fin k0_t4_loop.trips) (k0_t5 : Fin k0_t5_loop.trips) : Fin 2 → Nat :=
  let c224_221 : Index := 224#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v881 : Index := Scalar.indexCast v150
  ![224, v881.toNat]
def k0_off34 (i : grid0.Coords) (k0_t3 : Fin k0_t3_loop.trips) (k0_t4 : Fin k0_t4_loop.trips) (k0_t5 : Fin k0_t5_loop.trips) : Fin 3 → Nat :=
  let arg0 : BitVec 32 := BitVec.ofNat 32 (i 0).val
  let c127_i32 : BitVec 32 := 127#32
  let v0 : BitVec 32 := Scalar.minsi arg0 c127_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v985 : Index := Scalar.indexCast v10
  let c0_244 : Index := 0#32
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let v986 : Index := Scalar.indexCast v150
  ![v985.toNat, 0, v986.toNat]
def k0_off35 (k0_t3 : Fin k0_t3_loop.trips) (k0_t4 : Fin k0_t4_loop.trips) (k0_t5 : Fin k0_t5_loop.trips) (c0_i32_267 : BitVec 32) : Fin 3 → Nat :=
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let c0_i32_261 : BitVec 32 := 0#32
  let v1065 : BitVec 1 := Scalar.cmpi .sgt v150 c0_i32_261
  let v1066 : BitVec 32 := Scalar.extui v1065
  let c0_i32_262 : BitVec 32 := 0#32
  let v1067 : BitVec 1 := Scalar.cmpi .slt v150 c0_i32_262
  let v1068 : BitVec 32 := Scalar.extui v1067
  let v1069 : BitVec 32 := Scalar.subi v1066 v1068
  let c32_i32 : BitVec 32 := 32#32
  let c0_i32_263 : BitVec 32 := 0#32
  let v1070 : BitVec 1 := Scalar.cmpi .sgt c32_i32 c0_i32_263
  let v1071 : BitVec 32 := Scalar.extui v1070
  let c0_i32_264 : BitVec 32 := 0#32
  let v1072 : BitVec 1 := Scalar.cmpi .slt c32_i32 c0_i32_264
  let v1073 : BitVec 32 := Scalar.extui v1072
  let v1074 : BitVec 32 := Scalar.subi v1071 v1073
  let v1075 : BitVec 1 := Scalar.cmpi .ne v1069 v1074
  let v1076 : BitVec 32 := Scalar.remsi v150 c32_i32
  let c0_i32_265 : BitVec 32 := 0#32
  let v1077 : BitVec 1 := Scalar.cmpi .ne v1076 c0_i32_265
  let v1078 : BitVec 1 := Scalar.andi v1075 v1077
  let v1064 : BitVec 32 := Scalar.divsi v150 c32_i32
  let c1_i32_266 : BitVec 32 := 1#32
  let v1079 : BitVec 32 := Scalar.subi v1064 c1_i32_266
  let v1080 : BitVec 32 := Scalar.select v1078 v1079 v1064
  let v1081 : BitVec 32 := Scalar.addi v1080 c0_i32_267
  let v1086 : Index := Scalar.indexCast v1081
  let c0_269 : Index := 0#32
  let c0_270 : Index := 0#32
  ![v1086.toNat, 0, 0]
def k0_off36 (k0_t3 : Fin k0_t3_loop.trips) (k0_t4 : Fin k0_t4_loop.trips) (k0_t5 : Fin k0_t5_loop.trips) (c0_i32_399 : BitVec 32) : Fin 3 → Nat :=
  let c0_i32_29 : BitVec 32 := 0#32
  let c1_i32_31 : BitVec 32 := 1#32
  let arg23 : BitVec 32 := Scf.iv c0_i32_29 c1_i32_31 k0_t3
  let c1280_i32_57 : BitVec 32 := 1280#32
  let v133 : BitVec 32 := Scalar.muli arg23 c1280_i32_57
  let c0_i32_54 : BitVec 32 := 0#32
  let c1_i32_55 : BitVec 32 := 1#32
  let arg24 : BitVec 32 := Scf.iv c0_i32_54 c1_i32_55 k0_t4
  let c256_i32 : BitVec 32 := 256#32
  let v134 : BitVec 32 := Scalar.muli arg24 c256_i32
  let v135 : BitVec 32 := Scalar.addi v133 v134
  let v136 : BitVec 32 := v135
  let c0_i32_64 : BitVec 32 := 0#32
  let c1_i32_65 : BitVec 32 := 1#32
  let arg25 : BitVec 32 := Scf.iv c0_i32_64 c1_i32_65 k0_t5
  let c128_i32 : BitVec 32 := 128#32
  let v148 : BitVec 32 := Scalar.muli arg25 c128_i32
  let v149 : BitVec 32 := Scalar.addi v136 v148
  let v150 : BitVec 32 := v149
  let c0_i32_393 : BitVec 32 := 0#32
  let v1565 : BitVec 1 := Scalar.cmpi .sgt v150 c0_i32_393
  let v1566 : BitVec 32 := Scalar.extui v1565
  let c0_i32_394 : BitVec 32 := 0#32
  let v1567 : BitVec 1 := Scalar.cmpi .slt v150 c0_i32_394
  let v1568 : BitVec 32 := Scalar.extui v1567
  let v1569 : BitVec 32 := Scalar.subi v1566 v1568
  let c32_i32_392 : BitVec 32 := 32#32
  let c0_i32_395 : BitVec 32 := 0#32
  let v1570 : BitVec 1 := Scalar.cmpi .sgt c32_i32_392 c0_i32_395
  let v1571 : BitVec 32 := Scalar.extui v1570
  let c0_i32_396 : BitVec 32 := 0#32
  let v1572 : BitVec 1 := Scalar.cmpi .slt c32_i32_392 c0_i32_396
  let v1573 : BitVec 32 := Scalar.extui v1572
  let v1574 : BitVec 32 := Scalar.subi v1571 v1573
  let v1575 : BitVec 1 := Scalar.cmpi .ne v1569 v1574
  let v1576 : BitVec 32 := Scalar.remsi v150 c32_i32_392
  let c0_i32_397 : BitVec 32 := 0#32
  let v1577 : BitVec 1 := Scalar.cmpi .ne v1576 c0_i32_397
  let v1578 : BitVec 1 := Scalar.andi v1575 v1577
  let v1564 : BitVec 32 := Scalar.divsi v150 c32_i32_392
  let c1_i32_398 : BitVec 32 := 1#32
  let v1579 : BitVec 32 := Scalar.subi v1564 c1_i32_398
  let v1580 : BitVec 32 := Scalar.select v1578 v1579 v1564
  let v1581 : BitVec 32 := Scalar.addi v1580 c0_i32_399
  let v1586 : Index := Scalar.indexCast v1581
  let c0_401 : Index := 0#32
  let c128_402 : Index := 128#32
  ![v1586.toNat, 0, 128]
def k0_cond6 (k0_t3 : Fin k0_t3_loop.trips) : BitVec 1 :=
  let c0_i32_29 : BitVec 32 := 0#32
  let c1_i32_31 : BitVec 32 := 1#32
  let arg23 : BitVec 32 := Scf.iv c0_i32_29 c1_i32_31 k0_t3
  let c1_i32_51 : BitVec 32 := 1#32
  let v128 : BitVec 32 := Scalar.addi arg23 c1_i32_51
  let c4_i32_52 : BitVec 32 := 4#32
  let v129 : BitVec 1 := Scalar.cmpi .eq v128 c4_i32_52
  let v130 : BitVec 32 := Scalar.extui v129
  let c0_i32_53 : BitVec 32 := 0#32
  let v131 : BitVec 1 := Scalar.cmpi .ne v130 c0_i32_53
  v131

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c127_i32 : BitVec 32 := 127#32
  let v0 : BitVec 32 := Scalar.minsi arg0 c127_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x160 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x160 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x5120 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F]
-- ==== ReferenceIdeal.lean ====
abbrev S1x32768x5120 : Shape := ⟨3, ![1, 32768, 5120]⟩
abbrev S1x32768x1280 : Shape := ⟨3, ![1, 32768, 1280]⟩
abbrev S1x1024x1280 : Shape := ⟨3, ![1, 1024, 1280]⟩
abbrev S1280x5120 : Shape := ⟨2, ![1280, 5120]⟩
abbrev S1280x160 : Shape := ⟨2, ![1280, 160]⟩
abbrev S32768x5120 : Shape := ⟨2, ![32768, 5120]⟩
abbrev S32768x1280 : Shape := ⟨2, ![32768, 1280]⟩
abbrev S1024x1280 : Shape := ⟨2, ![1024, 1280]⟩
abbrev S1024x32x5120 : Shape := ⟨3, ![1024, 32, 5120]⟩
abbrev S1024x5120 : Shape := ⟨2, ![1024, 5120]⟩
abbrev S1024x1x5120 : Shape := ⟨3, ![1024, 1, 5120]⟩
abbrev S1024x1x1280 : Shape := ⟨3, ![1024, 1, 1280]⟩
abbrev S1024x32x1280 : Shape := ⟨3, ![1024, 32, 1280]⟩
abbrev S32768x160x32 : Shape := ⟨3, ![32768, 160, 32]⟩
abbrev S32768x160 : Shape := ⟨2, ![32768, 160]⟩
abbrev S32768x160x1 : Shape := ⟨3, ![32768, 160, 1]⟩
abbrev S1280x160x1 : Shape := ⟨3, ![1280, 160, 1]⟩
abbrev S1280x160x32 : Shape := ⟨3, ![1280, 160, 32]⟩

abbrev nBuf : Space → Nat
  | .hbm => 12
  | .vmem => 9
  | .smem => 0
  | _ => 0

abbrev bufTy : (tb : Table) → Fin (tcTables nBuf tb) → BufTy
  | .hbm, ⟨0, _⟩ => ⟨S1x32768x5120, .bf16⟩
  | .hbm, ⟨1, _⟩ => ⟨S1x32768x1280, .fp8e4m3⟩
  | .hbm, ⟨2, _⟩ => ⟨S1x1024x1280, .i8⟩
  | .hbm, ⟨3, _⟩ => ⟨S1280x5120, .fp8e4m3⟩
  | .hbm, ⟨4, _⟩ => ⟨S1280x160, .i8⟩
  | .hbm, ⟨5, _⟩ => ⟨S32768x5120, .bf16⟩
  | .hbm, ⟨6, _⟩ => ⟨S32768x1280, .fp8e4m3⟩
  | .hbm, ⟨7, _⟩ => ⟨S1024x1280, .i8⟩
  | .hbm, ⟨8, _⟩ => ⟨S32768x1280, .bf16⟩
  | .hbm, ⟨9, _⟩ => ⟨S1280x5120, .f32⟩
  | .hbm, ⟨10, _⟩ => ⟨S32768x5120, .fp8e5m2⟩
  | .hbm, ⟨11, _⟩ => ⟨S32768x5120, .fp8e5m2⟩
  | .local _ .vmem, ⟨0, _⟩ => ⟨S32768x5120, .bf16⟩
  | .local _ .vmem, ⟨1, _⟩ => ⟨S32768x1280, .fp8e4m3⟩
  | .local _ .vmem, ⟨2, _⟩ => ⟨S1024x1280, .i8⟩
  | .local _ .vmem, ⟨3, _⟩ => ⟨S1280x5120, .fp8e4m3⟩
  | .local _ .vmem, ⟨4, _⟩ => ⟨S1280x160, .i8⟩
  | .local _ .vmem, ⟨5, _⟩ => ⟨S32768x1280, .bf16⟩
  | .local _ .vmem, ⟨6, _⟩ => ⟨S1280x5120, .f32⟩
  | .local _ .vmem, ⟨7, _⟩ => ⟨S32768x5120, .fp8e5m2⟩
  | .local _ .vmem, ⟨8, _⟩ => ⟨S32768x5120, .fp8e5m2⟩
  | _, _ => ⟨S1x32768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x160 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x5120 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x5120 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelLoopsA.lean ====
module

public import proofs.«01_k».proof.Proof.Gen.Kernel.Frame
public import proofs.«01_k».proof.Proof.Gen.Kernel.Loops

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

/-- The resource algebra: the pipeline's, with the counters of the kernel's own transfers. -/
local notation "𝕄" => MT nD τ sig Unit (Elt F) ℕ (Pipeline.UD sig nD τ) ℕ

set_option warn.classDefReducibility false in
/-- One trip leaves what it only reads as it was, and what it writes at some contents. -/
@[sl_loop] def loop5 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (k0_t4 : Fin k0_t4_loop.trips) (v136 : BitVec 32) (X1 : BufTy.Contents (Elt F) arg1.view.ty) :
    LoopInvTy_k0_t5 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k0_t4 v136 where
  inv := fun _ _ => iprop((arg1.view.loc (c : Thread nD τ) ↦[arg1.view.set]{fullShare} X1) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, ⟨%f8, H8⟩, ⟨%f10, H10⟩, ⟨%f15, H15⟩, ⟨%f16, H16⟩, ⟨%f20, H20⟩, ⟨%f21, H21⟩⟩
    unfold k0_t5_body
    sl_exec
    sl_step
    isplitl [H1]; · iexact H1
    isplitl [H8]; · iexists _; iexact H8
    isplitl [H10]; · iexists _; iexact H10
    isplitl [H15]; · iexists _; iexact H15
    isplitl [H16]; · iexists _; iexact H16
    isplitl [H20]; · iexists _; iexact H20
    iexists _; iexact H21

set_option warn.classDefReducibility false in
/-- One trip leaves what it only reads as it was, and what it writes at some contents. -/
@[sl_loop] def loop2 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h1 : k0_cond1 i = 1#1) (X1 : BufTy.Contents (Elt F) arg1.view.ty) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h1 where
  inv := fun _ _ => iprop((arg1.view.loc (c : Thread nD τ) ↦[arg1.view.set]{fullShare} X1) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, ⟨%f8, H8⟩, ⟨%f10, H10⟩, ⟨%f15, H15⟩, ⟨%f16, H16⟩, ⟨%f20, H20⟩, ⟨%f21, H21⟩⟩
    unfold k0_t2_body
    sl_exec
    sl_step
    isplitl [H1]; · iexact H1
    isplitl [H8]; · iexists _; iexact H8
    isplitl [H10]; · iexists _; iexact H10
    isplitl [H15]; · iexists _; iexact H15
    isplitl [H16]; · iexists _; iexact H16
    isplitl [H20]; · iexists _; iexact H20
    iexists _; iexact H21

end Cert.Kernel.Hand

end
-- ==== Proof.KernelT1.lean ====
module

public import proofs.«01_k».proof.Proof.KernelLoopsA
public import Idealize.ShloMosaic.Lib.Transfers

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

/-- The resource algebra: the pipeline's, with the counters of the kernel's own transfers. -/
local notation "𝕄" => MT nD τ sig Unit (Elt F) ℕ (Pipeline.UD sig nD τ) ℕ

/-! The accesses of one trip, as the program spells them: what it waits for (`W`) and what it starts next (`I`). -/
abbrev slotW (i : grid0.Coords) (k : Fin k0_t1_loop.trips) (h1 : k0_cond1 i = 1#1) : Memref sig .tc .vmem S1280x256 .fp8e4m3 :=
  ((Memref.whole cc0_scratch2).slice (Rect.unit (s := S2x1280x256) (k0_off5 k) S1x1280x256.size (k0_off5_inb i k h1)) (fun _ => rfl)).squeeze S1280x256 squeezes_S1x1280x256_S1280x256
abbrev slotI (i : grid0.Coords) (k : Fin k0_t1_loop.trips) (h1 : k0_cond1 i = 1#1) (h2 : k0_cond2 k = 1#1) : Memref sig .tc .vmem S1280x256 .fp8e4m3 :=
  ((Memref.whole cc0_scratch2).slice (Rect.unit (s := S2x1280x256) (k0_off2 k) S1x1280x256.size (k0_off2_inb i k h1 h2)) (fun _ => rfl)).squeeze S1280x256 squeezes_S1x1280x256_S1280x256
abbrev srcW (i : grid0.Coords) (k : Fin k0_t1_loop.trips) (h1 : k0_cond1 i = 1#1) : Memref sig .tc .hbm S1280x256 .fp8e4m3 :=
  (Memref.whole main_arg3).slice (Rect.unit (s := S1280x5120) (k0_off6 k) S1280x256.size (k0_off6_inb i k h1)) (fun _ => rfl)
abbrev srcI (i : grid0.Coords) (k : Fin k0_t1_loop.trips) (h1 : k0_cond1 i = 1#1) (h2 : k0_cond2 k = 1#1) : Memref sig .tc .hbm S1280x256 .fp8e4m3 :=
  (Memref.whole main_arg3).slice (Rect.unit (s := S1280x5120) (k0_off3 k) S1280x256.size (k0_off3_inb i k h1 h2)) (fun _ => rfl)
abbrev cellW (i : grid0.Coords) (k : Fin k0_t1_loop.trips) (h1 : k0_cond1 i = 1#1) : SemLoc sig :=
  SemLoc.dma ((SemArray.slice cc0_scratch10 (Rect.unit (s := S2) (k0_off4 k) S1.size (k0_off4_inb i k h1))).squeeze S_ squeezes_S1_S_).sem
abbrev cellI (i : grid0.Coords) (k : Fin k0_t1_loop.trips) (h1 : k0_cond1 i = 1#1) (h2 : k0_cond2 k = 1#1) : SemLoc sig :=
  SemLoc.dma ((SemArray.slice cc0_scratch10 (Rect.unit (s := S2) (k0_off1 k) S1.size (k0_off1_inb i k h1 h2))).squeeze S_ squeezes_S1_S_).sem

/-- A block in flight into a slot, with the block of the weight it reads. -/
abbrev flying (c : Dev nD) (cell : SemLoc sig) (slot : Memref sig .tc .vmem S1280x256 .fp8e4m3) (src : Memref sig .tc .hbm S1280x256 .fp8e4m3)
    (f : Buf (Elt F) (slot.view.loc (c : Thread nD τ))) (fh : Buf (Elt F) (src.view.loc (c : Thread nD τ))) : sProp 𝕄 :=
  Transfers.Flight (countersEmb (U := Pipeline.UD sig nD τ) : UEmb Counters (MT nD τ sig Unit (Elt F) ℕ (Pipeline.UD sig nD τ) ℕ)) (c : Thread nD τ) cell () (slot.view.dmaCredit)
    iprop((slot.view.loc (c : Thread nD τ) ↦[slot.view.set]{fullShare} f) ∗ (src.view.loc (c : Thread nD τ) ↦[src.view.set]{fullShare} fh))
abbrev held {sp : Space} {s : Shape} {e : EltTy} (c : Dev nD) (r : Memref sig .tc sp s e) (f : Buf (Elt F) (r.view.loc (c : Thread nD τ))) : sProp 𝕄 :=
  iprop(r.view.loc (c : Thread nD τ) ↦[r.view.set]{fullShare} f)

theorem off8_eq (k : Fin k0_t1_loop.trips) : k0_off8 k = k0_off5 k := by
  revert k; decide +kernel

theorem access_sub (o o' : Fin 3 → ℕ) (e : o = o') (h) (h') :
    ((Memref.whole cc0_scratch2).access (Rect.unit (s := S2x1280x256) o S1x1280x256.size h)).set
      ⊆ (((Memref.whole cc0_scratch2).slice (Rect.unit (s := S2x1280x256) o' S1x1280x256.size h') (fun _ => rfl)).squeeze S1280x256 squeezes_S1x1280x256_S1280x256).view.set := by
  subst e; exact (View.set_reshape _ _).symm.subset

theorem loadW_sub (i : grid0.Coords) (k : Fin k0_t1_loop.trips) (h1 : k0_cond1 i = 1#1) :
    ((Memref.whole cc0_scratch2).access (Rect.unit (s := S2x1280x256) (k0_off8 k) S1x1280x256.size (k0_off8_inb i k h1))).set ⊆ (slotW i k h1).view.set :=
  access_sub _ _ (off8_eq k) _ _

/-- A trip that starts the next block: its own block has come in, the next is in flight. -/
theorem trip_mid (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1) (k : Fin k0_t1_loop.trips)
    (h2 : k0_cond2 k = 1#1) (X13 : BufTy.Contents (Elt F) arg13.view.ty) (W)
    (sW sI : Memref sig .tc .vmem S1280x256 .fp8e4m3) (bW bI : Memref sig .tc .hbm S1280x256 .fp8e4m3) (cW cI : SemLoc sig)
    (esW : slotW i k k0_h1 = sW) (esI : slotI i k k0_h1 h2 = sI) (ebW : srcW i k k0_h1 = bW) (ebI : srcI i k k0_h1 h2 = bI)
    (ecW : cellW i k k0_h1 = cW) (ecI : cellI i k k0_h1 h2 = cI)
    (f0 : Buf (Elt F) (sW.view.loc (c : Thread nD τ))) (f1 : Buf (Elt F) (sI.view.loc (c : Thread nD τ)))
    (fW : Buf (Elt F) (bW.view.loc (c : Thread nD τ))) (fI : Buf (Elt F) (bI.view.loc (c : Thread nD τ))) :
    iprop(flying c cW sW bW f0 fW ∗ held c sI f1 ∗ semVal ((c : Thread nD τ), cI) 0 ∗ held c bI fI
      ∗ owes (c : Thread nD τ) 0 W ∗ (arg13.view.loc (c : Thread nD τ) ↦[arg13.view.set]{fullShare} X13) ∗ (∃ f, (arg12.view.loc (c : Thread nD τ) ↦[arg12.view.set]{fullShare} f)))
    ⊢ wp frame (wpE (defs₀ (F := F)) Variants.none (c : Thread nD τ) none) Set.univ
        (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(held c sW f0 ∗ semVal ((c : Thread nD τ), cW) 0 ∗ held c bW fW
          ∗ (∃ f, flying c cI sI bI f fI)
          ∗ (∃ W, owes (c : Thread nD τ) 0 W) ∗ (arg13.view.loc (c : Thread nD τ) ↦[arg13.view.set]{fullShare} X13) ∗ (∃ f, (arg12.view.loc (c : Thread nD τ) ↦[arg12.view.set]{fullShare} f)))) := by
  subst esW esI ebW ebI ecW ecI
  have hS := loadW_sub i k k0_h1
  unfold k0_t1_body flying held
  iintro ⟨HF, H1, HV, HB, HO, H13, ⟨%f12, H12⟩⟩
  sl_exec
  sl_step
  isplitl [HF_dst]; · iexact HF_dst
  isplitl [HF]; · iexact HF
  isplitl [HF_src]; · iexact HF_src
  isplitl [HV]; · iexists _; iexact HV
  isplitl [HO]; · iexists _; iexact HO
  isplitl [H13]; · iexact H13
  iexists _; iexact H12

/-- The last trip starts nothing. -/
theorem trip_last (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1) (k : Fin k0_t1_loop.trips)
    (h2 : ¬ k0_cond2 k = 1#1) (X13 : BufTy.Contents (Elt F) arg13.view.ty) (W)
    (sW : Memref sig .tc .vmem S1280x256 .fp8e4m3) (bW : Memref sig .tc .hbm S1280x256 .fp8e4m3) (cW : SemLoc sig)
    (esW : slotW i k k0_h1 = sW) (ebW : srcW i k k0_h1 = bW) (ecW : cellW i k k0_h1 = cW)
    (f0 : Buf (Elt F) (sW.view.loc (c : Thread nD τ))) (fW : Buf (Elt F) (bW.view.loc (c : Thread nD τ))) :
    iprop(flying c cW sW bW f0 fW
      ∗ owes (c : Thread nD τ) 0 W ∗ (arg13.view.loc (c : Thread nD τ) ↦[arg13.view.set]{fullShare} X13) ∗ (∃ f, (arg12.view.loc (c : Thread nD τ) ↦[arg12.view.set]{fullShare} f)))
    ⊢ wp frame (wpE (defs₀ (F := F)) Variants.none (c : Thread nD τ) none) Set.univ
        (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(held c sW f0 ∗ semVal ((c : Thread nD τ), cW) 0 ∗ held c bW fW
          ∗ (∃ W, owes (c : Thread nD τ) 0 W) ∗ (arg13.view.loc (c : Thread nD τ) ↦[arg13.view.set]{fullShare} X13) ∗ (∃ f, (arg12.view.loc (c : Thread nD τ) ↦[arg12.view.set]{fullShare} f)))) := by
  subst esW ebW ecW
  have hS := loadW_sub i k k0_h1
  unfold k0_t1_body flying held
  iintro ⟨HF, HO, H13, ⟨%f12, H12⟩⟩
  sl_exec
  sl_step
  isplitl [HF_dst]; · iexact HF_dst
  isplitl [HF]; · iexact HF
  isplitl [HF_src]; · iexact HF_src
  isplitl [HO]; · iexists _; iexact HO
  isplitl [H13]; · iexact H13
  iexists _; iexact H12

/-! The same accesses by slot and block number. -/

theorem slot_inb (p : Fin 2) : ∀ a, (![p.val, 0, 0] : Fin 3 → ℕ) a + S1x1280x256.size a ≤ S2x1280x256.size a := by
  revert p; decide
theorem blk_inb (k : Fin 20) : ∀ a, (![0, 256 * k.val] : Fin 2 → ℕ) a + S1280x256.size a ≤ S1280x5120.size a := by
  revert k; decide
theorem cell_inb (p : Fin 2) : ∀ a, (![p.val] : Fin 1 → ℕ) a + S1.size a ≤ S2.size a := by
  revert p; decide
def slotAt (p : Fin 2) : Memref sig .tc .vmem S1280x256 .fp8e4m3 :=
  ((Memref.whole cc0_scratch2).slice (Rect.unit (s := S2x1280x256) ![p.val, 0, 0] S1x1280x256.size (slot_inb p)) (fun _ => rfl)).squeeze S1280x256 squeezes_S1x1280x256_S1280x256
def blkAt (k : Fin 20) : Memref sig .tc .hbm S1280x256 .fp8e4m3 :=
  (Memref.whole main_arg3).slice (Rect.unit (s := S1280x5120) ![0, 256 * k.val] S1280x256.size (blk_inb k)) (fun _ => rfl)
def cellAt (p : Fin 2) : SemLoc sig :=
  SemLoc.dma ((SemArray.slice cc0_scratch10 (Rect.unit (s := S2) ![p.val] S1.size (cell_inb p))).squeeze S_ squeezes_S1_S_).sem
theorem cellAt_0 : cellAt 0 = SemLoc.dma 18 := rfl
theorem cellAt_1 : cellAt 1 = SemLoc.dma 19 := rfl

theorem slot_congr {o o' : Fin 3 → ℕ} (e : o = o') (h) (h') :
    ((Memref.whole cc0_scratch2).slice (Rect.unit (s := S2x1280x256) o S1x1280x256.size h) (fun _ => rfl)).squeeze S1280x256 squeezes_S1x1280x256_S1280x256
    = ((Memref.whole cc0_scratch2).slice (Rect.unit (s := S2x1280x256) o' S1x1280x256.size h') (fun _ => rfl)).squeeze S1280x256 squeezes_S1x1280x256_S1280x256 := by
  subst e; rfl
theorem blk_congr {o o' : Fin 2 → ℕ} (e : o = o') (h) (h') :
    ((Memref.whole main_arg3).slice (Rect.unit (s := S1280x5120) o S1280x256.size h) (fun _ => rfl) : Memref sig .tc .hbm S1280x256 .fp8e4m3)
    = (Memref.whole main_arg3).slice (Rect.unit (s := S1280x5120) o' S1280x256.size h') (fun _ => rfl) := by
  subst e; rfl
theorem cell_congr {o o' : Fin 1 → ℕ} (e : o = o') (h) (h') :
    (SemLoc.dma ((SemArray.slice cc0_scratch10 (Rect.unit (s := S2) o S1.size h)).squeeze S_ squeezes_S1_S_).sem : SemLoc sig)
    = SemLoc.dma ((SemArray.slice cc0_scratch10 (Rect.unit (s := S2) o' S1.size h')).squeeze S_ squeezes_S1_S_).sem := by
  subst e; rfl

def par (n : ℕ) : Fin 2 := ⟨n % 2, Nat.mod_lt _ (by decide)⟩

theorem trips1 : k0_t1_loop.trips = 20 := by decide +kernel
theorem off5_par (k : Fin k0_t1_loop.trips) : k0_off5 k = ![(par k.val).val, 0, 0] := by revert k; decide +kernel
theorem off2_par (k : Fin k0_t1_loop.trips) : k0_off2 k = ![(par (k.val + 1)).val, 0, 0] := by revert k; decide +kernel
theorem off4_par (k : Fin k0_t1_loop.trips) : k0_off4 k = ![(par k.val).val] := by revert k; decide +kernel
theorem off1_par (k : Fin k0_t1_loop.trips) : k0_off1 k = ![(par (k.val + 1)).val] := by revert k; decide +kernel
theorem cond2_iff (k : Fin k0_t1_loop.trips) : k0_cond2 k = 1#1 ↔ k.val + 1 < 20 := by revert k; decide +kernel

theorem slotW_eq (i : grid0.Coords) (k : Fin k0_t1_loop.trips) (h1 : k0_cond1 i = 1#1) : slotW i k h1 = slotAt (par k.val) :=
  slot_congr (off5_par k) _ _
theorem slotI_eq (i : grid0.Coords) (k : Fin k0_t1_loop.trips) (h1 : k0_cond1 i = 1#1) (h2 : k0_cond2 k = 1#1) : slotI i k h1 h2 = slotAt (par (k.val + 1)) :=
  slot_congr (off2_par k) _ _
theorem cellW_eq (i : grid0.Coords) (k : Fin k0_t1_loop.trips) (h1 : k0_cond1 i = 1#1) : cellW i k h1 = cellAt (par k.val) :=
  cell_congr (off4_par k) _ _
theorem cellI_eq (i : grid0.Coords) (k : Fin k0_t1_loop.trips) (h1 : k0_cond1 i = 1#1) (h2 : k0_cond2 k = 1#1) : cellI i k h1 h2 = cellAt (par (k.val + 1)) :=
  cell_congr (off1_par k) _ _
theorem srcW_eq (i : grid0.Coords) (k : Fin k0_t1_loop.trips) (h1 : k0_cond1 i = 1#1) (hk : k.val < 20) : srcW i k h1 = blkAt ⟨k.val, hk⟩ :=
  blk_congr (k0_off6_eq k) _ _
theorem srcI_eq (i : grid0.Coords) (k : Fin k0_t1_loop.trips) (h1 : k0_cond1 i = 1#1) (h2 : k0_cond2 k = 1#1) (hk : k.val + 1 < 20) :
    srcI i k h1 h2 = blkAt ⟨k.val + 1, hk⟩ :=
  blk_congr (by rw [k0_off3_eq k]; rfl) _ _

theorem blk_disj {k k' : Fin 20} (h : k ≠ k') : Disjoint (blkAt k).view.set (blkAt k').view.set := by
  refine View.disjoint_slice_of_sep (Memref.whole main_arg3).view _ _ 1 rfl rfl ?_
  have h' : k.val ≠ k'.val := fun e => h (Fin.ext e)
  show 256 * k.val + 256 ≤ 256 * k'.val ∨ 256 * k'.val + 256 ≤ 256 * k.val
  omega
theorem slot_disj : Disjoint (slotAt 0).view.set (slotAt 1).view.set := by
  refine (Finset.disjoint_of_subset_left (View.set_reshape _ _).subset (Finset.disjoint_of_subset_right (View.set_reshape _ _).subset ?_))
  exact View.disjoint_slice_of_sep (Memref.whole cc0_scratch2).view _ _ 0 rfl rfl (Or.inl (by decide))

/-- The weight where it lies, held on `S`. -/
abbrev wcOn (c : Dev nD) (S : Finset (Idx ((c : Thread nD τ).loc main_arg3))) (fh : Buf (Elt F) ((c : Thread nD τ).loc main_arg3)) : sProp 𝕄 :=
  iprop((c : Thread nD τ).loc main_arg3 ↦[S]{fullShare} fh)

/-- Before trip `n`: block `n` in flight into its slot, the other slot and its cell at rest, the rest of the weight here;
    after the last trip everything at rest. -/
def ring1 (c : Dev nD) (fh : Buf (Elt F) ((c : Thread nD τ).loc main_arg3)) (n : ℕ) : sProp 𝕄 :=
  if h : n < 20 then
    iprop(∃ f0 f1, flying c (cellAt (par n)) (slotAt (par n)) (blkAt ⟨n, h⟩) f0 fh ∗ held c (slotAt (par (n + 1))) f1
      ∗ semVal ((c : Thread nD τ), cellAt (par (n + 1))) 0 ∗ wcOn c (Finset.univ \ (blkAt ⟨n, h⟩).view.set) fh)
  else
    iprop(∃ f0 f1, held c (slotAt 0) f0 ∗ held c (slotAt 1) f1
      ∗ semVal ((c : Thread nD τ), cellAt 0) 0 ∗ semVal ((c : Thread nD τ), cellAt 1) 0 ∗ wcOn c Finset.univ fh)

theorem wc_join (c : Dev nD) (fh : Buf (Elt F) ((c : Thread nD τ).loc main_arg3)) (k : Fin 20) :
    iprop(held c (blkAt k) fh ∗ wcOn c (Finset.univ \ (blkAt k).view.set) fh) ⊢ wcOn c Finset.univ fh :=
  (pointsTo_split_subset (Finset.subset_univ (blkAt k).view.set)).2
theorem wc_split (c : Dev nD) (fh : Buf (Elt F) ((c : Thread nD τ).loc main_arg3)) (k : Fin 20) :
    wcOn c Finset.univ fh ⊢ iprop(held c (blkAt k) fh ∗ wcOn c (Finset.univ \ (blkAt k).view.set) fh) :=
  (pointsTo_split_subset (Finset.subset_univ (blkAt k).view.set)).1
theorem blk_sub {k k' : Fin 20} (h : k ≠ k') : (blkAt k').view.set ⊆ Finset.univ \ (blkAt k).view.set :=
  fun _ hx => Finset.mem_sdiff.2 ⟨Finset.mem_univ _, fun hx' => Finset.disjoint_left.1 (blk_disj (k := k) (k' := k') h) hx' hx⟩
theorem wc_next (c : Dev nD) (fh : Buf (Elt F) ((c : Thread nD τ).loc main_arg3)) {k k' : Fin 20} (h : k ≠ k') :
    wcOn c (Finset.univ \ (blkAt k).view.set) fh ⊢ iprop(held c (blkAt k') fh ∗ wcOn c ((Finset.univ \ (blkAt k).view.set) \ (blkAt k').view.set) fh) :=
  (pointsTo_split_subset (blk_sub h)).1
theorem sdiff_swap {α : Type*} [DecidableEq α] (U A B : Finset α) : (U \ A) \ B = (U \ B) \ A := by
  ext x; simp only [Finset.mem_sdiff]; tauto
theorem wc_back (c : Dev nD) (fh : Buf (Elt F) ((c : Thread nD τ).loc main_arg3)) {k k' : Fin 20} (h : k ≠ k') :
    iprop(held c (blkAt k) fh ∗ wcOn c ((Finset.univ \ (blkAt k).view.set) \ (blkAt k').view.set) fh) ⊢ wcOn c (Finset.univ \ (blkAt k').view.set) fh := by
  have e : wcOn (F := F) c ((Finset.univ \ (blkAt k).view.set) \ (blkAt k').view.set) fh = wcOn c ((Finset.univ \ (blkAt k').view.set) \ (blkAt k).view.set) fh :=
    congrArg (fun S => wcOn (F := F) c S fh) (sdiff_swap _ _ _)
  iintro ⟨H, HR⟩
  iapply (pointsTo_split_subset (blk_sub h.symm)).2
  isplitl [H]; · iexact H
  iapply (Idealize.SL.BI.BIBase.Entails.of_eq e); iexact HR

theorem step1 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (X13 : BufTy.Contents (Elt F) arg13.view.ty) (k : Fin k0_t1_loop.trips) :
    iprop(ring1 c fh k.val ∗ (∃ W, owes (c : Thread nD τ) 0 W) ∗ (arg13.view.loc (c : Thread nD τ) ↦[arg13.view.set]{fullShare} X13) ∗ (∃ f, (arg12.view.loc (c : Thread nD τ) ↦[arg12.view.set]{fullShare} f)))
    ⊢ wp frame (wpE (defs₀ (F := F)) Variants.none (c : Thread nD τ) none) Set.univ
        (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(ring1 c fh (k.val + 1) ∗ (∃ W, owes (c : Thread nD τ) 0 W) ∗ (arg13.view.loc (c : Thread nD τ) ↦[arg13.view.set]{fullShare} X13) ∗ (∃ f, (arg12.view.loc (c : Thread nD τ) ↦[arg12.view.set]{fullShare} f)))) := by
  have hk : k.val < 20 := trips1 ▸ k.isLt
  by_cases h : k.val + 1 < 20
  · have h2 := (cond2_iff k).2 h
    have hne : (⟨k.val, hk⟩ : Fin 20) ≠ ⟨k.val + 1, h⟩ := fun e => by have := congrArg Fin.val e; simp at this
    unfold ring1
    rw [dif_pos hk, dif_pos h]
    iintro ⟨⟨%f0, %f1, HF, H1, HV, HR⟩, ⟨%W, HO⟩, H13, H12⟩
    ihave HR' := (wc_next c fh hne) $$ HR
    icases HR' with ⟨HB, HR⟩
    iapply (wp_wand_r Idealize.ShloMosaic.frame (wpE (defs₀ (F := F)) Variants.none (c : Thread nD τ) none) Set.univ)
    isplitl [HF H1 HV HB HO H13 H12]
    · iapply (trip_mid (F := F) c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 k h2 X13 W _ _ _ _ _ _ (slotW_eq i k k0_h1) (slotI_eq i k k0_h1 h2) (srcW_eq i k k0_h1 hk) (srcI_eq i k k0_h1 h2 h) (cellW_eq i k k0_h1) (cellI_eq i k k0_h1 h2) f0 f1 fh fh)
      isplitl [HF]; · iexact HF
      isplitl [H1]; · iexact H1
      isplitl [HV]; · iexact HV
      isplitl [HB]; · iexact HB
      isplitl [HO]; · iexact HO
      isplitl [H13]; · iexact H13
      iexact H12
    · rw [show par (k.val + 1 + 1) = par k.val from by unfold par; ext; show (k.val + 1 + 1) % 2 = k.val % 2; omega]
      iintro %_ ⟨H0, HV, HB, ⟨%f, HF⟩, HO, H13, H12⟩
      ihave HR' := (wc_back c fh hne) $$ [HB HR]
      · isplitl [HB]; · iexact HB
        iexact HR
      isplitl [H0 HV HF HR']
      · iexists f; iexists f0
        isplitl [HF]; · iexact HF
        isplitl [H0]; · iexact H0
        isplitl [HV]; · iexact HV
        iexact HR'
      isplitl [HO]; · iexact HO
      isplitl [H13]; · iexact H13
      iexact H12
  · have h2 : ¬ k0_cond2 k = 1#1 := fun e => h ((cond2_iff k).1 e)
    have e19 : k.val = 19 := by omega
    unfold ring1
    rw [dif_pos hk, dif_neg h]
    have p1 : par k.val = 1 := by rw [e19]; rfl
    have p0 : par (k.val + 1) = 0 := by rw [e19]; rfl
    rw [p0, p1]
    iintro ⟨⟨%f0, %f1, HF, H1, HV, HR⟩, ⟨%W, HO⟩, H13, H12⟩
    iapply (wp_wand_r Idealize.ShloMosaic.frame (wpE (defs₀ (F := F)) Variants.none (c : Thread nD τ) none) Set.univ)
    isplitl [HF HO H13 H12]
    · iapply (trip_last (F := F) c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 k h2 X13 W _ _ _ ((slotW_eq i k k0_h1).trans (congrArg slotAt p1)) (srcW_eq i k k0_h1 hk) ((cellW_eq i k k0_h1).trans (congrArg cellAt p1)) f0 fh)
      isplitl [HF]; · iexact HF
      isplitl [HO]; · iexact HO
      isplitl [H13]; · iexact H13
      iexact H12
    · iintro %_ ⟨H0, HV', HB, HO, H13, H12⟩
      ihave HR' := (wc_join c fh ⟨k.val, hk⟩) $$ [HB HR]
      · isplitl [HB]; · iexact HB
        iexact HR
      isplitl [H0 H1 HV HV' HR']
      · iexists f1; iexists f0
        isplitl [H1]; · iexact H1
        isplitl [H0]; · iexact H0
        isplitl [HV]; · iexact HV
        isplitl [HV']; · iexact HV'
        iexact HR'
      isplitl [HO]; · iexact HO
      isplitl [H13]; · iexact H13
      iexact H12

end Cert.Kernel.Hand

end
-- ==== Proof.KernelLoopsB.lean ====
module

public import proofs.«01_k».proof.Proof.KernelLoopsA

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

/-- The resource algebra: the pipeline's, with the counters of the kernel's own transfers. -/
local notation "𝕄" => MT nD τ sig Unit (Elt F) ℕ (Pipeline.UD sig nD τ) ℕ

set_option warn.classDefReducibility false in
/-- One trip leaves what it only reads as it was, and what it writes at some contents. -/
@[sl_loop] def loop4 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (arg23 : BitVec 32) (X1 : BufTy.Contents (Elt F) arg1.view.ty) (X17 : BufTy.Contents (Elt F) arg17.view.ty) :
    LoopInvTy_k0_t4 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 arg23 where
  inv := fun _ _ => iprop((arg1.view.loc (c : Thread nD τ) ↦[arg1.view.set]{fullShare} X1) ∗ (arg17.view.loc (c : Thread nD τ) ↦[arg17.view.set]{fullShare} X17) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, H17, ⟨%f7, H7⟩, ⟨%f8, H8⟩, ⟨%f10, H10⟩, ⟨%f15, H15⟩, ⟨%f16, H16⟩, ⟨%f20, H20⟩, ⟨%f21, H21⟩⟩
    unfold k0_t4_body
    sl_exec
    sl_step
    isplitl [H1]; · iexact H1
    isplitl [H17]; · iexact H17
    isplitl [H7]; · iexists _; iexact H7
    isplitl [H8]; · iexists _; iexact H8
    isplitl [H10]; · iexists _; iexact H10
    isplitl [H15]; · iexists _; iexact H15
    isplitl [H16]; · iexists _; iexact H16
    isplitl [H20]; · iexists _; iexact H20
    iexists _; iexact H21

set_option warn.classDefReducibility false in
/-- One trip leaves what it only reads as it was, and what it writes at some contents. -/
@[sl_loop] def loop3 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (c0_i32_29 : BitVec 32) (X1 : BufTy.Contents (Elt F) arg1.view.ty) (X17 : BufTy.Contents (Elt F) arg17.view.ty) (X12 : BufTy.Contents (Elt F) arg12.view.ty) :
    LoopInvTy_k0_t3 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 c0_i32_29 where
  inv := fun _ _ => iprop((arg1.view.loc (c : Thread nD τ) ↦[arg1.view.set]{fullShare} X1) ∗ (arg17.view.loc (c : Thread nD τ) ↦[arg17.view.set]{fullShare} X17) ∗ (arg12.view.loc (c : Thread nD τ) ↦[arg12.view.set]{fullShare} X12) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg18.view.loc (c : Thread nD τ) ↦[arg18.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, H17, H12, ⟨%f6, H6⟩, ⟨%f7, H7⟩, ⟨%f8, H8⟩, ⟨%f10, H10⟩, ⟨%f15, H15⟩, ⟨%f16, H16⟩, ⟨%f18, H18⟩, ⟨%f20, H20⟩, ⟨%f21, H21⟩⟩
    unfold k0_t3_body
    sl_exec
    sl_step
    isplitl [H1]; · iexact H1
    isplitl [H17]; · iexact H17
    isplitl [H12]; · iexact H12
    isplitl [H6]; · iexists _; iexact H6
    isplitl [H7]; · iexists _; iexact H7
    isplitl [H8]; · iexists _; iexact H8
    isplitl [H10]; · iexists _; iexact H10
    isplitl [H15]; · iexists _; iexact H15
    isplitl [H16]; · iexists _; iexact H16
    isplitl [H18]; · iexists _; iexact H18
    isplitl [H20]; · iexists _; iexact H20
    iexists _; iexact H21

end Cert.Kernel.Hand

end
-- ==== Proof.KernelBody.lean ====
module

public import proofs.«01_k».proof.Proof.KernelT1
public import proofs.«01_k».proof.Proof.KernelLoopsB

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

/-- The resource algebra: the pipeline's, with the counters of the kernel's own transfers. -/
local notation "𝕄" => MT nD τ sig Unit (Elt F) ℕ (Pipeline.UD sig nD τ) ℕ

/-! The first transfer's ends, as the program spells them. -/
abbrev slot0 : Memref sig .tc .vmem S1280x256 .fp8e4m3 :=
  ((Memref.whole cc0_scratch2).slice (Rect.unit (s := S2x1280x256) ![0, 0, 0] S1x1280x256.size inb_S2x1280x256_S1x1280x256_0_0_0) (fun _ => rfl)).squeeze S1280x256 squeezes_S1x1280x256_S1280x256
abbrev blk0 : Memref sig .tc .hbm S1280x256 .fp8e4m3 :=
  (Memref.whole main_arg3).slice (Rect.unit (s := S1280x5120) ![0, 0] S1280x256.size inb_S1280x5120_S1280x256_0_0) (fun _ => rfl)
abbrev cell0 : SemLoc sig :=
  SemLoc.dma ((SemArray.slice cc0_scratch10 (Rect.unit (s := S2) ![0] S1.size inb_S2_S1_0)).squeeze S_ squeezes_S1_S_).sem

/-- The two slots of the staging buffer, each at some contents. -/
def slots (c : Dev nD) : sProp 𝕄 := iprop((∃ f, held (F := F) c (slotAt 0) f) ∗ (∃ f, held (F := F) c (slotAt 1) f))

def inv1 (c : Dev nD) (fh : Buf (Elt F) ((c : Thread nD τ).loc main_arg3)) {arg12 : Memref sig .tc .vmem S5120x1280 .bf16} {arg13 : Memref sig .tc .vmem S160x1280 .f32} (X13 : BufTy.Contents (Elt F) arg13.view.ty) (n : ℕ) : sProp 𝕄 :=
  iprop(ring1 c fh n ∗ (∃ W, owes (c : Thread nD τ) 0 W) ∗ (arg13.view.loc (c : Thread nD τ) ↦[arg13.view.set]{fullShare} X13) ∗ (∃ f, (arg12.view.loc (c : Thread nD τ) ↦[arg12.view.set]{fullShare} f)))

/-- The loop over the weight's blocks, by its ring. -/
theorem wp_t1 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (X13 : BufTy.Contents (Elt F) arg13.view.ty)
    {β : Type} (kk : Unit → Prog (TpuEff nD τ sig (Elt F) Λ₀ .tc) β) (Q : β → sProp 𝕄) :
    inv1 c fh (arg12 := arg12) X13 0
    ⊢ iprop((∀ acc : Unit, inv1 c fh (arg12 := arg12) X13 20 -∗ wp frame (wpE (defs₀ (F := F)) Variants.none (c : Thread nD τ) none) Set.univ (kk acc) Q)
      -∗ wp frame (wpE (defs₀ (F := F)) Variants.none (c : Thread nD τ) none) Set.univ
        (Scf.Loop.for k0_t1_loop (k0_t1_ok i k0_h1) ⟨⟩ (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1) >>= kk) Q) :=
  Scf.wp_for_bind Idealize.ShloMosaic.frame _ _ _ _ _ _ _ _ (fun n _ => inv1 c fh (arg12 := arg12) X13 n)
    (fun k _ => step1 c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fh X13 k)

theorem part42_core (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (fb : Buf (Elt F) (blk0.view.loc (c : Thread nD τ))) (efb : fb = fh)
    (fs0 : Buf (Elt F) (slot0.view.loc (c : Thread nD τ))) (fs1 : Buf (Elt F) ((slotAt 1).view.loc (c : Thread nD τ)))
    (X1 : BufTy.Contents (Elt F) arg1.view.ty) (X4 : BufTy.Contents (Elt F) arg4.view.ty) (W) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ held c slot0 fs0 ∗ held c (slotAt 1) fs1
      ∗ semVal ((c : Thread nD τ), cell0) 0 ∗ semVal ((c : Thread nD τ), cellAt 1) 0 ∗ held c blk0 fb ∗ wcOn c (Finset.univ \ (blkAt 0).view.set) fh
      ∗ owes (c : Thread nD τ) 0 W)
    ⊢ wp frame (wpE (defs₀ (F := F)) Variants.none (c : Thread nD τ) none) Set.univ
        (k0_part42 (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1)
        (fun _ => iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))) := by
  rw [k0_part42_eq_skeleton]; unfold k0_part42_skel
  iintro ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, HS0, HS1, HV0, HV1, HB, HR, HO⟩
  subst efb
  sl_exec
  ihave HX := (wp_t1 c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fb _ _ _) $$ [HV0 HS1 HV1 HR HO H13 H12]
  · unfold inv1 ring1
    rw [dif_pos (show 0 < 20 by decide)]
    isplitl [HV0 HS1 HV1 HR]
    · iexists _; iexists _
      isplitl [HV0]; · iexact HV0
      isplitl [HS1]; · iexact HS1
      isplitl [HV1]; · iexact HV1
      iexact HR
    isplitl [HO]; · iexists _; iexact HO
    isplitl [H13]; · iexact H13
    iexists _; iexact H12
  iapply HX
  iintro %_ HI
  unfold inv1 ring1
  rw [dif_neg (show ¬ 20 < 20 by decide)]
  icases HI with ⟨⟨%g0, %g1, HS0, HS1, HV0, HV1, HC⟩, ⟨%W', HO⟩, H13, ⟨%f12', H12⟩⟩
  sl_exec
  sl_step
  unfold slots
  isplitl [H1]; · iexact H1
  isplitl [H4]; · iexact H4
  isplitl [H7]; · iexists _; iexact H7
  isplitl [H8]; · iexists _; iexact H8
  isplitl [H10]; · iexists _; iexact H10
  isplitl [H12]; · iexists _; iexact H12
  isplitl [H13]; · iexists _; iexact H13
  isplitl [H15]; · iexists _; iexact H15
  isplitl [H16]; · iexists _; iexact H16
  isplitl [H20]; · iexists _; iexact H20
  isplitl [H21]; · iexists _; iexact H21
  isplitl [HS0 HS1]
  · isplitl [HS0]; · iexists _; iexact HS0
    iexists _; iexact HS1
  isplitl [HV0]; · iexact HV0
  isplitl [HV1]; · iexact HV1
  isplitl [HC]; · iexact HC
  iexists _; iexact HO

theorem part42_run (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (X1 : BufTy.Contents (Elt F) arg1.view.ty) (X4 : BufTy.Contents (Elt F) arg4.view.ty) (W) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots (F := F) c
      ∗ semVal ((c : Thread nD τ), cellAt 0) 0 ∗ semVal ((c : Thread nD τ), cellAt 1) 0 ∗ wcOn c Finset.univ fh ∗ owes (c : Thread nD τ) 0 W)
    ⊢ wp frame (wpE (defs₀ (F := F)) Variants.none (c : Thread nD τ) none) Set.univ
        (k0_part42 (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1)
        (fun _ => iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))) := by
  iintro ⟨H1, H4, H7, H8, H10, H12, H13, H15, H16, H20, H21, HS, HV0, HV1, HC, HO⟩
  unfold slots
  icases HS with ⟨⟨%fs0, HS0⟩, ⟨%fs1, HS1⟩⟩
  ihave HC' := (wc_split c fh 0) $$ HC
  icases HC' with ⟨HB, HR⟩
  iapply (part42_core c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fh fh rfl fs0 fs1 X1 X4 W)
  isplitl [H1]; · iexact H1
  isplitl [H4]; · iexact H4
  isplitl [H7]; · iexact H7
  isplitl [H8]; · iexact H8
  isplitl [H10]; · iexact H10
  isplitl [H12]; · iexact H12
  isplitl [H13]; · iexact H13
  isplitl [H15]; · iexact H15
  isplitl [H16]; · iexact H16
  isplitl [H20]; · iexact H20
  isplitl [H21]; · iexact H21
  isplitl [HS0]; · iexact HS0
  isplitl [HS1]; · iexact HS1
  isplitl [HV0]; · iexact HV0
  isplitl [HV1]; · iexact HV1
  isplitl [HB]; · iexact HB
  isplitl [HR]; · iexact HR
  iexact HO

theorem cond_or (i : grid0.Coords) : (k0_cond1 i = 1#1 ∧ ¬ k0_cond3 i = 1#1) ∨ (¬ k0_cond1 i = 1#1 ∧ k0_cond3 i = 1#1) := by
  unfold k0_cond1 k0_cond3
  generalize i 0 = n
  revert n; decide +kernel

theorem body_first (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (h1 : k0_cond1 i = 1#1) (h3 : ¬ k0_cond3 i = 1#1)
    (fh : Buf (Elt F) ((c : Thread nD τ).loc main_arg3)) (X1 : BufTy.Contents (Elt F) arg1.view.ty) (X4 : BufTy.Contents (Elt F) arg4.view.ty) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg9.view.loc (c : Thread nD τ) ↦[arg9.view.set]{fullShare} f)) ∗ (∃ f, (arg11.view.loc (c : Thread nD τ) ↦[arg11.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))
    ⊢ wp frame (wpE (defs₀ (F := F)) Variants.none (c : Thread nD τ) none) Set.univ
        (cc0_mx_backward (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10)
        (fun _ => iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg9.view.loc (c : Thread nD τ) ↦[arg9.view.set]{fullShare} f)) ∗ (∃ f, (arg11.view.loc (c : Thread nD τ) ↦[arg11.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))) := by
  rw [cc0_mx_backward_eq_skeleton]; unfold cc0_mx_backward_skel
  rw [dif_pos h1, dif_neg h3]
  iintro ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, ⟨%f9, H9⟩, ⟨%f11, H11⟩, HS, HV0, HV1, HC, ⟨%W, HO⟩⟩
  rw [wp_bind]
  iapply (wp_wand_r Idealize.ShloMosaic.frame (wpE (defs₀ (F := F)) Variants.none (c : Thread nD τ) none) Set.univ)
  isplitl [H1 H4 H7 H8 H10 H12 H13 H15 H16 H20 H21 HS HV0 HV1 HC HO]
  · iapply (part42_run c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  _ h1 fh X1 X4 W)
    isplitl [H1]; · iexact H1
    isplitl [H4]; · iexact H4
    isplitl [H7]; · iexists _; iexact H7
    isplitl [H8]; · iexists _; iexact H8
    isplitl [H10]; · iexists _; iexact H10
    isplitl [H12]; · iexists _; iexact H12
    isplitl [H13]; · iexists _; iexact H13
    isplitl [H15]; · iexists _; iexact H15
    isplitl [H16]; · iexists _; iexact H16
    isplitl [H20]; · iexists _; iexact H20
    isplitl [H21]; · iexists _; iexact H21
    isplitl [HS]; · iexact HS
    isplitl [HV0]; · iexact HV0
    isplitl [HV1]; · iexact HV1
    isplitl [HC]; · iexact HC
    iexact HO
  iintro %v ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, HS, HV0, HV1, HC, HO⟩
  sl_exec
  sl_step
  isplitl [H1]; · iexact H1
  isplitl [H4]; · iexact H4
  isplitl [H7]; · iexists _; iexact H7
  isplitl [H8]; · iexists _; iexact H8
  isplitl [H10]; · iexists _; iexact H10
  isplitl [H12]; · iexists _; iexact H12
  isplitl [H13]; · iexists _; iexact H13
  isplitl [H15]; · iexists _; iexact H15
  isplitl [H16]; · iexists _; iexact H16
  isplitl [H20]; · iexists _; iexact H20
  isplitl [H21]; · iexists _; iexact H21
  isplitl [H9]; · iexists _; iexact H9
  isplitl [H11]; · iexists _; iexact H11
  isplitl [HS]; · iexact HS
  isplitl [HV0]; · iexact HV0
  isplitl [HV1]; · iexact HV1
  isplitl [HC]; · iexact HC
  iexact HO

theorem off21_eq (i : grid0.Coords) : k0_off21 i = ![8 * (((i 0).val + 3) % 4), 0] := by
  unfold k0_off21
  generalize i 0 = n
  revert n; decide +kernel
instance closed21 (i : grid0.Coords) : ClosedOff (k0_off21 i) := ⟨![8 * (((i 0).val + 3) % 4), 0], off21_eq i⟩

theorem body_later (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (h1 : ¬ k0_cond1 i = 1#1) (h3 : k0_cond3 i = 1#1)
    (X1 : BufTy.Contents (Elt F) arg1.view.ty) (X2 : BufTy.Contents (Elt F) arg2.view.ty) (X3 : BufTy.Contents (Elt F) arg3.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f))) : sProp 𝕄)
    ⊢ wp frame (wpE (defs₀ (F := F)) Variants.none (c : Thread nD τ) none) Set.univ
        (cc0_mx_backward (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)))) := by
  rw [cc0_mx_backward_eq_skeleton]; unfold cc0_mx_backward_skel
  rw [dif_neg h1, dif_pos h3]
  iintro ⟨H1, H2, H3, ⟨%f6, H6⟩, ⟨%f7, H7⟩, ⟨%f8, H8⟩, ⟨%f9, H9⟩, ⟨%f10, H10⟩, ⟨%f11, H11⟩, ⟨%f12, H12⟩, ⟨%f15, H15⟩, ⟨%f16, H16⟩, ⟨%f17, H17⟩, ⟨%f18, H18⟩, ⟨%f19, H19⟩, ⟨%f20, H20⟩, ⟨%f21, H21⟩⟩
  sl_exec
  sl_step
  isplitl [H1]; · iexact H1
  isplitl [H2]; · iexact H2
  isplitl [H3]; · iexact H3
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.Kernel.Hand

end
-- ==== Proof.KernelHand.lean ====
module

public import proofs.«01_k».proof.Proof.KernelBody
public import proofs.«01_k».proof.Proof.Gen.Kernel.Frame
public import Idealize.ShloMosaic.Lib.Pipeline.FrameSuffixR
public import Idealize.ShloMosaic.Adequacy
public import Idealize.ShloMosaic.Init

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

/-- The resource algebra: the pipeline's, with the counters of the kernel's own transfers. -/
local notation "𝕄" => MT nD τ sig Unit (Elt F) ℕ (Pipeline.UD sig nD τ) ℕ

variable (m : (ℓ : Loc nD τ sig) → Buf (Elt F) ℓ) (ρ : Dev nD → PrngReg)

/-- The two semaphores of the kernel's own transfers. -/
abbrev osem0 : Fin 2 → SemLoc sig := fun j => (![SemLoc.dma 18, SemLoc.dma 19] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0) := by
  rw [Pipeline.ownSems0_eq_of_list c osem0 [0, 1] (by decide) (by decide)]; rfl
/-- The weight codes, read where they lie. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c : Thread nD τ).loc main_arg3 ↦{fullShare} V m c main_arg3) := by
  rw [BI.bigSep_eq_bigSepL_of_eq [main_arg3] (by decide) (by decide)]; rfl

theorem PhiD0_eq (c : Dev nD) :
    (Pipeline.ΦD osem0 spec0 H0 (V m) c : sProp 𝕄)
      = iprop(iprop((∃ d, owns (c : Thread nD τ) (Memref.whole cc0_scratch0) fullShare d) ∗ (∃ d, owns (c : Thread nD τ) (Memref.whole cc0_scratch1) fullShare d) ∗ (∃ f : Buf (Elt F) ((c : Thread nD τ).loc cc0_scratch2), (c : Thread nD τ).loc cc0_scratch2 ↦{fullShare} f) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d))
          ∗ (∃ r, prngReg c r)
          ∗ iprop(semVal ((c : Thread nD τ), SemLoc.dma 18) 0 ∗ semVal ((c : Thread nD τ), SemLoc.dma 19) 0)
          ∗ iprop((c : Thread nD τ).loc main_arg3 ↦{fullShare} V m c main_arg3)) := by
  rw [Pipeline.ΦD_eq, scopedRest0_eq, ownSems00_eq, hbmPts0_eq]
  simp only [owns_whole]; try rfl

/-- The staging buffer is its two slots and what lies beside them. -/
theorem slots_open (c : Dev nD) :
    iprop(∃ f : Buf (Elt F) ((c : Thread nD τ).loc cc0_scratch2), (c : Thread nD τ).loc cc0_scratch2 ↦{fullShare} f)
    ⊢ (iprop(slots c ∗ (∃ f : Buf (Elt F) ((c : Thread nD τ).loc cc0_scratch2), (c : Thread nD τ).loc cc0_scratch2 ↦[(Finset.univ \ (slotAt 0).view.set) \ (slotAt 1).view.set]{fullShare} f)) : sProp 𝕄) := by
  iintro ⟨%f, H⟩
  ihave H' := ((pointsTo_split_subset (I := (slotAt 0).view.set) (Finset.subset_univ _)).1) $$ H
  icases H' with ⟨H0, HR⟩
  ihave H' := ((pointsTo_split_subset (ℓ := (c : Thread nD τ).loc cc0_scratch2) (q := fullShare) (f := f) (I := (slotAt 1).view.set) (S := Finset.univ \ (slotAt 0).view.set) (Finset.subset_sdiff.mpr ⟨Finset.subset_univ _, slot_disj.symm⟩)).1) $$ HR
  icases H' with ⟨H1, HR⟩
  unfold slots
  isplitl [H0 H1]
  · isplitl [H0]; · iexists _; iexact H0
    iexists _; iexact H1
  iexists _; iexact HR
theorem slots_close (c : Dev nD) :
    (iprop(slots c ∗ (∃ f : Buf (Elt F) ((c : Thread nD τ).loc cc0_scratch2), (c : Thread nD τ).loc cc0_scratch2 ↦[(Finset.univ \ (slotAt 0).view.set) \ (slotAt 1).view.set]{fullShare} f)) : sProp 𝕄)
    ⊢ iprop(∃ f : Buf (Elt F) ((c : Thread nD τ).loc cc0_scratch2), (c : Thread nD τ).loc cc0_scratch2 ↦{fullShare} f) := by
  unfold slots
  iintro ⟨⟨⟨%f0, H0⟩, ⟨%f1, H1⟩⟩, ⟨%f, HR⟩⟩
  have e1 : (slotAt 1).view.set ∪ ((Finset.univ \ (slotAt 0).view.set) \ (slotAt 1).view.set) = Finset.univ \ (slotAt 0).view.set :=
    Finset.union_sdiff_of_subset (Finset.subset_sdiff.mpr ⟨Finset.subset_univ _, slot_disj.symm⟩)
  have e0 : (slotAt 0).view.set ∪ (Finset.univ \ (slotAt 0).view.set) = Finset.univ := Finset.union_sdiff_of_subset (Finset.subset_univ _)
  ihave HR := (pointsTo_join (f := f1) (Finset.disjoint_sdiff (s := (slotAt 1).view.set) (t := Finset.univ \ (slotAt 0).view.set))) $$ [H1 HR]
  · isplitl [H1]; · iexact H1
    iexact HR
  rw [e1]
  ihave HR := (pointsTo_join (f := f0) (Finset.disjoint_sdiff (s := (slotAt 0).view.set) (t := Finset.univ))) $$ [H0 HR]
  · isplitl [H0]; · iexact H0
    iexact HR
  rw [e0]
  iexists _; iexact HR

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! An input's buffer holds its block. -/
theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The windows that hold results. -/
abbrev fgt : Fin cfg0.W → Bool := fun w => decide (4 ≤ w.val)

/-- The proof data: the arrays as the call finds them, each input's block kept, nothing said of the results. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨n + 4, h⟩ => fun _ => default
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  simp only [before0_0 m (dats m 0 c) rfl (fun _ => rfl), before0_1 m (dats m 0 c) rfl (fun _ => rfl),
    before0_2 m (dats m 0 c) rfl (fun _ => rfl), before0_3 m (dats m 0 c) rfl (fun _ => rfl)]
  unfold owns
  iintro ⟨⟨⟨⟨%d12, %f12, -, H12⟩, ⟨%d13, %f13, -, H13⟩, HB, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩⟩, Hg, ⟨HV0, HV1⟩, HC⟩, ⟨%W, -, HO⟩, ⟨%d1, %f1, %e1, H1⟩, ⟨%d2, %f2, %e2, H2⟩, ⟨%d3, %f3, %e3, H3⟩, ⟨%d4, %f4, %e4, H4⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩
  rcases cond_or (grid0.coords t) with ⟨h1, h3⟩ | ⟨h1, h3⟩
  · ihave HB := (slots_open (F := F) c) $$ HB
    icases HB with ⟨HS, HRB⟩
    iapply (wp_wand_r Idealize.ShloMosaic.frame (wpE (defs₀ (F := F)) Variants.none (c : Thread nD τ) none) Set.univ)
    isplitl [H1 H4 H7 H8 H10 H12 H13 H15 H16 H20 H21 H9 H11 HS HV0 HV1 HC HO]
    · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h3 (V m c main_arg3) f1 f4)
      isplitl [H1]; · iexact H1
      isplitl [H4]; · iexact H4
      isplitl [H7]; · iexists _; iexact H7
      isplitl [H8]; · iexists _; iexact H8
      isplitl [H10]; · iexists _; iexact H10
      isplitl [H12]; · iexists _; iexact H12
      isplitl [H13]; · iexists _; iexact H13
      isplitl [H15]; · iexists _; iexact H15
      isplitl [H16]; · iexists _; iexact H16
      isplitl [H20]; · iexists _; iexact H20
      isplitl [H21]; · iexists _; iexact H21
      isplitl [H9]; · iexists _; iexact H9
      isplitl [H11]; · iexists _; iexact H11
      isplitl [HS]; · iexact HS
      isplitl [HV0]; · iexact HV0
      isplitl [HV1]; · iexact HV1
      isplitl [HC]; · iexact HC
      iexists _; iexact HO
    iintro %_ ⟨H1, H4, ⟨%g7, H7⟩, ⟨%g8, H8⟩, ⟨%g10, H10⟩, ⟨%g12, H12⟩, ⟨%g13, H13⟩, ⟨%g15, H15⟩, ⟨%g16, H16⟩, ⟨%g20, H20⟩, ⟨%g21, H21⟩, ⟨%g9, H9⟩, ⟨%g11, H11⟩, HS, HV0, HV1, HC, HO⟩
    ihave HB := (slots_close (F := F) c) $$ [HS HRB]
    · isplitl [HS]; · iexact HS
      iexact HRB
    isplitl [HB H12 H13 H15 H16 H17 H18 H19 H20 H21 Hg HV0 HV1 HC]
    · isplitl [HB H12 H13 H15 H16 H17 H18 H19 H20 H21]
      · isplitl [H12]
        · iexists _; iexists _; isplitr; swap; · iexact H12
          ipureintro; rfl
        isplitl [H13]
        · iexists _; iexists _; isplitr; swap; · iexact H13
          ipureintro; rfl
        isplitl [HB]; · iexact HB
        isplitl [H15]
        · iexists _; iexists _; isplitr; swap; · iexact H15
          ipureintro; rfl
        isplitl [H16]
        · iexists _; iexists _; isplitr; swap; · iexact H16
          ipureintro; rfl
        isplitl [H17]
        · iexists _; iexists _; isplitr; swap; · iexact H17
          ipureintro; rfl
        isplitl [H18]
        · iexists _; iexists _; isplitr; swap; · iexact H18
          ipureintro; rfl
        isplitl [H19]
        · iexists _; iexists _; isplitr; swap; · iexact H19
          ipureintro; rfl
        isplitl [H20]
        · iexists _; iexists _; isplitr; swap; · iexact H20
          ipureintro; rfl
        iexists _; iexists _; isplitr; swap; · iexact H21
        ipureintro; rfl
      isplitl [Hg]; · iexact Hg
      isplitl [HV0 HV1]
      · isplitl [HV0]; · iexact HV0
        iexact HV1
      iexact HC
    isplitl [HO]
    · icases HO with ⟨%W', HO⟩
      iexists W'; isplitr; · ipureintro; exact fun _ _ => Or.inl trivial
      iexact HO
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl
  · iapply (wp_wand_r Idealize.ShloMosaic.frame (wpE (defs₀ (F := F)) Variants.none (c : Thread nD τ) none) Set.univ)
    isplitl [H1 H2 H3 H6 H7 H8 H9 H10 H11 H12 H15 H16 H17 H18 H19 H20 H21]
    · iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h3 f1 f2 f3)
      isplitl [H1]; · iexact H1
      isplitl [H2]; · iexact H2
      isplitl [H3]; · iexact H3
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      iexists _; iexact H21
    iintro %_ ⟨H1, H2, H3, ⟨%g6, H6⟩, ⟨%g7, H7⟩, ⟨%g8, H8⟩, ⟨%g9, H9⟩, ⟨%g10, H10⟩, ⟨%g11, H11⟩, ⟨%g12, H12⟩, ⟨%g15, H15⟩, ⟨%g16, H16⟩, ⟨%g17, H17⟩, ⟨%g18, H18⟩, ⟨%g19, H19⟩, ⟨%g20, H20⟩, ⟨%g21, H21⟩⟩
    ihave HO : iprop(∃ W, owes (c : Thread nD τ) 0 W) $$ [HO]
    · iexists _; iexact HO
    isplitl [HB H12 H13 H15 H16 H17 H18 H19 H20 H21 Hg HV0 HV1 HC]
    · isplitl [HB H12 H13 H15 H16 H17 H18 H19 H20 H21]
      · isplitl [H12]
        · iexists _; iexists _; isplitr; swap; · iexact H12
          ipureintro; rfl
        isplitl [H13]
        · iexists _; iexists _; isplitr; swap; · iexact H13
          ipureintro; rfl
        isplitl [HB]; · iexact HB
        isplitl [H15]
        · iexists _; iexists _; isplitr; swap; · iexact H15
          ipureintro; rfl
        isplitl [H16]
        · iexists _; iexists _; isplitr; swap; · iexact H16
          ipureintro; rfl
        isplitl [H17]
        · iexists _; iexists _; isplitr; swap; · iexact H17
          ipureintro; rfl
        isplitl [H18]
        · iexists _; iexists _; isplitr; swap; · iexact H18
          ipureintro; rfl
        isplitl [H19]
        · iexists _; iexists _; isplitr; swap; · iexact H19
          ipureintro; rfl
        isplitl [H20]
        · iexists _; iexists _; isplitr; swap; · iexact H20
          ipureintro; rfl
        iexists _; iexists _; isplitr; swap; · iexact H21
        ipureintro; rfl
      isplitl [Hg]; · iexact Hg
      isplitl [HV0 HV1]
      · isplitl [HV0]; · iexact HV0
        iexact HV1
      iexact HC
    isplitl [HO]
    · icases HO with ⟨%W', HO⟩
      iexists W'; isplitr; · ipureintro; exact fun _ _ => Or.inl trivial
      iexact HO
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_dma_forget (Q' := _) cfgs (dats m) (0 : Fin 1) launch0 osem0 defs₀ Variants.none fgt ownSemFacts0 H0 H0_sub m ρ main
    (hbody := fun c => (body_obligation m c).loose) (hshare := fun c => (dats m 0 c).share_full fun _ => rfl)
    (howed := fun _ _ => rfl) (V := V m)
    (hmain := hmainD m Variants.none) (hA := A_eq m) (hin := fun _ => .rfl) (hout := fun _ => .rfl) (hQ' := fun _ h => h)

/-- The arguments end as they began, and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
    (h.1 c).2 main_arg0 (by decide) |>.trans (V_main_arg0 m c),
    (h.1 c).2 main_arg1 (by decide) |>.trans (V_main_arg1 m c),
    (h.1 c).2 main_arg2 (by decide) |>.trans (V_main_arg2 m c),
    (h.1 c).2 main_arg3 (by decide) |>.trans (V_main_arg3 m c),
    (Pipeline.RDat.FramePost.arr_in h.1 c 3 rfl).trans (V_main_arg4 m c)⟩, h.2⟩) (run_main m ρ)

end Cert.Kernel.Hand

end
-- ==== Proof.KernelIdealT1.lean ====
module

public import proofs.«01_k».proof.Proof.Gen.KernelIdeal.Frame
public import proofs.«01_k».proof.Proof.Gen.KernelIdeal.Loops
public import Idealize.ShloMosaic.Lib.Transfers

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

/-- The resource algebra: the pipeline's, with the counters of the kernel's own transfers. -/
local notation "𝕄" => MT nD τ sig Unit (Elt F) ℕ (Pipeline.UD sig nD τ) ℕ

/-! The accesses of one trip, as the program spells them: what it waits for (`W`) and what it starts next (`I`). -/
abbrev slotW (i : grid0.Coords) (k : Fin k0_t1_loop.trips) (h1 : k0_cond1 i = 1#1) : Memref sig .tc .vmem S1280x256 .fp8e4m3 :=
  ((Memref.whole cc0_scratch2).slice (Rect.unit (s := S2x1280x256) (k0_off5 k) S1x1280x256.size (k0_off5_inb i k h1)) (fun _ => rfl)).squeeze S1280x256 squeezes_S1x1280x256_S1280x256
abbrev slotI (i : grid0.Coords) (k : Fin k0_t1_loop.trips) (h1 : k0_cond1 i = 1#1) (h2 : k0_cond2 k = 1#1) : Memref sig .tc .vmem S1280x256 .fp8e4m3 :=
  ((Memref.whole cc0_scratch2).slice (Rect.unit (s := S2x1280x256) (k0_off2 k) S1x1280x256.size (k0_off2_inb i k h1 h2)) (fun _ => rfl)).squeeze S1280x256 squeezes_S1x1280x256_S1280x256
abbrev srcW (i : grid0.Coords) (k : Fin k0_t1_loop.trips) (h1 : k0_cond1 i = 1#1) : Memref sig .tc .hbm S1280x256 .fp8e4m3 :=
  (Memref.whole main_arg3).slice (Rect.unit (s := S1280x5120) (k0_off6 k) S1280x256.size (k0_off6_inb i k h1)) (fun _ => rfl)
abbrev srcI (i : grid0.Coords) (k : Fin k0_t1_loop.trips) (h1 : k0_cond1 i = 1#1) (h2 : k0_cond2 k = 1#1) : Memref sig .tc .hbm S1280x256 .fp8e4m3 :=
  (Memref.whole main_arg3).slice (Rect.unit (s := S1280x5120) (k0_off3 k) S1280x256.size (k0_off3_inb i k h1 h2)) (fun _ => rfl)
abbrev cellW (i : grid0.Coords) (k : Fin k0_t1_loop.trips) (h1 : k0_cond1 i = 1#1) : SemLoc sig :=
  SemLoc.dma ((SemArray.slice cc0_scratch10 (Rect.unit (s := S2) (k0_off4 k) S1.size (k0_off4_inb i k h1))).squeeze S_ squeezes_S1_S_).sem
abbrev cellI (i : grid0.Coords) (k : Fin k0_t1_loop.trips) (h1 : k0_cond1 i = 1#1) (h2 : k0_cond2 k = 1#1) : SemLoc sig :=
  SemLoc.dma ((SemArray.slice cc0_scratch10 (Rect.unit (s := S2) (k0_off1 k) S1.size (k0_off1_inb i k h1 h2))).squeeze S_ squeezes_S1_S_).sem

/-- A block in flight into a slot, with the block of the weight it reads. -/
abbrev flying (c : Dev nD) (cell : SemLoc sig) (slot : Memref sig .tc .vmem S1280x256 .fp8e4m3) (src : Memref sig .tc .hbm S1280x256 .fp8e4m3)
    (f : Buf (Elt F) (slot.view.loc (c : Thread nD τ))) (fh : Buf (Elt F) (src.view.loc (c : Thread nD τ))) : sProp 𝕄 :=
  Transfers.Flight (countersEmb (U := Pipeline.UD sig nD τ) : UEmb Counters (MT nD τ sig Unit (Elt F) ℕ (Pipeline.UD sig nD τ) ℕ)) (c : Thread nD τ) cell () (slot.view.dmaCredit)
    iprop((slot.view.loc (c : Thread nD τ) ↦[slot.view.set]{fullShare} f) ∗ (src.view.loc (c : Thread nD τ) ↦[src.view.set]{fullShare} fh))
abbrev held {sp : Space} {s : Shape} {e : EltTy} (c : Dev nD) (r : Memref sig .tc sp s e) (f : Buf (Elt F) (r.view.loc (c : Thread nD τ))) : sProp 𝕄 :=
  iprop(r.view.loc (c : Thread nD τ) ↦[r.view.set]{fullShare} f)

theorem off8_eq (k : Fin k0_t1_loop.trips) : k0_off8 k = k0_off5 k := by
  revert k; decide +kernel

theorem access_sub (o o' : Fin 3 → ℕ) (e : o = o') (h) (h') :
    ((Memref.whole cc0_scratch2).access (Rect.unit (s := S2x1280x256) o S1x1280x256.size h)).set
      ⊆ (((Memref.whole cc0_scratch2).slice (Rect.unit (s := S2x1280x256) o' S1x1280x256.size h') (fun _ => rfl)).squeeze S1280x256 squeezes_S1x1280x256_S1280x256).view.set := by
  subst e; exact (View.set_reshape _ _).symm.subset

theorem loadW_sub (i : grid0.Coords) (k : Fin k0_t1_loop.trips) (h1 : k0_cond1 i = 1#1) :
    ((Memref.whole cc0_scratch2).access (Rect.unit (s := S2x1280x256) (k0_off8 k) S1x1280x256.size (k0_off8_inb i k h1))).set ⊆ (slotW i k h1).view.set :=
  access_sub _ _ (off8_eq k) _ _

/-- A trip that starts the next block: its own block has come in, the next is in flight. -/
theorem trip_mid (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1) (k : Fin k0_t1_loop.trips)
    (h2 : k0_cond2 k = 1#1) (X13 : BufTy.Contents (Elt F) arg13.view.ty) (W)
    (sW sI : Memref sig .tc .vmem S1280x256 .fp8e4m3) (bW bI : Memref sig .tc .hbm S1280x256 .fp8e4m3) (cW cI : SemLoc sig)
    (esW : slotW i k k0_h1 = sW) (esI : slotI i k k0_h1 h2 = sI) (ebW : srcW i k k0_h1 = bW) (ebI : srcI i k k0_h1 h2 = bI)
    (ecW : cellW i k k0_h1 = cW) (ecI : cellI i k k0_h1 h2 = cI)
    (f0 : Buf (Elt F) (sW.view.loc (c : Thread nD τ))) (f1 : Buf (Elt F) (sI.view.loc (c : Thread nD τ)))
    (fW : Buf (Elt F) (bW.view.loc (c : Thread nD τ))) (fI : Buf (Elt F) (bI.view.loc (c : Thread nD τ))) :
    iprop(flying c cW sW bW f0 fW ∗ held c sI f1 ∗ semVal ((c : Thread nD τ), cI) 0 ∗ held c bI fI
      ∗ owes (c : Thread nD τ) 0 W ∗ (arg13.view.loc (c : Thread nD τ) ↦[arg13.view.set]{fullShare} X13) ∗ (∃ f, (arg12.view.loc (c : Thread nD τ) ↦[arg12.view.set]{fullShare} f)))
    ⊢ wp frame (wpE (defs₀ (F := F)) Variants.none (c : Thread nD τ) none) Set.univ
        (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(held c sW f0 ∗ semVal ((c : Thread nD τ), cW) 0 ∗ held c bW fW
          ∗ (∃ f, flying c cI sI bI f fI)
          ∗ (∃ W, owes (c : Thread nD τ) 0 W) ∗ (arg13.view.loc (c : Thread nD τ) ↦[arg13.view.set]{fullShare} X13) ∗ (∃ f, (arg12.view.loc (c : Thread nD τ) ↦[arg12.view.set]{fullShare} f)))) := by
  subst esW esI ebW ebI ecW ecI
  have hS := loadW_sub i k k0_h1
  unfold k0_t1_body flying held
  iintro ⟨HF, H1, HV, HB, HO, H13, ⟨%f12, H12⟩⟩
  sl_exec
  sl_step
  isplitl [HF_dst]; · iexact HF_dst
  isplitl [HF]; · iexact HF
  isplitl [HF_src]; · iexact HF_src
  isplitl [HV]; · iexists _; iexact HV
  isplitl [HO]; · iexists _; iexact HO
  isplitl [H13]; · iexact H13
  iexists _; iexact H12

/-- The last trip starts nothing. -/
theorem trip_last (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1) (k : Fin k0_t1_loop.trips)
    (h2 : ¬ k0_cond2 k = 1#1) (X13 : BufTy.Contents (Elt F) arg13.view.ty) (W)
    (sW : Memref sig .tc .vmem S1280x256 .fp8e4m3) (bW : Memref sig .tc .hbm S1280x256 .fp8e4m3) (cW : SemLoc sig)
    (esW : slotW i k k0_h1 = sW) (ebW : srcW i k k0_h1 = bW) (ecW : cellW i k k0_h1 = cW)
    (f0 : Buf (Elt F) (sW.view.loc (c : Thread nD τ))) (fW : Buf (Elt F) (bW.view.loc (c : Thread nD τ))) :
    iprop(flying c cW sW bW f0 fW
      ∗ owes (c : Thread nD τ) 0 W ∗ (arg13.view.loc (c : Thread nD τ) ↦[arg13.view.set]{fullShare} X13) ∗ (∃ f, (arg12.view.loc (c : Thread nD τ) ↦[arg12.view.set]{fullShare} f)))
    ⊢ wp frame (wpE (defs₀ (F := F)) Variants.none (c : Thread nD τ) none) Set.univ
        (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(held c sW f0 ∗ semVal ((c : Thread nD τ), cW) 0 ∗ held c bW fW
          ∗ (∃ W, owes (c : Thread nD τ) 0 W) ∗ (arg13.view.loc (c : Thread nD τ) ↦[arg13.view.set]{fullShare} X13) ∗ (∃ f, (arg12.view.loc (c : Thread nD τ) ↦[arg12.view.set]{fullShare} f)))) := by
  subst esW ebW ecW
  have hS := loadW_sub i k k0_h1
  unfold k0_t1_body flying held
  iintro ⟨HF, HO, H13, ⟨%f12, H12⟩⟩
  sl_exec
  sl_step
  isplitl [HF_dst]; · iexact HF_dst
  isplitl [HF]; · iexact HF
  isplitl [HF_src]; · iexact HF_src
  isplitl [HO]; · iexists _; iexact HO
  isplitl [H13]; · iexact H13
  iexists _; iexact H12

/-! The same accesses by slot and block number. -/

theorem slot_inb (p : Fin 2) : ∀ a, (![p.val, 0, 0] : Fin 3 → ℕ) a + S1x1280x256.size a ≤ S2x1280x256.size a := by
  revert p; decide
theorem blk_inb (k : Fin 20) : ∀ a, (![0, 256 * k.val] : Fin 2 → ℕ) a + S1280x256.size a ≤ S1280x5120.size a := by
  revert k; decide
theorem cell_inb (p : Fin 2) : ∀ a, (![p.val] : Fin 1 → ℕ) a + S1.size a ≤ S2.size a := by
  revert p; decide
def slotAt (p : Fin 2) : Memref sig .tc .vmem S1280x256 .fp8e4m3 :=
  ((Memref.whole cc0_scratch2).slice (Rect.unit (s := S2x1280x256) ![p.val, 0, 0] S1x1280x256.size (slot_inb p)) (fun _ => rfl)).squeeze S1280x256 squeezes_S1x1280x256_S1280x256
def blkAt (k : Fin 20) : Memref sig .tc .hbm S1280x256 .fp8e4m3 :=
  (Memref.whole main_arg3).slice (Rect.unit (s := S1280x5120) ![0, 256 * k.val] S1280x256.size (blk_inb k)) (fun _ => rfl)
def cellAt (p : Fin 2) : SemLoc sig :=
  SemLoc.dma ((SemArray.slice cc0_scratch10 (Rect.unit (s := S2) ![p.val] S1.size (cell_inb p))).squeeze S_ squeezes_S1_S_).sem
theorem cellAt_0 : cellAt 0 = SemLoc.dma 18 := rfl
theorem cellAt_1 : cellAt 1 = SemLoc.dma 19 := rfl

theorem slot_congr {o o' : Fin 3 → ℕ} (e : o = o') (h) (h') :
    ((Memref.whole cc0_scratch2).slice (Rect.unit (s := S2x1280x256) o S1x1280x256.size h) (fun _ => rfl)).squeeze S1280x256 squeezes_S1x1280x256_S1280x256
    = ((Memref.whole cc0_scratch2).slice (Rect.unit (s := S2x1280x256) o' S1x1280x256.size h') (fun _ => rfl)).squeeze S1280x256 squeezes_S1x1280x256_S1280x256 := by
  subst e; rfl
theorem blk_congr {o o' : Fin 2 → ℕ} (e : o = o') (h) (h') :
    ((Memref.whole main_arg3).slice (Rect.unit (s := S1280x5120) o S1280x256.size h) (fun _ => rfl) : Memref sig .tc .hbm S1280x256 .fp8e4m3)
    = (Memref.whole main_arg3).slice (Rect.unit (s := S1280x5120) o' S1280x256.size h') (fun _ => rfl) := by
  subst e; rfl
theorem cell_congr {o o' : Fin 1 → ℕ} (e : o = o') (h) (h') :
    (SemLoc.dma ((SemArray.slice cc0_scratch10 (Rect.unit (s := S2) o S1.size h)).squeeze S_ squeezes_S1_S_).sem : SemLoc sig)
    = SemLoc.dma ((SemArray.slice cc0_scratch10 (Rect.unit (s := S2) o' S1.size h')).squeeze S_ squeezes_S1_S_).sem := by
  subst e; rfl

def par (n : ℕ) : Fin 2 := ⟨n % 2, Nat.mod_lt _ (by decide)⟩

theorem trips1 : k0_t1_loop.trips = 20 := by decide +kernel
theorem off5_par (k : Fin k0_t1_loop.trips) : k0_off5 k = ![(par k.val).val, 0, 0] := by revert k; decide +kernel
theorem off2_par (k : Fin k0_t1_loop.trips) : k0_off2 k = ![(par (k.val + 1)).val, 0, 0] := by revert k; decide +kernel
theorem off4_par (k : Fin k0_t1_loop.trips) : k0_off4 k = ![(par k.val).val] := by revert k; decide +kernel
theorem off1_par (k : Fin k0_t1_loop.trips) : k0_off1 k = ![(par (k.val + 1)).val] := by revert k; decide +kernel
theorem cond2_iff (k : Fin k0_t1_loop.trips) : k0_cond2 k = 1#1 ↔ k.val + 1 < 20 := by revert k; decide +kernel

theorem slotW_eq (i : grid0.Coords) (k : Fin k0_t1_loop.trips) (h1 : k0_cond1 i = 1#1) : slotW i k h1 = slotAt (par k.val) :=
  slot_congr (off5_par k) _ _
theorem slotI_eq (i : grid0.Coords) (k : Fin k0_t1_loop.trips) (h1 : k0_cond1 i = 1#1) (h2 : k0_cond2 k = 1#1) : slotI i k h1 h2 = slotAt (par (k.val + 1)) :=
  slot_congr (off2_par k) _ _
theorem cellW_eq (i : grid0.Coords) (k : Fin k0_t1_loop.trips) (h1 : k0_cond1 i = 1#1) : cellW i k h1 = cellAt (par k.val) :=
  cell_congr (off4_par k) _ _
theorem cellI_eq (i : grid0.Coords) (k : Fin k0_t1_loop.trips) (h1 : k0_cond1 i = 1#1) (h2 : k0_cond2 k = 1#1) : cellI i k h1 h2 = cellAt (par (k.val + 1)) :=
  cell_congr (off1_par k) _ _
theorem srcW_eq (i : grid0.Coords) (k : Fin k0_t1_loop.trips) (h1 : k0_cond1 i = 1#1) (hk : k.val < 20) : srcW i k h1 = blkAt ⟨k.val, hk⟩ :=
  blk_congr (k0_off6_eq k) _ _
theorem srcI_eq (i : grid0.Coords) (k : Fin k0_t1_loop.trips) (h1 : k0_cond1 i = 1#1) (h2 : k0_cond2 k = 1#1) (hk : k.val + 1 < 20) :
    srcI i k h1 h2 = blkAt ⟨k.val + 1, hk⟩ :=
  blk_congr (by rw [k0_off3_eq k]; rfl) _ _

theorem blk_disj {k k' : Fin 20} (h : k ≠ k') : Disjoint (blkAt k).view.set (blkAt k').view.set := by
  refine View.disjoint_slice_of_sep (Memref.whole main_arg3).view _ _ 1 rfl rfl ?_
  have h' : k.val ≠ k'.val := fun e => h (Fin.ext e)
  show 256 * k.val + 256 ≤ 256 * k'.val ∨ 256 * k'.val + 256 ≤ 256 * k.val
  omega
theorem slot_disj : Disjoint (slotAt 0).view.set (slotAt 1).view.set := by
  refine (Finset.disjoint_of_subset_left (View.set_reshape _ _).subset (Finset.disjoint_of_subset_right (View.set_reshape _ _).subset ?_))
  exact View.disjoint_slice_of_sep (Memref.whole cc0_scratch2).view _ _ 0 rfl rfl (Or.inl (by decide))

/-- The weight where it lies, held on `S`. -/
abbrev wcOn (c : Dev nD) (S : Finset (Idx ((c : Thread nD τ).loc main_arg3))) (fh : Buf (Elt F) ((c : Thread nD τ).loc main_arg3)) : sProp 𝕄 :=
  iprop((c : Thread nD τ).loc main_arg3 ↦[S]{fullShare} fh)

/-- Before trip `n`: block `n` in flight into its slot, the other slot and its cell at rest, the rest of the weight here;
    after the last trip everything at rest. -/
def ring1 (c : Dev nD) (fh : Buf (Elt F) ((c : Thread nD τ).loc main_arg3)) (n : ℕ) : sProp 𝕄 :=
  if h : n < 20 then
    iprop(∃ f0 f1, flying c (cellAt (par n)) (slotAt (par n)) (blkAt ⟨n, h⟩) f0 fh ∗ held c (slotAt (par (n + 1))) f1
      ∗ semVal ((c : Thread nD τ), cellAt (par (n + 1))) 0 ∗ wcOn c (Finset.univ \ (blkAt ⟨n, h⟩).view.set) fh)
  else
    iprop(∃ f0 f1, held c (slotAt 0) f0 ∗ held c (slotAt 1) f1
      ∗ semVal ((c : Thread nD τ), cellAt 0) 0 ∗ semVal ((c : Thread nD τ), cellAt 1) 0 ∗ wcOn c Finset.univ fh)

theorem wc_join (c : Dev nD) (fh : Buf (Elt F) ((c : Thread nD τ).loc main_arg3)) (k : Fin 20) :
    iprop(held c (blkAt k) fh ∗ wcOn c (Finset.univ \ (blkAt k).view.set) fh) ⊢ wcOn c Finset.univ fh :=
  (pointsTo_split_subset (Finset.subset_univ (blkAt k).view.set)).2
theorem wc_split (c : Dev nD) (fh : Buf (Elt F) ((c : Thread nD τ).loc main_arg3)) (k : Fin 20) :
    wcOn c Finset.univ fh ⊢ iprop(held c (blkAt k) fh ∗ wcOn c (Finset.univ \ (blkAt k).view.set) fh) :=
  (pointsTo_split_subset (Finset.subset_univ (blkAt k).view.set)).1
theorem blk_sub {k k' : Fin 20} (h : k ≠ k') : (blkAt k').view.set ⊆ Finset.univ \ (blkAt k).view.set :=
  fun _ hx => Finset.mem_sdiff.2 ⟨Finset.mem_univ _, fun hx' => Finset.disjoint_left.1 (blk_disj (k := k) (k' := k') h) hx' hx⟩
theorem wc_next (c : Dev nD) (fh : Buf (Elt F) ((c : Thread nD τ).loc main_arg3)) {k k' : Fin 20} (h : k ≠ k') :
    wcOn c (Finset.univ \ (blkAt k).view.set) fh ⊢ iprop(held c (blkAt k') fh ∗ wcOn c ((Finset.univ \ (blkAt k).view.set) \ (blkAt k').view.set) fh) :=
  (pointsTo_split_subset (blk_sub h)).1
theorem sdiff_swap {α : Type*} [DecidableEq α] (U A B : Finset α) : (U \ A) \ B = (U \ B) \ A := by
  ext x; simp only [Finset.mem_sdiff]; tauto
theorem wc_back (c : Dev nD) (fh : Buf (Elt F) ((c : Thread nD τ).loc main_arg3)) {k k' : Fin 20} (h : k ≠ k') :
    iprop(held c (blkAt k) fh ∗ wcOn c ((Finset.univ \ (blkAt k).view.set) \ (blkAt k').view.set) fh) ⊢ wcOn c (Finset.univ \ (blkAt k').view.set) fh := by
  have e : wcOn (F := F) c ((Finset.univ \ (blkAt k).view.set) \ (blkAt k').view.set) fh = wcOn c ((Finset.univ \ (blkAt k').view.set) \ (blkAt k).view.set) fh :=
    congrArg (fun S => wcOn (F := F) c S fh) (sdiff_swap _ _ _)
  iintro ⟨H, HR⟩
  iapply (pointsTo_split_subset (blk_sub h.symm)).2
  isplitl [H]; · iexact H
  iapply (Idealize.SL.BI.BIBase.Entails.of_eq e); iexact HR

theorem step1 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (X13 : BufTy.Contents (Elt F) arg13.view.ty) (k : Fin k0_t1_loop.trips) :
    iprop(ring1 c fh k.val ∗ (∃ W, owes (c : Thread nD τ) 0 W) ∗ (arg13.view.loc (c : Thread nD τ) ↦[arg13.view.set]{fullShare} X13) ∗ (∃ f, (arg12.view.loc (c : Thread nD τ) ↦[arg12.view.set]{fullShare} f)))
    ⊢ wp frame (wpE (defs₀ (F := F)) Variants.none (c : Thread nD τ) none) Set.univ
        (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(ring1 c fh (k.val + 1) ∗ (∃ W, owes (c : Thread nD τ) 0 W) ∗ (arg13.view.loc (c : Thread nD τ) ↦[arg13.view.set]{fullShare} X13) ∗ (∃ f, (arg12.view.loc (c : Thread nD τ) ↦[arg12.view.set]{fullShare} f)))) := by
  have hk : k.val < 20 := trips1 ▸ k.isLt
  by_cases h : k.val + 1 < 20
  · have h2 := (cond2_iff k).2 h
    have hne : (⟨k.val, hk⟩ : Fin 20) ≠ ⟨k.val + 1, h⟩ := fun e => by have := congrArg Fin.val e; simp at this
    unfold ring1
    rw [dif_pos hk, dif_pos h]
    iintro ⟨⟨%f0, %f1, HF, H1, HV, HR⟩, ⟨%W, HO⟩, H13, H12⟩
    ihave HR' := (wc_next c fh hne) $$ HR
    icases HR' with ⟨HB, HR⟩
    iapply (wp_wand_r Idealize.ShloMosaic.frame (wpE (defs₀ (F := F)) Variants.none (c : Thread nD τ) none) Set.univ)
    isplitl [HF H1 HV HB HO H13 H12]
    · iapply (trip_mid (F := F) c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 k h2 X13 W _ _ _ _ _ _ (slotW_eq i k k0_h1) (slotI_eq i k k0_h1 h2) (srcW_eq i k k0_h1 hk) (srcI_eq i k k0_h1 h2 h) (cellW_eq i k k0_h1) (cellI_eq i k k0_h1 h2) f0 f1 fh fh)
      isplitl [HF]; · iexact HF
      isplitl [H1]; · iexact H1
      isplitl [HV]; · iexact HV
      isplitl [HB]; · iexact HB
      isplitl [HO]; · iexact HO
      isplitl [H13]; · iexact H13
      iexact H12
    · rw [show par (k.val + 1 + 1) = par k.val from by unfold par; ext; show (k.val + 1 + 1) % 2 = k.val % 2; omega]
      iintro %_ ⟨H0, HV, HB, ⟨%f, HF⟩, HO, H13, H12⟩
      ihave HR' := (wc_back c fh hne) $$ [HB HR]
      · isplitl [HB]; · iexact HB
        iexact HR
      isplitl [H0 HV HF HR']
      · iexists f; iexists f0
        isplitl [HF]; · iexact HF
        isplitl [H0]; · iexact H0
        isplitl [HV]; · iexact HV
        iexact HR'
      isplitl [HO]; · iexact HO
      isplitl [H13]; · iexact H13
      iexact H12
  · have h2 : ¬ k0_cond2 k = 1#1 := fun e => h ((cond2_iff k).1 e)
    have e19 : k.val = 19 := by omega
    unfold ring1
    rw [dif_pos hk, dif_neg h]
    have p1 : par k.val = 1 := by rw [e19]; rfl
    have p0 : par (k.val + 1) = 0 := by rw [e19]; rfl
    rw [p0, p1]
    iintro ⟨⟨%f0, %f1, HF, H1, HV, HR⟩, ⟨%W, HO⟩, H13, H12⟩
    iapply (wp_wand_r Idealize.ShloMosaic.frame (wpE (defs₀ (F := F)) Variants.none (c : Thread nD τ) none) Set.univ)
    isplitl [HF HO H13 H12]
    · iapply (trip_last (F := F) c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 k h2 X13 W _ _ _ ((slotW_eq i k k0_h1).trans (congrArg slotAt p1)) (srcW_eq i k k0_h1 hk) ((cellW_eq i k k0_h1).trans (congrArg cellAt p1)) f0 fh)
      isplitl [HF]; · iexact HF
      isplitl [HO]; · iexact HO
      isplitl [H13]; · iexact H13
      iexact H12
    · iintro %_ ⟨H0, HV', HB, HO, H13, H12⟩
      ihave HR' := (wc_join c fh ⟨k.val, hk⟩) $$ [HB HR]
      · isplitl [HB]; · iexact HB
        iexact HR
      isplitl [H0 H1 HV HV' HR']
      · iexists f1; iexists f0
        isplitl [H1]; · iexact H1
        isplitl [H0]; · iexact H0
        isplitl [HV]; · iexact HV
        isplitl [HV']; · iexact HV'
        iexact HR'
      isplitl [HO]; · iexact HO
      isplitl [H13]; · iexact H13
      iexact H12

end Cert.KernelIdeal.Hand

end
-- ==== Proof.KernelIdealLoopsA.lean ====
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

/-- The resource algebra: the pipeline's, with the counters of the kernel's own transfers. -/
local notation "𝕄" => MT nD τ sig Unit (Elt F) ℕ (Pipeline.UD sig nD τ) ℕ

set_option warn.classDefReducibility false in
/-- One trip leaves what it only reads as it was, and what it writes at some contents. -/
@[sl_loop] def loop5 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (k0_t4 : Fin k0_t4_loop.trips) (v136 : BitVec 32) (X1 : BufTy.Contents (Elt F) arg1.view.ty) :
    LoopInvTy_k0_t5 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k0_t4 v136 where
  inv := fun _ _ => iprop((arg1.view.loc (c : Thread nD τ) ↦[arg1.view.set]{fullShare} X1) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, ⟨%f8, H8⟩, ⟨%f10, H10⟩, ⟨%f15, H15⟩, ⟨%f16, H16⟩, ⟨%f20, H20⟩, ⟨%f21, H21⟩⟩
    unfold k0_t5_body
    sl_exec
    sl_step
    isplitl [H1]; · iexact H1
    isplitl [H8]; · iexists _; iexact H8
    isplitl [H10]; · iexists _; iexact H10
    isplitl [H15]; · iexists _; iexact H15
    isplitl [H16]; · iexists _; iexact H16
    isplitl [H20]; · iexists _; iexact H20
    iexists _; iexact H21

set_option warn.classDefReducibility false in
/-- One trip leaves what it only reads as it was, and what it writes at some contents. -/
@[sl_loop] def loop2 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h1 : k0_cond1 i = 1#1) (X1 : BufTy.Contents (Elt F) arg1.view.ty) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h1 where
  inv := fun _ _ => iprop((arg1.view.loc (c : Thread nD τ) ↦[arg1.view.set]{fullShare} X1) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, ⟨%f8, H8⟩, ⟨%f10, H10⟩, ⟨%f15, H15⟩, ⟨%f16, H16⟩, ⟨%f20, H20⟩, ⟨%f21, H21⟩⟩
    unfold k0_t2_body
    sl_exec
    sl_step
    isplitl [H1]; · iexact H1
    isplitl [H8]; · iexists _; iexact H8
    isplitl [H10]; · iexists _; iexact H10
    isplitl [H15]; · iexists _; iexact H15
    isplitl [H16]; · iexists _; iexact H16
    isplitl [H20]; · iexists _; iexact H20
    iexists _; iexact H21

end Cert.KernelIdeal.Hand

end
-- ==== Proof.KernelIdealLoopsB.lean ====
module

public import proofs.«01_k».proof.Proof.KernelIdealLoopsA

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

/-- The resource algebra: the pipeline's, with the counters of the kernel's own transfers. -/
local notation "𝕄" => MT nD τ sig Unit (Elt F) ℕ (Pipeline.UD sig nD τ) ℕ

set_option warn.classDefReducibility false in
/-- One trip leaves what it only reads as it was, and what it writes at some contents. -/
@[sl_loop] def loop4 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (arg23 : BitVec 32) (X1 : BufTy.Contents (Elt F) arg1.view.ty) (X17 : BufTy.Contents (Elt F) arg17.view.ty) :
    LoopInvTy_k0_t4 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 arg23 where
  inv := fun _ _ => iprop((arg1.view.loc (c : Thread nD τ) ↦[arg1.view.set]{fullShare} X1) ∗ (arg17.view.loc (c : Thread nD τ) ↦[arg17.view.set]{fullShare} X17) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, H17, ⟨%f7, H7⟩, ⟨%f8, H8⟩, ⟨%f10, H10⟩, ⟨%f15, H15⟩, ⟨%f16, H16⟩, ⟨%f20, H20⟩, ⟨%f21, H21⟩⟩
    unfold k0_t4_body
    sl_exec
    sl_step
    isplitl [H1]; · iexact H1
    isplitl [H17]; · iexact H17
    isplitl [H7]; · iexists _; iexact H7
    isplitl [H8]; · iexists _; iexact H8
    isplitl [H10]; · iexists _; iexact H10
    isplitl [H15]; · iexists _; iexact H15
    isplitl [H16]; · iexists _; iexact H16
    isplitl [H20]; · iexists _; iexact H20
    iexists _; iexact H21

set_option warn.classDefReducibility false in
/-- One trip leaves what it only reads as it was, and what it writes at some contents. -/
@[sl_loop] def loop3 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (c0_i32_29 : BitVec 32) (X1 : BufTy.Contents (Elt F) arg1.view.ty) (X17 : BufTy.Contents (Elt F) arg17.view.ty) (X12 : BufTy.Contents (Elt F) arg12.view.ty) :
    LoopInvTy_k0_t3 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 c0_i32_29 where
  inv := fun _ _ => iprop((arg1.view.loc (c : Thread nD τ) ↦[arg1.view.set]{fullShare} X1) ∗ (arg17.view.loc (c : Thread nD τ) ↦[arg17.view.set]{fullShare} X17) ∗ (arg12.view.loc (c : Thread nD τ) ↦[arg12.view.set]{fullShare} X12) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg18.view.loc (c : Thread nD τ) ↦[arg18.view.set]{fullShare} f)) ∗ (∃ f, (arg20.view.loc (c : Thread nD τ) ↦[arg20.view.set]{fullShare} f)) ∗ (∃ f, (arg21.view.loc (c : Thread nD τ) ↦[arg21.view.set]{fullShare} f)))
  step := fun k acc => by
    iintro ⟨H1, H17, H12, ⟨%f6, H6⟩, ⟨%f7, H7⟩, ⟨%f8, H8⟩, ⟨%f10, H10⟩, ⟨%f15, H15⟩, ⟨%f16, H16⟩, ⟨%f18, H18⟩, ⟨%f20, H20⟩, ⟨%f21, H21⟩⟩
    unfold k0_t3_body
    sl_exec
    sl_step
    isplitl [H1]; · iexact H1
    isplitl [H17]; · iexact H17
    isplitl [H12]; · iexact H12
    isplitl [H6]; · iexists _; iexact H6
    isplitl [H7]; · iexists _; iexact H7
    isplitl [H8]; · iexists _; iexact H8
    isplitl [H10]; · iexists _; iexact H10
    isplitl [H15]; · iexists _; iexact H15
    isplitl [H16]; · iexists _; iexact H16
    isplitl [H18]; · iexists _; iexact H18
    isplitl [H20]; · iexists _; iexact H20
    iexists _; iexact H21

end Cert.KernelIdeal.Hand

end
-- ==== Proof.KernelIdealBody.lean ====
module

public import proofs.«01_k».proof.Proof.KernelIdealT1
public import proofs.«01_k».proof.Proof.KernelIdealLoopsB

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

/-- The resource algebra: the pipeline's, with the counters of the kernel's own transfers. -/
local notation "𝕄" => MT nD τ sig Unit (Elt F) ℕ (Pipeline.UD sig nD τ) ℕ

/-! The first transfer's ends, as the program spells them. -/
abbrev slot0 : Memref sig .tc .vmem S1280x256 .fp8e4m3 :=
  ((Memref.whole cc0_scratch2).slice (Rect.unit (s := S2x1280x256) ![0, 0, 0] S1x1280x256.size inb_S2x1280x256_S1x1280x256_0_0_0) (fun _ => rfl)).squeeze S1280x256 squeezes_S1x1280x256_S1280x256
abbrev blk0 : Memref sig .tc .hbm S1280x256 .fp8e4m3 :=
  (Memref.whole main_arg3).slice (Rect.unit (s := S1280x5120) ![0, 0] S1280x256.size inb_S1280x5120_S1280x256_0_0) (fun _ => rfl)
abbrev cell0 : SemLoc sig :=
  SemLoc.dma ((SemArray.slice cc0_scratch10 (Rect.unit (s := S2) ![0] S1.size inb_S2_S1_0)).squeeze S_ squeezes_S1_S_).sem

/-- The two slots of the staging buffer, each at some contents. -/
def slots (c : Dev nD) : sProp 𝕄 := iprop((∃ f, held (F := F) c (slotAt 0) f) ∗ (∃ f, held (F := F) c (slotAt 1) f))

def inv1 (c : Dev nD) (fh : Buf (Elt F) ((c : Thread nD τ).loc main_arg3)) {arg12 : Memref sig .tc .vmem S5120x1280 .bf16} {arg13 : Memref sig .tc .vmem S160x1280 .f32} (X13 : BufTy.Contents (Elt F) arg13.view.ty) (n : ℕ) : sProp 𝕄 :=
  iprop(ring1 c fh n ∗ (∃ W, owes (c : Thread nD τ) 0 W) ∗ (arg13.view.loc (c : Thread nD τ) ↦[arg13.view.set]{fullShare} X13) ∗ (∃ f, (arg12.view.loc (c : Thread nD τ) ↦[arg12.view.set]{fullShare} f)))

/-- The loop over the weight's blocks, by its ring. -/
theorem wp_t1 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (X13 : BufTy.Contents (Elt F) arg13.view.ty)
    {β : Type} (kk : Unit → Prog (TpuEff nD τ sig (Elt F) Λ₀ .tc) β) (Q : β → sProp 𝕄) :
    inv1 c fh (arg12 := arg12) X13 0
    ⊢ iprop((∀ acc : Unit, inv1 c fh (arg12 := arg12) X13 20 -∗ wp frame (wpE (defs₀ (F := F)) Variants.none (c : Thread nD τ) none) Set.univ (kk acc) Q)
      -∗ wp frame (wpE (defs₀ (F := F)) Variants.none (c : Thread nD τ) none) Set.univ
        (Scf.Loop.for k0_t1_loop (k0_t1_ok i k0_h1) ⟨⟩ (k0_t1_body (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1) >>= kk) Q) :=
  Scf.wp_for_bind Idealize.ShloMosaic.frame _ _ _ _ _ _ _ _ (fun n _ => inv1 c fh (arg12 := arg12) X13 n)
    (fun k _ => step1 c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fh X13 k)

theorem part44_core (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (fb : Buf (Elt F) (blk0.view.loc (c : Thread nD τ))) (efb : fb = fh)
    (fs0 : Buf (Elt F) (slot0.view.loc (c : Thread nD τ))) (fs1 : Buf (Elt F) ((slotAt 1).view.loc (c : Thread nD τ)))
    (X1 : BufTy.Contents (Elt F) arg1.view.ty) (X4 : BufTy.Contents (Elt F) arg4.view.ty) (W) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ held c slot0 fs0 ∗ held c (slotAt 1) fs1
      ∗ semVal ((c : Thread nD τ), cell0) 0 ∗ semVal ((c : Thread nD τ), cellAt 1) 0 ∗ held c blk0 fb ∗ wcOn c (Finset.univ \ (blkAt 0).view.set) fh
      ∗ owes (c : Thread nD τ) 0 W)
    ⊢ wp frame (wpE (defs₀ (F := F)) Variants.none (c : Thread nD τ) none) Set.univ
        (k0_part44 (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1)
        (fun _ => iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))) := by
  rw [k0_part44_eq_skeleton]; unfold k0_part44_skel
  iintro ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, HS0, HS1, HV0, HV1, HB, HR, HO⟩
  subst efb
  sl_exec
  ihave HX := (wp_t1 c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fb _ _ _) $$ [HV0 HS1 HV1 HR HO H13 H12]
  · unfold inv1 ring1
    rw [dif_pos (show 0 < 20 by decide)]
    isplitl [HV0 HS1 HV1 HR]
    · iexists _; iexists _
      isplitl [HV0]; · iexact HV0
      isplitl [HS1]; · iexact HS1
      isplitl [HV1]; · iexact HV1
      iexact HR
    isplitl [HO]; · iexists _; iexact HO
    isplitl [H13]; · iexact H13
    iexists _; iexact H12
  iapply HX
  iintro %_ HI
  unfold inv1 ring1
  rw [dif_neg (show ¬ 20 < 20 by decide)]
  icases HI with ⟨⟨%g0, %g1, HS0, HS1, HV0, HV1, HC⟩, ⟨%W', HO⟩, H13, ⟨%f12', H12⟩⟩
  sl_exec
  sl_step
  unfold slots
  isplitl [H1]; · iexact H1
  isplitl [H4]; · iexact H4
  isplitl [H7]; · iexists _; iexact H7
  isplitl [H8]; · iexists _; iexact H8
  isplitl [H10]; · iexists _; iexact H10
  isplitl [H12]; · iexists _; iexact H12
  isplitl [H13]; · iexists _; iexact H13
  isplitl [H15]; · iexists _; iexact H15
  isplitl [H16]; · iexists _; iexact H16
  isplitl [H20]; · iexists _; iexact H20
  isplitl [H21]; · iexists _; iexact H21
  isplitl [HS0 HS1]
  · isplitl [HS0]; · iexists _; iexact HS0
    iexists _; iexact HS1
  isplitl [HV0]; · iexact HV0
  isplitl [HV1]; · iexact HV1
  isplitl [HC]; · iexact HC
  iexists _; iexact HO

theorem part44_run (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt F) ((c : Thread nD τ).loc main_arg3)) (X1 : BufTy.Contents (Elt F) arg1.view.ty) (X4 : BufTy.Contents (Elt F) arg4.view.ty) (W) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots (F := F) c
      ∗ semVal ((c : Thread nD τ), cellAt 0) 0 ∗ semVal ((c : Thread nD τ), cellAt 1) 0 ∗ wcOn c Finset.univ fh ∗ owes (c : Thread nD τ) 0 W)
    ⊢ wp frame (wpE (defs₀ (F := F)) Variants.none (c : Thread nD τ) none) Set.univ
        (k0_part44 (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1)
        (fun _ => iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))) := by
  iintro ⟨H1, H4, H7, H8, H10, H12, H13, H15, H16, H20, H21, HS, HV0, HV1, HC, HO⟩
  unfold slots
  icases HS with ⟨⟨%fs0, HS0⟩, ⟨%fs1, HS1⟩⟩
  ihave HC' := (wc_split c fh 0) $$ HC
  icases HC' with ⟨HB, HR⟩
  iapply (part44_core c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fh fh rfl fs0 fs1 X1 X4 W)
  isplitl [H1]; · iexact H1
  isplitl [H4]; · iexact H4
  isplitl [H7]; · iexact H7
  isplitl [H8]; · iexact H8
  isplitl [H10]; · iexact H10
  isplitl [H12]; · iexact H12
  isplitl [H13]; · iexact H13
  isplitl [H15]; · iexact H15
  isplitl [H16]; · iexact H16
  isplitl [H20]; · iexact H20
  isplitl [H21]; · iexact H21
  isplitl [HS0]; · iexact HS0
  isplitl [HS1]; · iexact HS1
  isplitl [HV0]; · iexact HV0
  isplitl [HV1]; · iexact HV1
  isplitl [HB]; · iexact HB
  isplitl [HR]; · iexact HR
  iexact HO

theorem cond_or (i : grid0.Coords) : (k0_cond1 i = 1#1 ∧ ¬ k0_cond3 i = 1#1) ∨ (¬ k0_cond1 i = 1#1 ∧ k0_cond3 i = 1#1) := by
  unfold k0_cond1 k0_cond3
  generalize i 0 = n
  revert n; decide +kernel

theorem body_first (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (h1 : k0_cond1 i = 1#1) (h3 : ¬ k0_cond3 i = 1#1)
    (fh : Buf (Elt F) ((c : Thread nD τ).loc main_arg3)) (X1 : BufTy.Contents (Elt F) arg1.view.ty) (X4 : BufTy.Contents (Elt F) arg4.view.ty) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg9.view.loc (c : Thread nD τ) ↦[arg9.view.set]{fullShare} f)) ∗ (∃ f, (arg11.view.loc (c : Thread nD τ) ↦[arg11.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))
    ⊢ wp frame (wpE (defs₀ (F := F)) Variants.none (c : Thread nD τ) none) Set.univ
        (cc0_mx_backward (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10)
        (fun _ => iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg9.view.loc (c : Thread nD τ) ↦[arg9.view.set]{fullShare} f)) ∗ (∃ f, (arg11.view.loc (c : Thread nD τ) ↦[arg11.view.set]{fullShare} f)) ∗ slots (F := F) c
      ∗ semVal ((c : Thread nD τ), cellAt 0) 0 ∗ semVal ((c : Thread nD τ), cellAt 1) 0 ∗ wcOn c Finset.univ fh ∗ (∃ W, owes (c : Thread nD τ) 0 W))) := by
  rw [cc0_mx_backward_eq_skeleton]; unfold cc0_mx_backward_skel
  rw [dif_pos h1, dif_neg h3]
  iintro ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, ⟨%f9, H9⟩, ⟨%f11, H11⟩, HS, HV0, HV1, HC, ⟨%W, HO⟩⟩
  rw [wp_bind]
  iapply (wp_wand_r Idealize.ShloMosaic.frame (wpE (defs₀ (F := F)) Variants.none (c : Thread nD τ) none) Set.univ)
  isplitl [H1 H4 H7 H8 H10 H12 H13 H15 H16 H20 H21 HS HV0 HV1 HC HO]
  · iapply (part44_run c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  _ h1 fh X1 X4 W)
    isplitl [H1]; · iexact H1
    isplitl [H4]; · iexact H4
    isplitl [H7]; · iexists _; iexact H7
    isplitl [H8]; · iexists _; iexact H8
    isplitl [H10]; · iexists _; iexact H10
    isplitl [H12]; · iexists _; iexact H12
    isplitl [H13]; · iexists _; iexact H13
    isplitl [H15]; · iexists _; iexact H15
    isplitl [H16]; · iexists _; iexact H16
    isplitl [H20]; · iexists _; iexact H20
    isplitl [H21]; · iexists _; iexact H21
    isplitl [HS]; · iexact HS
    isplitl [HV0]; · iexact HV0
    isplitl [HV1]; · iexact HV1
    isplitl [HC]; · iexact HC
    iexact HO
  iintro %v ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, HS, HV0, HV1, HC, HO⟩
  sl_exec
  sl_step
  isplitl [H1]; · iexact H1
  isplitl [H4]; · iexact H4
  isplitl [H7]; · iexists _; iexact H7
  isplitl [H8]; · iexists _; iexact H8
  isplitl [H10]; · iexists _; iexact H10
  isplitl [H12]; · iexists _; iexact H12
  isplitl [H13]; · iexists _; iexact H13
  isplitl [H15]; · iexists _; iexact H15
  isplitl [H16]; · iexists _; iexact H16
  isplitl [H20]; · iexists _; iexact H20
  isplitl [H21]; · iexists _; iexact H21
  isplitl [H9]; · iexists _; iexact H9
  isplitl [H11]; · iexists _; iexact H11
  isplitl [HS]; · iexact HS
  isplitl [HV0]; · iexact HV0
  isplitl [HV1]; · iexact HV1
  isplitl [HC]; · iexact HC
  iexact HO

theorem off21_eq (i : grid0.Coords) : k0_off21 i = ![8 * (((i 0).val + 3) % 4), 0] := by
  unfold k0_off21
  generalize i 0 = n
  revert n; decide +kernel
instance closed21 (i : grid0.Coords) : ClosedOff (k0_off21 i) := ⟨![8 * (((i 0).val + 3) % 4), 0], off21_eq i⟩

theorem body_later (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (h1 : ¬ k0_cond1 i = 1#1) (h3 : k0_cond3 i = 1#1)
    (X1 : BufTy.Contents (Elt F) arg1.view.ty) (X2 : BufTy.Contents (Elt F) arg2.view.ty) (X3 : BufTy.Contents (Elt F) arg3.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f))) : sProp 𝕄)
    ⊢ wp frame (wpE (defs₀ (F := F)) Variants.none (c : Thread nD τ) none) Set.univ
        (cc0_mx_backward (F := F) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)))) := by
  rw [cc0_mx_backward_eq_skeleton]; unfold cc0_mx_backward_skel
  rw [dif_neg h1, dif_pos h3]
  iintro ⟨H1, H2, H3, ⟨%f6, H6⟩, ⟨%f7, H7⟩, ⟨%f8, H8⟩, ⟨%f9, H9⟩, ⟨%f10, H10⟩, ⟨%f11, H11⟩, ⟨%f12, H12⟩, ⟨%f15, H15⟩, ⟨%f16, H16⟩, ⟨%f17, H17⟩, ⟨%f18, H18⟩, ⟨%f19, H19⟩, ⟨%f20, H20⟩, ⟨%f21, H21⟩⟩
  sl_exec
  sl_step
  isplitl [H1]; · iexact H1
  isplitl [H2]; · iexact H2
  isplitl [H3]; · iexact H3
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.KernelIdeal.Hand

end
-- ==== Proof.KernelIdealHand.lean ====
module

public import proofs.«01_k».proof.Proof.KernelIdealBody
public import proofs.«01_k».proof.Proof.Gen.KernelIdeal.Frame
public import Idealize.ShloMosaic.Lib.Pipeline.FrameSuffixR
public import Idealize.ShloMosaic.Adequacy
public import Idealize.ShloMosaic.Init

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

/-- The resource algebra: the pipeline's, with the counters of the kernel's own transfers. -/
local notation "𝕄" => MT nD τ sig Unit (Elt F) ℕ (Pipeline.UD sig nD τ) ℕ

variable (m : (ℓ : Loc nD τ sig) → Buf (Elt F) ℓ) (ρ : Dev nD → PrngReg)

/-- The two semaphores of the kernel's own transfers. -/
abbrev osem0 : Fin 2 → SemLoc sig := fun j => (![SemLoc.dma 18, SemLoc.dma 19] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0) := by
  rw [Pipeline.ownSems0_eq_of_list c osem0 [0, 1] (by decide) (by decide)]; rfl
/-- The weight codes, read where they lie. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c : Thread nD τ).loc main_arg3 ↦{fullShare} V m c main_arg3) := by
  rw [BI.bigSep_eq_bigSepL_of_eq [main_arg3] (by decide) (by decide)]; rfl

theorem PhiD0_eq (c : Dev nD) :
    (Pipeline.ΦD osem0 spec0 H0 (V m) c : sProp 𝕄)
      = iprop(iprop((∃ d, owns (c : Thread nD τ) (Memref.whole cc0_scratch0) fullShare d) ∗ (∃ d, owns (c : Thread nD τ) (Memref.whole cc0_scratch1) fullShare d) ∗ (∃ f : Buf (Elt F) ((c : Thread nD τ).loc cc0_scratch2), (c : Thread nD τ).loc cc0_scratch2 ↦{fullShare} f) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d))
          ∗ (∃ r, prngReg c r)
          ∗ iprop(semVal ((c : Thread nD τ), SemLoc.dma 18) 0 ∗ semVal ((c : Thread nD τ), SemLoc.dma 19) 0)
          ∗ iprop((c : Thread nD τ).loc main_arg3 ↦{fullShare} V m c main_arg3)) := by
  rw [Pipeline.ΦD_eq, scopedRest0_eq, ownSems00_eq, hbmPts0_eq]
  simp only [owns_whole]; try rfl

/-- The staging buffer is its two slots and what lies beside them. -/
theorem slots_open (c : Dev nD) :
    iprop(∃ f : Buf (Elt F) ((c : Thread nD τ).loc cc0_scratch2), (c : Thread nD τ).loc cc0_scratch2 ↦{fullShare} f)
    ⊢ (iprop(slots c ∗ (∃ f : Buf (Elt F) ((c : Thread nD τ).loc cc0_scratch2), (c : Thread nD τ).loc cc0_scratch2 ↦[(Finset.univ \ (slotAt 0).view.set) \ (slotAt 1).view.set]{fullShare} f)) : sProp 𝕄) := by
  iintro ⟨%f, H⟩
  ihave H' := ((pointsTo_split_subset (I := (slotAt 0).view.set) (Finset.subset_univ _)).1) $$ H
  icases H' with ⟨H0, HR⟩
  ihave H' := ((pointsTo_split_subset (ℓ := (c : Thread nD τ).loc cc0_scratch2) (q := fullShare) (f := f) (I := (slotAt 1).view.set) (S := Finset.univ \ (slotAt 0).view.set) (Finset.subset_sdiff.mpr ⟨Finset.subset_univ _, slot_disj.symm⟩)).1) $$ HR
  icases H' with ⟨H1, HR⟩
  unfold slots
  isplitl [H0 H1]
  · isplitl [H0]; · iexists _; iexact H0
    iexists _; iexact H1
  iexists _; iexact HR
theorem slots_close (c : Dev nD) :
    (iprop(slots c ∗ (∃ f : Buf (Elt F) ((c : Thread nD τ).loc cc0_scratch2), (c : Thread nD τ).loc cc0_scratch2 ↦[(Finset.univ \ (slotAt 0).view.set) \ (slotAt 1).view.set]{fullShare} f)) : sProp 𝕄)
    ⊢ iprop(∃ f : Buf (Elt F) ((c : Thread nD τ).loc cc0_scratch2), (c : Thread nD τ).loc cc0_scratch2 ↦{fullShare} f) := by
  unfold slots
  iintro ⟨⟨⟨%f0, H0⟩, ⟨%f1, H1⟩⟩, ⟨%f, HR⟩⟩
  have e1 : (slotAt 1).view.set ∪ ((Finset.univ \ (slotAt 0).view.set) \ (slotAt 1).view.set) = Finset.univ \ (slotAt 0).view.set :=
    Finset.union_sdiff_of_subset (Finset.subset_sdiff.mpr ⟨Finset.subset_univ _, slot_disj.symm⟩)
  have e0 : (slotAt 0).view.set ∪ (Finset.univ \ (slotAt 0).view.set) = Finset.univ := Finset.union_sdiff_of_subset (Finset.subset_univ _)
  ihave HR := (pointsTo_join (f := f1) (Finset.disjoint_sdiff (s := (slotAt 1).view.set) (t := Finset.univ \ (slotAt 0).view.set))) $$ [H1 HR]
  · isplitl [H1]; · iexact H1
    iexact HR
  rw [e1]
  ihave HR := (pointsTo_join (f := f0) (Finset.disjoint_sdiff (s := (slotAt 0).view.set) (t := Finset.univ))) $$ [H0 HR]
  · isplitl [H0]; · iexact H0
    iexact HR
  rw [e0]
  iexists _; iexact HR

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! An input's buffer holds its block. -/
theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The windows that hold results. -/
abbrev fgt : Fin cfg0.W → Bool := fun w => decide (4 ≤ w.val)

/-- The proof data: the arrays as the call finds them, each input's block kept, nothing said of the results. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨n + 4, h⟩ => fun _ => default
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  simp only [before0_0 m (dats m 0 c) rfl (fun _ => rfl), before0_1 m (dats m 0 c) rfl (fun _ => rfl),
    before0_2 m (dats m 0 c) rfl (fun _ => rfl), before0_3 m (dats m 0 c) rfl (fun _ => rfl)]
  unfold owns
  iintro ⟨⟨⟨⟨%d12, %f12, -, H12⟩, ⟨%d13, %f13, -, H13⟩, HB, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩⟩, Hg, ⟨HV0, HV1⟩, HC⟩, ⟨%W, -, HO⟩, ⟨%d1, %f1, %e1, H1⟩, ⟨%d2, %f2, %e2, H2⟩, ⟨%d3, %f3, %e3, H3⟩, ⟨%d4, %f4, %e4, H4⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩
  rcases cond_or (grid0.coords t) with ⟨h1, h3⟩ | ⟨h1, h3⟩
  · ihave HB := (slots_open (F := F) c) $$ HB
    icases HB with ⟨HS, HRB⟩
    iapply (wp_wand_r Idealize.ShloMosaic.frame (wpE (defs₀ (F := F)) Variants.none (c : Thread nD τ) none) Set.univ)
    isplitl [H1 H4 H7 H8 H10 H12 H13 H15 H16 H20 H21 H9 H11 HS HV0 HV1 HC HO]
    · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h3 (V m c main_arg3) f1 f4)
      isplitl [H1]; · iexact H1
      isplitl [H4]; · iexact H4
      isplitl [H7]; · iexists _; iexact H7
      isplitl [H8]; · iexists _; iexact H8
      isplitl [H10]; · iexists _; iexact H10
      isplitl [H12]; · iexists _; iexact H12
      isplitl [H13]; · iexists _; iexact H13
      isplitl [H15]; · iexists _; iexact H15
      isplitl [H16]; · iexists _; iexact H16
      isplitl [H20]; · iexists _; iexact H20
      isplitl [H21]; · iexists _; iexact H21
      isplitl [H9]; · iexists _; iexact H9
      isplitl [H11]; · iexists _; iexact H11
      isplitl [HS]; · iexact HS
      isplitl [HV0]; · iexact HV0
      isplitl [HV1]; · iexact HV1
      isplitl [HC]; · iexact HC
      iexists _; iexact HO
    iintro %_ ⟨H1, H4, ⟨%g7, H7⟩, ⟨%g8, H8⟩, ⟨%g10, H10⟩, ⟨%g12, H12⟩, ⟨%g13, H13⟩, ⟨%g15, H15⟩, ⟨%g16, H16⟩, ⟨%g20, H20⟩, ⟨%g21, H21⟩, ⟨%g9, H9⟩, ⟨%g11, H11⟩, HS, HV0, HV1, HC, HO⟩
    ihave HB := (slots_close (F := F) c) $$ [HS HRB]
    · isplitl [HS]; · iexact HS
      iexact HRB
    isplitl [HB H12 H13 H15 H16 H17 H18 H19 H20 H21 Hg HV0 HV1 HC]
    · isplitl [HB H12 H13 H15 H16 H17 H18 H19 H20 H21]
      · isplitl [H12]
        · iexists _; iexists _; isplitr; swap; · iexact H12
          ipureintro; rfl
        isplitl [H13]
        · iexists _; iexists _; isplitr; swap; · iexact H13
          ipureintro; rfl
        isplitl [HB]; · iexact HB
        isplitl [H15]
        · iexists _; iexists _; isplitr; swap; · iexact H15
          ipureintro; rfl
        isplitl [H16]
        · iexists _; iexists _; isplitr; swap; · iexact H16
          ipureintro; rfl
        isplitl [H17]
        · iexists _; iexists _; isplitr; swap; · iexact H17
          ipureintro; rfl
        isplitl [H18]
        · iexists _; iexists _; isplitr; swap; · iexact H18
          ipureintro; rfl
        isplitl [H19]
        · iexists _; iexists _; isplitr; swap; · iexact H19
          ipureintro; rfl
        isplitl [H20]
        · iexists _; iexists _; isplitr; swap; · iexact H20
          ipureintro; rfl
        iexists _; iexists _; isplitr; swap; · iexact H21
        ipureintro; rfl
      isplitl [Hg]; · iexact Hg
      isplitl [HV0 HV1]
      · isplitl [HV0]; · iexact HV0
        iexact HV1
      iexact HC
    isplitl [HO]
    · icases HO with ⟨%W', HO⟩
      iexists W'; isplitr; · ipureintro; exact fun _ _ => Or.inl trivial
      iexact HO
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl
  · iapply (wp_wand_r Idealize.ShloMosaic.frame (wpE (defs₀ (F := F)) Variants.none (c : Thread nD τ) none) Set.univ)
    isplitl [H1 H2 H3 H6 H7 H8 H9 H10 H11 H12 H15 H16 H17 H18 H19 H20 H21]
    · iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h3 f1 f2 f3)
      isplitl [H1]; · iexact H1
      isplitl [H2]; · iexact H2
      isplitl [H3]; · iexact H3
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      iexists _; iexact H21
    iintro %_ ⟨H1, H2, H3, ⟨%g6, H6⟩, ⟨%g7, H7⟩, ⟨%g8, H8⟩, ⟨%g9, H9⟩, ⟨%g10, H10⟩, ⟨%g11, H11⟩, ⟨%g12, H12⟩, ⟨%g15, H15⟩, ⟨%g16, H16⟩, ⟨%g17, H17⟩, ⟨%g18, H18⟩, ⟨%g19, H19⟩, ⟨%g20, H20⟩, ⟨%g21, H21⟩⟩
    ihave HO : iprop(∃ W, owes (c : Thread nD τ) 0 W) $$ [HO]
    · iexists _; iexact HO
    isplitl [HB H12 H13 H15 H16 H17 H18 H19 H20 H21 Hg HV0 HV1 HC]
    · isplitl [HB H12 H13 H15 H16 H17 H18 H19 H20 H21]
      · isplitl [H12]
        · iexists _; iexists _; isplitr; swap; · iexact H12
          ipureintro; rfl
        isplitl [H13]
        · iexists _; iexists _; isplitr; swap; · iexact H13
          ipureintro; rfl
        isplitl [HB]; · iexact HB
        isplitl [H15]
        · iexists _; iexists _; isplitr; swap; · iexact H15
          ipureintro; rfl
        isplitl [H16]
        · iexists _; iexists _; isplitr; swap; · iexact H16
          ipureintro; rfl
        isplitl [H17]
        · iexists _; iexists _; isplitr; swap; · iexact H17
          ipureintro; rfl
        isplitl [H18]
        · iexists _; iexists _; isplitr; swap; · iexact H18
          ipureintro; rfl
        isplitl [H19]
        · iexists _; iexists _; isplitr; swap; · iexact H19
          ipureintro; rfl
        isplitl [H20]
        · iexists _; iexists _; isplitr; swap; · iexact H20
          ipureintro; rfl
        iexists _; iexists _; isplitr; swap; · iexact H21
        ipureintro; rfl
      isplitl [Hg]; · iexact Hg
      isplitl [HV0 HV1]
      · isplitl [HV0]; · iexact HV0
        iexact HV1
      iexact HC
    isplitl [HO]
    · icases HO with ⟨%W', HO⟩
      iexists W'; isplitr; · ipureintro; exact fun _ _ => Or.inl trivial
      iexact HO
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_dma_forget (Q' := _) cfgs (dats m) (0 : Fin 1) launch0 osem0 defs₀ Variants.none fgt ownSemFacts0 H0 H0_sub m ρ main
    (hbody := fun c => (body_obligation m c).loose) (hshare := fun c => (dats m 0 c).share_full fun _ => rfl)
    (howed := fun _ _ => rfl) (V := V m)
    (hmain := hmainD m Variants.none) (hA := A_eq m) (hin := fun _ => .rfl) (hout := fun _ => .rfl) (hQ' := fun _ h => h)

/-- The arguments end as they began, and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
    (h.1 c).2 main_arg0 (by decide) |>.trans (V_main_arg0 m c),
    (h.1 c).2 main_arg1 (by decide) |>.trans (V_main_arg1 m c),
    (h.1 c).2 main_arg2 (by decide) |>.trans (V_main_arg2 m c),
    (h.1 c).2 main_arg3 (by decide) |>.trans (V_main_arg3 m c),
    (Pipeline.RDat.FramePost.arr_in h.1 c 3 rfl).trans (V_main_arg4 m c)⟩, h.2⟩) (run_main m ρ)

end Cert.KernelIdeal.Hand

end
-- ==== Proof.Scale.lean ====
module

public import Idealize.ShloMosaic.PureOps.Ideal
public import Idealize.ShloMosaic.PureOps.Ideal.Laws

@[expose] public section

noncomputable section

/-! The power-of-two scale of a block, found two ways: by comparing the block's largest magnitude
with words whose exponent fields are tried from the top bit down, and by a logarithm. -/

namespace Cert.Scale

open Idealize.ShloMosaic

/-- A normal binary32 pattern, by its exponent field and its fraction. -/
theorem f32_word (b fr : ℕ) (h1 : 1 ≤ b) (h2 : b ≤ 254) (hf : fr < 8388608) :
    Ideal.ofBits .f32 (BitVec.ofNat 32 (b * 8388608 + fr))
      = (((8388608 + fr : ℕ) * (2 : ℝ) ^ ((b : ℤ) - 150) : ℝ) : EReal) := by
  have e0 : (BitVec.ofNat 32 (b * 8388608 + fr)).toNat = b * 8388608 + fr := by
    rw [BitVec.toNat_ofNat]; exact Nat.mod_eq_of_lt (by omega)
  have ex : ((BitVec.ofNat 32 (b * 8388608 + fr)).extractLsb' 23 8).toNat = b := by
    rw [BitVec.extractLsb'_toNat, e0, Nat.shiftRight_eq_div_pow]; omega
  have fx : ((BitVec.ofNat 32 (b * 8388608 + fr)).extractLsb' 0 23).toNat = fr := by
    rw [BitVec.extractLsb'_toNat, e0, Nat.shiftRight_eq_div_pow]; omega
  have sx : ((BitVec.ofNat 32 (b * 8388608 + fr)).extractLsb' 31 1) = 0#1 := by
    apply BitVec.eq_of_toNat_eq
    rw [BitVec.extractLsb'_toNat, e0, Nat.shiftRight_eq_div_pow]
    simp; omega
  show Ideal.ieee 8 23 _ = _
  unfold Ideal.ieee
  simp only [ex, fx, sx]
  rw [if_neg (by norm_num; omega), if_neg (by omega)]
  congr 1
  have : ((b : ℤ) - (2 ^ (8 - 1) - 1) - (23 : ℕ)) = (b : ℤ) - 150 := by norm_num; ring
  simp [this]
  left; norm_num; ring_nf

/-- An exponent field alone is a power of two. -/
theorem f32_pow (b : ℕ) (h1 : 1 ≤ b) (h2 : b ≤ 254) :
    Ideal.ofBits .f32 (BitVec.ofNat 32 (b * 8388608)) = (((2 : ℝ) ^ ((b : ℤ) - 127) : ℝ) : EReal) := by
  have := f32_word b 0 h1 h2 (by norm_num)
  rw [Nat.add_zero] at this
  rw [this]; congr 1
  rw [show (b : ℤ) - 127 = 23 + ((b : ℤ) - 150) by ring, zpow_add₀ (by norm_num)]
  norm_num

/-- The least magnitude for which exponent field `n` is tried with success. -/
def thr (n : ℕ) : EReal := ((28672 * (2 : ℝ) ^ ((n : ℤ) - 127) : ℝ) : EReal)

theorem thr_word (n : ℕ) (h : n ≤ 240) :
    Ideal.ofBits .f32 (BitVec.ofNat 32 (n * 8388608 + 123731968)) = thr n := by
  rw [show n * 8388608 + 123731968 = (n + 14) * 8388608 + 6291456 by ring,
    f32_word (n + 14) 6291456 (by omega) (by omega) (by norm_num)]
  unfold thr; congr 1
  rw [show ((n + 14 : ℕ) : ℤ) - 150 = ((n : ℤ) - 127) + (-9) by push_cast; ring, zpow_add₀ (by norm_num)]
  norm_num; ring

theorem thr_mono {a b : ℕ} (h : a ≤ b) : thr a ≤ thr b := by
  unfold thr
  exact EReal.coe_le_coe_iff.mpr (mul_le_mul_of_nonneg_left (zpow_le_zpow_right₀ (by norm_num) (by omega)) (by norm_num))

/-- One trial: the word with `c` added, when the magnitude reaches it. -/
def trial (c : BitVec 32) (a : EReal) (t : BitVec 32) : BitVec 32 :=
  if Ideal.ofBits .f32 (t + c) ≤ a then t + c else t

/-- The scale's word: eight trials from the least word, taken back to a power of two; one for a small magnitude. -/
def word (a : EReal) : BitVec 32 :=
  if a < Ideal.ofBits .f32 140509184#32 then 1065353216#32 else
    trial 8388608#32 a (trial 16777216#32 a (trial 33554432#32 a (trial 58720256#32 a
      (trial 125829120#32 a (trial 251658240#32 a (trial 503316480#32 a (trial 998244352#32 a 140509184#32))))))) - 123731968#32

/-- The field a magnitude reaches. -/
def Good (a : EReal) (R n : ℕ) : Prop := 2 ≤ n ∧ thr n ≤ a ∧ (n + R + 1 ≤ 240 → a < thr (n + R + 1)) ∧ n + R ≤ 240

theorem trial_good {a : EReal} {s R R' n : ℕ} (h : Good a R n) (hs : s ≤ R) (hR : R - s ≤ R') (hR' : s - 1 ≤ R') (h0 : 1 ≤ s)
    (hR2 : R' ≤ R - s) :
    ∃ n', trial (BitVec.ofNat 32 (s * 8388608)) a (BitVec.ofNat 32 (n * 8388608 + 123731968))
      = BitVec.ofNat 32 (n' * 8388608 + 123731968) ∧ Good a R' n' := by
  obtain ⟨h2, hle, hlt, hn⟩ := h
  have e : BitVec.ofNat 32 (n * 8388608 + 123731968) + BitVec.ofNat 32 (s * 8388608) = BitVec.ofNat 32 ((n + s) * 8388608 + 123731968) := by
    rw [show (n + s) * 8388608 + 123731968 = (n * 8388608 + 123731968) + s * 8388608 by ring]; exact (BitVec.ofNat_add _ _).symm
  unfold trial
  rw [e, thr_word (n + s) (by omega)]
  by_cases hc : thr (n + s) ≤ a
  · refine ⟨n + s, if_pos hc, by omega, hc, fun hb => ?_, by omega⟩
    have := hlt (by omega)
    exact lt_of_lt_of_le this (thr_mono (by omega))
  · refine ⟨n, if_neg hc, h2, hle, fun hb => ?_, by omega⟩
    exact lt_of_lt_of_le (not_le.mp hc) (thr_mono (by omega))

theorem word_spec (a : EReal) : ∃ B : ℕ, 2 ≤ B ∧ B ≤ 240 ∧ word a = BitVec.ofNat 32 (B * 8388608) ∧
    ((a < thr 2 ∧ B = 127) ∨ (thr B ≤ a ∧ (B = 240 ∨ a < thr (B + 1)))) := by
  have e2 : Ideal.ofBits .f32 140509184#32 = thr 2 := thr_word 2 (by norm_num)
  unfold word
  rw [e2]
  by_cases h : a < thr 2
  · exact ⟨127, by norm_num, by norm_num, if_pos h, Or.inl ⟨h, rfl⟩⟩
  have g0 : Good a 238 2 := ⟨le_rfl, not_lt.mp h, fun hb => absurd hb (by norm_num), le_rfl⟩
  obtain ⟨n1, e1, g1⟩ := trial_good (s := 119) (R' := 119) g0 (by norm_num) (by norm_num) (by norm_num) (by norm_num) (by norm_num)
  obtain ⟨n2, e2, g2⟩ := trial_good (s := 60) (R' := 59) g1 (by norm_num) (by norm_num) (by norm_num) (by norm_num) (by norm_num)
  obtain ⟨n3, e3, g3⟩ := trial_good (s := 30) (R' := 29) g2 (by norm_num) (by norm_num) (by norm_num) (by norm_num) (by norm_num)
  obtain ⟨n4, e4, g4⟩ := trial_good (s := 15) (R' := 14) g3 (by norm_num) (by norm_num) (by norm_num) (by norm_num) (by norm_num)
  obtain ⟨n5, e5, g5⟩ := trial_good (s := 7) (R' := 7) g4 (by norm_num) (by norm_num) (by norm_num) (by norm_num) (by norm_num)
  obtain ⟨n6, e6, g6⟩ := trial_good (s := 4) (R' := 3) g5 (by norm_num) (by norm_num) (by norm_num) (by norm_num) (by norm_num)
  obtain ⟨n7, e7, g7⟩ := trial_good (s := 2) (R' := 1) g6 (by norm_num) (by norm_num) (by norm_num) (by norm_num) (by norm_num)
  obtain ⟨n8, e8, g8⟩ := trial_good (s := 1) (R' := 0) g7 (by norm_num) (by norm_num) (by norm_num) (by norm_num) (by norm_num)
  norm_num at e1 e2 e3 e4 e5 e6 e7 e8
  rw [if_neg h, e1, e2, e3, e4, e5, e6, e7, e8]
  obtain ⟨h2, hle, hlt, hn⟩ := g8
  refine ⟨n8, h2, by omega, ?_, Or.inr ⟨hle, ?_⟩⟩
  · rw [BitVec.ofNat_add]; exact BitVec.add_sub_cancel _ _
  · by_cases hb : n8 = 240
    · exact Or.inl hb
    · exact Or.inr (by simpa using hlt (by omega))

/-- The exponent by a logarithm: of the magnitude over the greatest code, floored, one more, no more than 113; zero
for a quotient less than the least normal number. -/
def expo (a : EReal) : EReal :=
  if Ideal.div a (Ideal.ofBits .f32 0x47600000#32) < Ideal.ofBits .f32 0x00800000#32 then 0 else
    min (Ideal.liftRound Int.floor (Ideal.div (Ideal.log (Ideal.div a (Ideal.ofBits .f32 0x47600000#32))) (Ideal.log (Ideal.ofBits .f32 0x40000000#32))) + 1) 113

theorem c57344 : Ideal.ofBits .f32 0x47600000#32 = ((57344 : ℝ) : EReal) := by
  have := f32_word 142 6291456 (by norm_num) (by norm_num) (by norm_num)
  norm_num at this ⊢; exact this
theorem cmin : Ideal.ofBits .f32 0x00800000#32 = (((2 : ℝ) ^ (-126 : ℤ) : ℝ) : EReal) := by
  have := f32_pow 1 (by norm_num) (by norm_num)
  norm_num at this ⊢; exact this
theorem ctwo : Ideal.ofBits .f32 0x40000000#32 = ((2 : ℝ) : EReal) := by
  have := f32_pow 128 (by norm_num) (by norm_num)
  norm_num at this ⊢; exact this

theorem expo_spec (a : EReal) (ha : 0 ≤ a) (B : ℕ) (h2 : 2 ≤ B) (h240 : B ≤ 240)
    (h : (a < thr 2 ∧ B = 127) ∨ (thr B ≤ a ∧ (B = 240 ∨ a < thr (B + 1)))) :
    expo a = (((B : ℝ) - 127 : ℝ) : EReal) := by
  unfold expo
  rw [c57344, cmin, ctwo, Ideal.div_coe (by norm_num)]
  induction a with
  | bot => exact absurd ha (by simp)
  | top =>
    have hB : B = 240 := by
      rcases h with ⟨h, _⟩ | ⟨_, h | h⟩
      · exact absurd h (by simp)
      · exact h
      · exact absurd h (by simp)
    subst hB
    have l2 : (0:ℝ) < Real.log 2 := Real.log_pos (by norm_num)
    have t1 : (⊤ : EReal) * ((1 / 57344 : ℝ) : EReal) = ⊤ := EReal.top_mul_coe_of_pos (by norm_num)
    rw [t1, if_neg (by simp)]
    simp only [Ideal.log_top, Ideal.log_coe]
    rw [if_neg (by norm_num), Ideal.div_coe l2.ne', EReal.top_mul_coe_of_pos (by positivity)]
    show min ((⊤ : EReal) + 1) 113 = _
    rw [EReal.top_add_of_ne_bot (by decide)]
    rw [show (113 : EReal) = ((113 : ℝ) : EReal) from rfl, min_eq_right le_top]
    norm_num
  | coe r =>
    have l2 : (0:ℝ) < Real.log 2 := Real.log_pos (by norm_num)
    have hz2 : (2:ℝ) ^ (-126 : ℤ) = 28672 * (2 : ℝ) ^ ((2 : ℕ) - 127 : ℤ) * (1 / 57344) := by
      rw [show (-126 : ℤ) = 1 + ((2 : ℕ) - 127 : ℤ) - 2 by norm_num, zpow_sub₀ (by norm_num), zpow_add₀ (by norm_num)]; norm_num
    rw [← EReal.coe_mul]
    rcases h with ⟨h, rfl⟩ | ⟨hle, hlt⟩
    · have h' : r < 28672 * (2 : ℝ) ^ ((2 : ℕ) - 127 : ℤ) := EReal.coe_lt_coe_iff.mp h
      rw [if_pos (EReal.coe_lt_coe_iff.mpr (by rw [hz2]; exact mul_lt_mul_of_pos_right h' (by norm_num)))]
      norm_num
    · have hle' : 28672 * (2 : ℝ) ^ ((B : ℤ) - 127) ≤ r := EReal.coe_le_coe_iff.mp hle
      have hq : (2 : ℝ) ^ ((B : ℤ) - 128) ≤ r * (1 / 57344) := by
        rw [show (B : ℤ) - 127 = 1 + ((B : ℤ) - 128) by ring, zpow_add₀ (by norm_num)] at hle'
        norm_num at hle' ⊢; linarith
      have hpos : 0 < r * (1 / 57344) := lt_of_lt_of_le (by positivity) hq
      have hge : (2:ℝ) ^ (-126 : ℤ) ≤ r * (1 / 57344) := le_trans (zpow_le_zpow_right₀ (by norm_num) (by omega)) hq
      rw [if_neg (not_lt.mpr (EReal.coe_le_coe_iff.mpr hge))]
      simp only [Ideal.log_coe]
      rw [if_neg (not_le.mpr hpos), if_neg (by norm_num), Ideal.div_coe l2.ne', ← EReal.coe_mul]
      set L := Real.log (r * (1 / 57344)) * (1 / Real.log 2) with hL
      have hLge : ((B : ℝ) - 128) ≤ L := by
        have := Real.log_le_log (by positivity) hq
        rw [Real.log_zpow] at this
        rw [hL, mul_one_div, le_div_iff₀ l2]; push_cast at this; exact this
      show min (((⌊L⌋ : ℤ) : ℝ) + 1 : EReal) 113 = _
      rw [show (113 : EReal) = ((113 : ℝ) : EReal) from rfl, show (1 : EReal) = ((1 : ℝ) : EReal) from rfl, ← EReal.coe_add, ← EReal.coe_strictMono.monotone.map_min]
      congr 1
      have hf1 : ((B : ℤ) - 128) ≤ ⌊L⌋ := Int.le_floor.mpr (by push_cast; exact hLge)
      have hf1' : ((B : ℝ) - 128) ≤ (⌊L⌋ : ℝ) := by exact_mod_cast hf1
      rcases hlt with rfl | hlt
      · rw [min_eq_right]; · norm_num
        norm_num at hf1' ⊢; linarith
      · have hlt' : r < 28672 * (2 : ℝ) ^ (((B + 1 : ℕ) : ℤ) - 127) := EReal.coe_lt_coe_iff.mp hlt
        have hq2 : r * (1 / 57344) < (2 : ℝ) ^ ((B : ℤ) - 127) := by
          rw [show ((B + 1 : ℕ) : ℤ) - 127 = 1 + ((B : ℤ) - 127) by push_cast; ring, zpow_add₀ (by norm_num)] at hlt'
          norm_num at hlt' ⊢; linarith
        have hLlt : L < ((B : ℝ) - 127) := by
          have := Real.log_lt_log hpos hq2
          rw [Real.log_zpow] at this
          rw [hL, mul_one_div, div_lt_iff₀ l2]; push_cast at this; exact this
        have hf2 : ⌊L⌋ < (B : ℤ) - 127 := Int.floor_lt.mpr (by push_cast; exact hLlt)
        have hfe : ⌊L⌋ = (B : ℤ) - 128 := by omega
        rw [hfe, min_eq_left]
        · push_cast; ring
        · push_cast
          have : (B : ℝ) ≤ 240 := by exact_mod_cast h240
          linarith

/-- The scale and its inverse as the word's patterns denote them, against the exponent's powers. -/
theorem scale_eq (a : EReal) (ha : 0 ≤ a) :
    ∃ B : ℕ, 2 ≤ B ∧ B ≤ 240 ∧ expo a = (((B : ℝ) - 127 : ℝ) : EReal)
      ∧ word a = BitVec.ofNat 32 (B * 8388608)
      ∧ Ideal.ofBits .f32 (word a) = (((2 : ℝ) ^ ((B : ℤ) - 127) : ℝ) : EReal)
      ∧ Ideal.ofBits .f32 (2130706432#32 - word a) = (((2 : ℝ) ^ (127 - (B : ℤ)) : ℝ) : EReal) := by
  obtain ⟨B, h2, h240, hw, h⟩ := word_spec a
  refine ⟨B, h2, h240, expo_spec a ha B h2 h240 h, hw, ?_, ?_⟩
  · rw [hw]; exact f32_pow B (by omega) (by omega)
  · have : 2130706432#32 - word a = BitVec.ofNat 32 ((254 - B) * 8388608) := by
      rw [hw]; apply BitVec.eq_of_toNat_eq
      rw [BitVec.toNat_sub, BitVec.toNat_ofNat, BitVec.toNat_ofNat, BitVec.toNat_ofNat]; omega
    rw [this, f32_pow (254 - B) (by omega) (by omega)]
    congr 2; push_cast [Nat.cast_sub (show B ≤ 254 by omega)]; ring

/-- The exponent's scale, as the reference decodes its stored byte. -/
theorem byte_eq (a : EReal) (ha : 0 ≤ a) (B : ℕ) (h2 : 2 ≤ B) (h240 : B ≤ 240) (he : expo a = (((B : ℝ) - 127 : ℝ) : EReal)) :
    ((((BitVec.setWidth 8 (Ideal.fptosi 32 (expo a + ((127 : ℝ) : EReal)))).setWidth 32 : BitVec 32).toInt : ℝ)) = (B : ℝ) := by
  rw [he, ← EReal.coe_add, show ((B : ℝ) - 127 + 127) = (B : ℝ) by ring]
  have : Ideal.fptosi 32 ((B : ℝ) : EReal) = BitVec.ofNat 32 B := by
    unfold Ideal.fptosi
    rw [Ideal.toIntClamped_coe, if_pos (by positivity), Int.floor_natCast]
    have : max (-((2 ^ (32 - 1) : ℕ) : ℤ)) (min (((2 ^ (32 - 1) : ℕ) : ℤ) - 1) (B : ℤ)) = (B : ℤ) := by
      rw [min_eq_right (by norm_num; omega), max_eq_right (by norm_num)]
    rw [this]; rfl
  rw [this]
  have e : ((BitVec.ofNat 32 B).setWidth 8).setWidth 32 = BitVec.ofNat 32 B := by
    apply BitVec.eq_of_toNat_eq
    simp only [BitVec.toNat_setWidth, BitVec.toNat_ofNat]; omega
  rw [e, BitVec.toInt_eq_toNat_of_lt (by rw [BitVec.toNat_ofNat]; omega), BitVec.toNat_ofNat, Nat.mod_eq_of_lt (by omega)]
  norm_num

end Cert.Scale

end
-- ==== Proof.KernelIdealStrip.lean ====
module

public import proofs.«01_k».proof.Proof.Gen.KernelIdeal.Frame
public import proofs.«01_k».proof.Proof.Gen.KernelIdeal.Loops
public import proofs.«01_k».proof.Proof.Scale
public import Idealize.ShloMosaic.Lib.Pointwise
public import Idealize.ShloMosaic.Lib.WritesUnit
public import Idealize.ShloMosaic.Lib.VecWindow

@[expose] public section

set_option maxRecDepth 16384
set_option maxHeartbeats 4000000

noncomputable section

namespace Cert.KernelIdeal.Hand

open Idealize.ShloMosaic Idealize.ShloMosaic.TcCoe Idealize.ShloMosaic.Tactic
open Cert.KernelIdeal Cert.KernelIdeal.Gen

section Defs
variable {F : FTy → Type} [FloatOps F]

/-- The codes of a strip of thirty-two rows. -/
def QC (y : Vec F S32x128 .bf16) : FVec F S32x128 .fp8e5m2 :=
  k0_pay268 (Scalar.ofBits .bf16 0x4760#16) (k0_pay266 (k0_pay257 y) (k0_pay259 y) (k0_pay261 y) (k0_pay262 y) 503316480#32)

/-- The strip's codes, scaled back. -/
def QV (y : Vec F S32x128 .bf16) : FVec F S32x128 .bf16 :=
  k0_pay269 (k0_pay265 (k0_pay259 y) (k0_pay261 y) (k0_pay262 y) 503316480#32) (Scalar.ofBits .bf16 0x4760#16)
    (k0_pay266 (k0_pay257 y) (k0_pay259 y) (k0_pay261 y) (k0_pay262 y) 503316480#32)

/-- What a strip's store leaves: the strip's image of what lies at the same place in the tile. -/
def pc {e : EltTy} (Q : Vec F S32x128 .bf16 → Vec F S32x128 e) (v : View sig .tc .vmem S256x5120 .bf16) (X : v.ty.Contents (Elt F)) (off : Fin 2 → ℕ)
    (inb : ∀ a : Fin 2, off a + S32x128.size a ≤ S256x5120.size a) : View.Piece (Elt F) S256x5120 e :=
  ⟨Rect.unit (s := S256x5120) off S32x128.size inb, Q (v.readAt (Elt F) (Rect.unit (s := S256x5120) off S32x128.size inb).toLoadRect X)⟩

end Defs

end Cert.KernelIdeal.Hand

end
-- ==== Proof.KernelIdealPure.lean ====
module

public import proofs.«01_k».proof.Proof.KernelIdealStrip

@[expose] public section

set_option maxRecDepth 16384
set_option maxHeartbeats 4000000

noncomputable section

namespace Cert.KernelIdeal.Hand

open Idealize.ShloMosaic Idealize.ShloMosaic.TcCoe Idealize.ShloMosaic.Tactic
open Cert.KernelIdeal Cert.KernelIdeal.Gen

/-- Every row against the row `s` pairs away. -/
def VG (s : BitVec 32) (v : FVec Ideal S16x128 .bf16) : FVec Ideal S16x128 .bf16 :=
  maximumf v (interleaveRows S16x128
    (dynamicRotate 0 s none (rowsOfParity 0 S8x128 v bitcasts_S16x128_w16_S8x128_w32) rotates_S8x128_d0)
    (dynamicRotate 0 s none (rowsOfParity 1 S8x128 v bitcasts_S16x128_w16_S8x128_w32) rotates_S8x128_d0) bitcasts_S16x128_w16_S8x128_w32)

/-- Every row against its neighbour in the pair. -/
def VSw (v : FVec Ideal S16x128 .bf16) : FVec Ideal S16x128 .bf16 :=
  maximumf v (interleaveRows S16x128 (rowsOfParity 1 S8x128 v bitcasts_S16x128_w16_S8x128_w32)
    (rowsOfParity 0 S8x128 v bitcasts_S16x128_w16_S8x128_w32) bitcasts_S16x128_w16_S8x128_w32)

/-- The magnitudes of the upper sixteen rows against those of the lower sixteen. -/
def VH (y : FVec Ideal S32x128 .bf16) : FVec Ideal S16x128 .bf16 :=
  maximumf (extractStridedSlice S16x128 ![0, 0] (absf y) slices_S32x128_o0_0_S16x128)
    (extractStridedSlice S16x128 ![16, 0] (absf y) slices_S32x128_o16_0_S16x128)

/-- One trial of the exponent search, on a whole vector. -/
def VT (c : BitVec 32) (a : FVec Ideal S16x128 .f32) (t : IVec S16x128 32) : IVec S16x128 32 :=
  select (cmpf .oge a (bitcastToFloat .f32 (addi t (broadcast S16x128 c)))) (addi t (broadcast S16x128 c)) t

/-- A magnitude. -/
def mag (x : EReal) : EReal := max x (-x)

theorem mag_nonneg (x : EReal) : 0 ≤ mag x := by
  unfold mag
  rcases le_total 0 x with h | h
  · exact le_max_of_le_left h
  · exact le_max_of_le_right (by simpa using EReal.neg_le_neg_iff.mpr h)

/-- The greatest magnitude of thirty-two values. -/
def amax (Y : Fin 32 → EReal) : EReal := Finset.univ.sup fun r => mag (Y r)

theorem amax_nonneg (Y : Fin 32 → EReal) : 0 ≤ amax Y :=
  (mag_nonneg (Y 0)).trans (Finset.le_sup (f := fun r => mag (Y r)) (Finset.mem_univ 0))

/-- The code of a value under the greatest magnitude `a`. -/
def code (y a : EReal) : EReal :=
  min (Ideal.ofBits .bf16 0x4760#16) (max (Ideal.ofBits .bf16 0xC760#16) (y * Ideal.ofBits .f32 (2130706432#32 - Scale.word a)))

/-- The value a code stands for. -/
def back (y a : EReal) : EReal := code y a * Ideal.ofBits .f32 (Scale.word a)

def sg (s : ℕ) (j : Fin 16) : Fin 16 := ⟨(2 * ((j.val / 2 + 8 - s) % 8) + j.val % 2), by have := Nat.mod_lt (j.val / 2 + 8 - s) (show 0 < 8 by decide); have := Nat.mod_lt j.val (show 0 < 2 by decide); omega⟩

def sw (j : Fin 16) : Fin 16 := ⟨2 * (j.val / 2) + (1 - j.val % 2), by have := j.isLt; omega⟩

theorem VG4_at (v : FVec Ideal S16x128 .bf16) (j : Fin 16) (l : Fin 128) :
    VG 4#32 v (ix2 j l) = max (v (ix2 j l)) (v (ix2 (sg 4 j) l)) := by
  pointwise [VG]
  congr 1
  by_cases h : (j : ℕ) % 2 = 0
  · rw [if_pos h]; congr 2; exact Fin.ext (by simp only [sg]; omega)
  · rw [if_neg h]; congr 2; exact Fin.ext (by simp only [sg]; omega)

theorem VG2_at (v : FVec Ideal S16x128 .bf16) (j : Fin 16) (l : Fin 128) :
    VG 2#32 v (ix2 j l) = max (v (ix2 j l)) (v (ix2 (sg 2 j) l)) := by
  pointwise [VG]
  congr 1
  by_cases h : (j : ℕ) % 2 = 0
  · rw [if_pos h]; congr 2; exact Fin.ext (by simp only [sg]; omega)
  · rw [if_neg h]; congr 2; exact Fin.ext (by simp only [sg]; omega)

theorem VG1_at (v : FVec Ideal S16x128 .bf16) (j : Fin 16) (l : Fin 128) :
    VG 1#32 v (ix2 j l) = max (v (ix2 j l)) (v (ix2 (sg 1 j) l)) := by
  pointwise [VG]
  congr 1
  by_cases h : (j : ℕ) % 2 = 0
  · rw [if_pos h]; congr 2; exact Fin.ext (by simp only [sg]; omega)
  · rw [if_neg h]; congr 2; exact Fin.ext (by simp only [sg]; omega)

theorem VSw_at (v : FVec Ideal S16x128 .bf16) (j : Fin 16) (l : Fin 128) :
    VSw v (ix2 j l) = max (v (ix2 j l)) (v (ix2 (sw j) l)) := by
  pointwise [VSw]
  congr 1
  by_cases h : (j : ℕ) % 2 = 0
  · rw [if_pos h]; congr 2; exact Fin.ext (by simp only [sw]; omega)
  · rw [if_neg h]; congr 2; exact Fin.ext (by simp only [sw]; omega)

def lo (j : Fin 16) : Fin 32 := ⟨j.val, by omega⟩
def hi (j : Fin 16) : Fin 32 := ⟨16 + j.val, by omega⟩

theorem VH_at (y : FVec Ideal S32x128 .bf16) (j : Fin 16) (l : Fin 128) :
    VH y (ix2 j l) = max (mag (y (ix2 (lo j) l))) (mag (y (ix2 (hi j) l))) := by
  pointwise [VH]
  rfl

theorem VT_at (c : BitVec 32) (a : FVec Ideal S16x128 .f32) (t : IVec S16x128 32) (j : Fin 16) (l : Fin 128) :
    VT c a t (ix2 j l) = Scale.trial c (a (ix2 j l)) (t (ix2 j l)) := by
  pointwise [VT, Scale.trial]
  rfl

theorem pay257_eq (y : FVec Ideal S32x128 .bf16) : k0_pay257 y = y := by
  funext i
  idx_vars i
  pointwise [k0_pay257]
  by_cases h : (i0 : ℕ) % 2 = 0
  · rw [if_pos h]; congr 2; exact Fin.ext (by simp only []; omega)
  · rw [if_neg h]; congr 2; exact Fin.ext (by simp only []; omega)

/-- The rows a row has seen after each rotation. -/
def seen0 (j : Fin 16) : Finset (Fin 32) := {lo j, hi j}
def seen4 (j : Fin 16) : Finset (Fin 32) := seen0 j ∪ seen0 (sg 4 j)
def seen2 (j : Fin 16) : Finset (Fin 32) := seen4 j ∪ seen4 (sg 2 j)
def seen1 (j : Fin 16) : Finset (Fin 32) := seen2 j ∪ seen2 (sg 1 j)
def seen (j : Fin 16) : Finset (Fin 32) := seen1 j ∪ seen1 (sw j)

theorem seen_all : ∀ j : Fin 16, seen j = Finset.univ := by decide +kernel

theorem pay259_at (y : FVec Ideal S32x128 .bf16) (j : Fin 16) (l : Fin 128) :
    k0_pay259 (F := Ideal) y (ix2 j l) = amax fun r => y (ix2 r l) := by
  have e : k0_pay259 (F := Ideal) y = extf .f32 (VSw (VG 1#32 (VG 2#32 (VG 4#32 (VH (k0_pay257 (F := Ideal) y)))))) bitsLt_bf16_f32 := rfl
  rw [e, pay257_eq]
  have h0 : ∀ j, VH y (ix2 j l) = (seen0 j).sup fun r => mag (y (ix2 r l)) := fun j => by
    rw [VH_at, seen0, Finset.sup_insert, Finset.sup_singleton]
  have h4 : ∀ j, VG 4#32 (VH y) (ix2 j l) = (seen4 j).sup fun r => mag (y (ix2 r l)) := fun j => by
    rw [VG4_at, h0, h0, seen4, Finset.sup_union]
  have h2 : ∀ j, VG 2#32 (VG 4#32 (VH y)) (ix2 j l) = (seen2 j).sup fun r => mag (y (ix2 r l)) := fun j => by
    rw [VG2_at, h4, h4, seen2, Finset.sup_union]
  have h1 : ∀ j, VG 1#32 (VG 2#32 (VG 4#32 (VH y))) (ix2 j l) = (seen1 j).sup fun r => mag (y (ix2 r l)) := fun j => by
    rw [VG1_at, h2, h2, seen1, Finset.sup_union]
  have hs : VSw (VG 1#32 (VG 2#32 (VG 4#32 (VH y)))) (ix2 j l) = (seen j).sup fun r => mag (y (ix2 r l)) := by
    rw [VSw_at, h1, h1, seen, Finset.sup_union]
  rw [seen_all] at hs
  exact hs

/-- The search's word of a column, at every row. -/
theorem pay263_at (y : FVec Ideal S32x128 .bf16) (j : Fin 16) (l : Fin 128) :
    k0_pay263 (F := Ideal) (k0_pay259 (F := Ideal) y) (k0_pay261 (F := Ideal) y) (k0_pay262 (F := Ideal) y) 503316480#32 (ix2 j l) = Scale.word (amax fun r => y (ix2 r l)) := by
  have e : k0_pay263 (F := Ideal) (k0_pay259 (F := Ideal) y) (k0_pay261 (F := Ideal) y) (k0_pay262 (F := Ideal) y) 503316480#32
      = select (cmpf .olt (k0_pay259 (F := Ideal) y) (bitcastToFloat .f32 (broadcast S16x128 140509184#32))) (broadcast S16x128 1065353216#32)
        (subi (VT 8388608#32 (k0_pay259 (F := Ideal) y) (VT 16777216#32 (k0_pay259 (F := Ideal) y) (VT 33554432#32 (k0_pay259 (F := Ideal) y) (VT 58720256#32 (k0_pay259 (F := Ideal) y)
          (VT 125829120#32 (k0_pay259 (F := Ideal) y) (VT 251658240#32 (k0_pay259 (F := Ideal) y) (VT 503316480#32 (k0_pay259 (F := Ideal) y) (VT 998244352#32 (k0_pay259 (F := Ideal) y)
            (broadcast S16x128 140509184#32)))))))))
          (broadcast S16x128 123731968#32)) := rfl
  rw [e]
  pointwise
  simp only [VT_at, pay259_at]
  rfl

theorem pay264_at (y : FVec Ideal S32x128 .bf16) (j : Fin 32) (l : Fin 128) :
    k0_pay264 (F := Ideal) (k0_pay259 (F := Ideal) y) (k0_pay261 (F := Ideal) y) (k0_pay262 (F := Ideal) y) 503316480#32 (ix2 j l) = Scale.word (amax fun r => y (ix2 r l)) := by
  unfold k0_pay264
  pointwise
  by_cases h : (j : ℕ) < 16
  · rw [dif_pos h]; exact pay263_at y ⟨j.val, h⟩ l
  · rw [dif_neg h]; exact pay263_at y ⟨j.val - 16, by omega⟩ l

end Cert.KernelIdeal.Hand

end
-- ==== Proof.KernelIdealPureB.lean ====
module

public import proofs.«01_k».proof.Proof.KernelIdealPure

@[expose] public section

set_option maxRecDepth 16384
set_option maxHeartbeats 100000

noncomputable section

namespace Cert.KernelIdeal.Hand

open Idealize.ShloMosaic Idealize.ShloMosaic.TcCoe Idealize.ShloMosaic.Tactic
open Cert.KernelIdeal Cert.KernelIdeal.Gen

theorem subi_eq (x y : BitVec 32) : IntOp.subi x y = x - y := rfl

/-- The codes of a strip, given the words. -/
def codeV (y : FVec Ideal S32x128 .bf16) (w : IVec S32x128 32) : FVec Ideal S32x128 .bf16 :=
  minimumf (broadcast S32x128 (Scalar.ofBits (F := Ideal) .bf16 0x4760#16)) (maximumf (broadcast S32x128 (Scalar.ofBits (F := Ideal) .bf16 0xC760#16))
    (mulf y (truncf .bf16 (bitcastToFloat (F := Ideal) .f32 (subi (broadcast S32x128 2130706432#32) w)) bitsLt_bf16_f32)))

theorem codeG_at (hi lo : EReal) (c : BitVec 32) (y : FVec Ideal S32x128 .bf16) (w : IVec S32x128 32) (j : Fin 32) (l : Fin 128) :
    (minimumf (broadcast S32x128 hi : FVec Ideal S32x128 .bf16) (maximumf (broadcast S32x128 lo : FVec Ideal S32x128 .bf16)
      (mulf y (truncf .bf16 (bitcastToFloat (F := Ideal) .f32 (subi (broadcast S32x128 c) w)) bitsLt_bf16_f32)))) (ix2 j l)
      = min hi (max lo (y (ix2 j l) * Ideal.ofBits .f32 (c - w (ix2 j l)))) := by
  pointwise
  rfl

theorem codeV_at (y : FVec Ideal S32x128 .bf16) (w : IVec S32x128 32) (j : Fin 32) (l : Fin 128) :
    codeV y w (ix2 j l) = min (Ideal.ofBits .bf16 0x4760#16) (max (Ideal.ofBits .bf16 0xC760#16)
      (y (ix2 j l) * Ideal.ofBits .f32 (2130706432#32 - w (ix2 j l)))) :=
  codeG_at _ _ _ y w j l

/-- The codes scaled back, given the words. -/
def backV (y : FVec Ideal S32x128 .bf16) (w : IVec S32x128 32) : FVec Ideal S32x128 .bf16 :=
  mulf (codeV y w) (truncf .bf16 (bitcastToFloat (F := Ideal) .f32 w) bitsLt_bf16_f32)

theorem backV_at (y : FVec Ideal S32x128 .bf16) (w : IVec S32x128 32) (j : Fin 32) (l : Fin 128) :
    backV y w (ix2 j l) = codeV y w (ix2 j l) * Ideal.ofBits .f32 (w (ix2 j l)) := by
  pointwise [backV]

/-- The words of a strip. -/
def WV (y : FVec Ideal S32x128 .bf16) : IVec S32x128 32 :=
  k0_pay264 (F := Ideal) (k0_pay259 (F := Ideal) y) (k0_pay261 (F := Ideal) y) (k0_pay262 (F := Ideal) y) 503316480#32

theorem QC_eq (y : FVec Ideal S32x128 .bf16) : QC (F := Ideal) y = (truncf .fp8e5m2 (codeV (k0_pay257 (F := Ideal) y) (WV y)) bitsLt_fp8e5m2_bf16 : FVec Ideal S32x128 .fp8e5m2) := by
  unfold QC k0_pay268 k0_pay267 k0_pay266 codeV WV
  rfl

theorem shapeCast_same (x : FVec Ideal S32x128 .bf16) : shapeCast S32x128 x shapeCasts_S32x128_S32x128 = x := by
  funext i
  idx_vars i
  pointwise

theorem QV_eq (y : FVec Ideal S32x128 .bf16) : QV (F := Ideal) y = backV (k0_pay257 (F := Ideal) y) (WV y) := by
  have e : QV (F := Ideal) y = shapeCast S32x128 (backV (k0_pay257 (F := Ideal) y) (WV y)) shapeCasts_S32x128_S32x128 := by
    unfold QV k0_pay269 k0_pay267 k0_pay266 k0_pay265 backV codeV WV
    rfl
  rw [e, shapeCast_same]

theorem QC_at (y : FVec Ideal S32x128 .bf16) (j : Fin 32) (l : Fin 128) :
    QC (F := Ideal) y (ix2 j l) = code (y (ix2 j l)) (amax fun r => y (ix2 r l)) := by
  have h := codeV_at y (WV y) j l
  rw [show WV y (ix2 j l) = _ from pay264_at y j l] at h
  rw [QC_eq, pay257_eq]
  exact h

theorem QV_at (y : FVec Ideal S32x128 .bf16) (j : Fin 32) (l : Fin 128) :
    QV (F := Ideal) y (ix2 j l) = back (y (ix2 j l)) (amax fun r => y (ix2 r l)) := by
  have h := backV_at y (WV y) j l
  rw [codeV_at, show WV y (ix2 j l) = _ from pay264_at y j l] at h
  rw [QV_eq, pay257_eq]
  exact h

end Cert.KernelIdeal.Hand

end
-- ==== Proof.KernelIdealPureC.lean ====
module

public import proofs.«01_k».proof.Proof.KernelIdealPureB

@[expose] public section

set_option maxRecDepth 16384
set_option maxHeartbeats 1000000

noncomputable section

namespace Cert.KernelIdeal.Hand

open Idealize.ShloMosaic Idealize.ShloMosaic.TcCoe Idealize.ShloMosaic.Tactic
open Cert.KernelIdeal Cert.KernelIdeal.Gen

/-- A tile's image: every value under the greatest magnitude of its thirty-two rows. -/
def tile (q : EReal → EReal → EReal) (Y : S256x5120.Idx → EReal) : S256x5120.Idx → EReal := fun y =>
  q (Y y) (amax fun r => Y (ix2 (⟨32 * ((y 0).val / 32) + r.val, by have : (y 0).val < 256 := (y 0).isLt; omega⟩ : Fin 256) (y 1)))

theorem pc_at {e : EltTy} (Q : Vec Ideal S32x128 .bf16 → S32x128.Idx → EReal) (q : EReal → EReal → EReal)
    (hQ : ∀ (Z : Vec Ideal S32x128 .bf16) (j : Fin 32) (l : Fin 128), Q Z (ix2 j l) = q (Z (ix2 j l)) (amax fun r => Z (ix2 r l)))
    (v1 : View sig .tc .vmem S256x5120 .bf16) (X1 : v1.ty.Contents (Elt Ideal)) (o : Fin 2 → ℕ)
    (inb : ∀ a : Fin 2, o a + S32x128.size a ≤ S256x5120.size a) (R B : ℕ) (ho : o = ![R, B]) (hR : R % 32 = 0) (y : S256x5120.Idx)
    (hB : B + 128 ≤ 5120) (h0 : R ≤ (y 0).val) (h0' : (y 0).val < R + 32) (h1 : B ≤ (y 1).val) (h1' : (y 1).val < B + 128) :
    Q (v1.readAt (Elt Ideal) (Rect.unit (s := S256x5120) o S32x128.size inb).toLoadRect X1)
      (ix2 (⟨(y 0).val - R, by omega⟩ : Fin 32) (⟨(y 1).val - B, by omega⟩ : Fin 128)) = tile q (v1.read (Elt Ideal) X1) y := by
  subst ho
  have e : ∀ (j : Fin 32) (l : Fin 128) (z : S256x5120.Idx), (z 0).val = R + j.val → (z 1).val = B + l.val →
      (v1.readAt (Elt Ideal) (Rect.unit (s := S256x5120) ![R, B] S32x128.size inb).toLoadRect X1 : Vec Ideal S32x128 .bf16) (ix2 j l) = v1.read (Elt Ideal) X1 z := by
    intro j l z hz0 hz1
    rw [View.readAt_unit v1 X1 inb rfl inb]
    show v1.read (Elt Ideal) X1 _ = _
    congr 1
    funext a
    refine Fin.ext ?_
    match a with
    | ⟨0, _⟩ => show R + 1 * j.val = (z 0).val; omega
    | ⟨1, _⟩ => show B + 1 * l.val = (z 1).val; omega
  refine (hQ _ _ _).trans ?_
  unfold tile
  congr 1
  · exact e _ _ y (by show (y 0).val = R + ((y 0).val - R); omega) (by show (y 1).val = B + ((y 1).val - B); omega)
  · congr 1
    funext r
    refine e _ _ _ ?_ ?_
    · show 32 * ((y 0).val / 32) + r.val = R + r.val; omega
    · show (y 1).val = B + ((y 1).val - B); omega

/-- What a trip's eight stores leave. -/
theorem strips_at {e : EltTy} (v : View sig .tc .vmem S256x5120 e) (X : v.ty.Contents (Elt Ideal)) (Q : Vec Ideal S32x128 .bf16 → Vec Ideal S32x128 e)
    (v1 : View sig .tc .vmem S256x5120 .bf16) (X1 : v1.ty.Contents (Elt Ideal)) (o0 o1 o2 o3 o4 o5 o6 o7 : Fin 2 → ℕ) (B : ℕ) (T : S256x5120.Idx → Elt Ideal e)
    (hT : ∀ (o : Fin 2 → ℕ) (inb : ∀ a : Fin 2, o a + S32x128.size a ≤ S256x5120.size a) (R : ℕ) (ho : o = ![R, B]) (hR : R % 32 = 0) (y : S256x5120.Idx)
      (h0 : R ≤ (y 0).val) (h0' : (y 0).val < R + 32) (h1 : B ≤ (y 1).val) (h1' : (y 1).val < B + 128),
      Q (v1.readAt (Elt Ideal) (Rect.unit (s := S256x5120) o S32x128.size inb).toLoadRect X1)
        (ix2 (⟨(y 0).val - R, by omega⟩ : Fin 32) (⟨(y 1).val - B, by omega⟩ : Fin 128)) = T y)
    (h0 : o0 = ![0, B])
    (h1 : o1 = ![32, B])
    (h2 : o2 = ![64, B])
    (h3 : o3 = ![96, B])
    (h4 : o4 = ![128, B])
    (h5 : o5 = ![160, B])
    (h6 : o6 = ![192, B])
    (h7 : o7 = ![224, B])
    (i0 : ∀ a : Fin 2, o0 a + S32x128.size a ≤ S256x5120.size a)
    (i1 : ∀ a : Fin 2, o1 a + S32x128.size a ≤ S256x5120.size a)
    (i2 : ∀ a : Fin 2, o2 a + S32x128.size a ≤ S256x5120.size a)
    (i3 : ∀ a : Fin 2, o3 a + S32x128.size a ≤ S256x5120.size a)
    (i4 : ∀ a : Fin 2, o4 a + S32x128.size a ≤ S256x5120.size a)
    (i5 : ∀ a : Fin 2, o5 a + S32x128.size a ≤ S256x5120.size a)
    (i6 : ∀ a : Fin 2, o6 a + S32x128.size a ≤ S256x5120.size a)
    (i7 : ∀ a : Fin 2, o7 a + S32x128.size a ≤ S256x5120.size a) (y : S256x5120.Idx) :
    v.read (Elt Ideal) (v.writes (Elt Ideal) X [pc Q v1 X1 o7 i7, pc Q v1 X1 o6 i6, pc Q v1 X1 o5 i5, pc Q v1 X1 o4 i4, pc Q v1 X1 o3 i3, pc Q v1 X1 o2 i2, pc Q v1 X1 o1 i1, pc Q v1 X1 o0 i0]) y
      = if B ≤ (y 1).val ∧ (y 1).val < B + 128 then T y else v.read (Elt Ideal) X y := by
  have hy : (y 0).val < 256 := (y 0).isLt
  by_cases h : B ≤ (y 1).val ∧ (y 1).val < B + 128
  · rw [if_pos h]
    by_cases c7 : 224 ≤ (y 0).val
    · exact (View.read_writes_cons_unit_of_mem v X i7 _ _ y (ix2 (⟨(y 0).val - 224, by omega⟩ : Fin 32) (⟨(y 1).val - B, by omega⟩ : Fin 128)) h7
        (Fin.forall_fin_two.mpr ⟨by show (y 0).val = 224 + ((y 0).val - 224); omega, by show (y 1).val = B + ((y 1).val - B); omega⟩)).trans
        (hT o7 i7 224 h7 (by decide) y c7 (by omega) h.1 h.2)
    refine (View.read_writes_cons_unit_of_not_mem v X i7 _ _ y h7 (0 : Fin 2) (Or.inl (by show (y 0).val < 224; omega))).trans ?_
    by_cases c6 : 192 ≤ (y 0).val
    · exact (View.read_writes_cons_unit_of_mem v X i6 _ _ y (ix2 (⟨(y 0).val - 192, by omega⟩ : Fin 32) (⟨(y 1).val - B, by omega⟩ : Fin 128)) h6
        (Fin.forall_fin_two.mpr ⟨by show (y 0).val = 192 + ((y 0).val - 192); omega, by show (y 1).val = B + ((y 1).val - B); omega⟩)).trans
        (hT o6 i6 192 h6 (by decide) y c6 (by omega) h.1 h.2)
    refine (View.read_writes_cons_unit_of_not_mem v X i6 _ _ y h6 (0 : Fin 2) (Or.inl (by show (y 0).val < 192; omega))).trans ?_
    by_cases c5 : 160 ≤ (y 0).val
    · exact (View.read_writes_cons_unit_of_mem v X i5 _ _ y (ix2 (⟨(y 0).val - 160, by omega⟩ : Fin 32) (⟨(y 1).val - B, by omega⟩ : Fin 128)) h5
        (Fin.forall_fin_two.mpr ⟨by show (y 0).val = 160 + ((y 0).val - 160); omega, by show (y 1).val = B + ((y 1).val - B); omega⟩)).trans
        (hT o5 i5 160 h5 (by decide) y c5 (by omega) h.1 h.2)
    refine (View.read_writes_cons_unit_of_not_mem v X i5 _ _ y h5 (0 : Fin 2) (Or.inl (by show (y 0).val < 160; omega))).trans ?_
    by_cases c4 : 128 ≤ (y 0).val
    · exact (View.read_writes_cons_unit_of_mem v X i4 _ _ y (ix2 (⟨(y 0).val - 128, by omega⟩ : Fin 32) (⟨(y 1).val - B, by omega⟩ : Fin 128)) h4
        (Fin.forall_fin_two.mpr ⟨by show (y 0).val = 128 + ((y 0).val - 128); omega, by show (y 1).val = B + ((y 1).val - B); omega⟩)).trans
        (hT o4 i4 128 h4 (by decide) y c4 (by omega) h.1 h.2)
    refine (View.read_writes_cons_unit_of_not_mem v X i4 _ _ y h4 (0 : Fin 2) (Or.inl (by show (y 0).val < 128; omega))).trans ?_
    by_cases c3 : 96 ≤ (y 0).val
    · exact (View.read_writes_cons_unit_of_mem v X i3 _ _ y (ix2 (⟨(y 0).val - 96, by omega⟩ : Fin 32) (⟨(y 1).val - B, by omega⟩ : Fin 128)) h3
        (Fin.forall_fin_two.mpr ⟨by show (y 0).val = 96 + ((y 0).val - 96); omega, by show (y 1).val = B + ((y 1).val - B); omega⟩)).trans
        (hT o3 i3 96 h3 (by decide) y c3 (by omega) h.1 h.2)
    refine (View.read_writes_cons_unit_of_not_mem v X i3 _ _ y h3 (0 : Fin 2) (Or.inl (by show (y 0).val < 96; omega))).trans ?_
    by_cases c2 : 64 ≤ (y 0).val
    · exact (View.read_writes_cons_unit_of_mem v X i2 _ _ y (ix2 (⟨(y 0).val - 64, by omega⟩ : Fin 32) (⟨(y 1).val - B, by omega⟩ : Fin 128)) h2
        (Fin.forall_fin_two.mpr ⟨by show (y 0).val = 64 + ((y 0).val - 64); omega, by show (y 1).val = B + ((y 1).val - B); omega⟩)).trans
        (hT o2 i2 64 h2 (by decide) y c2 (by omega) h.1 h.2)
    refine (View.read_writes_cons_unit_of_not_mem v X i2 _ _ y h2 (0 : Fin 2) (Or.inl (by show (y 0).val < 64; omega))).trans ?_
    by_cases c1 : 32 ≤ (y 0).val
    · exact (View.read_writes_cons_unit_of_mem v X i1 _ _ y (ix2 (⟨(y 0).val - 32, by omega⟩ : Fin 32) (⟨(y 1).val - B, by omega⟩ : Fin 128)) h1
        (Fin.forall_fin_two.mpr ⟨by show (y 0).val = 32 + ((y 0).val - 32); omega, by show (y 1).val = B + ((y 1).val - B); omega⟩)).trans
        (hT o1 i1 32 h1 (by decide) y c1 (by omega) h.1 h.2)
    refine (View.read_writes_cons_unit_of_not_mem v X i1 _ _ y h1 (0 : Fin 2) (Or.inl (by show (y 0).val < 32; omega))).trans ?_
    by_cases c0 : 0 ≤ (y 0).val
    · exact (View.read_writes_cons_unit_of_mem v X i0 _ _ y (ix2 (⟨(y 0).val - 0, by omega⟩ : Fin 32) (⟨(y 1).val - B, by omega⟩ : Fin 128)) h0
        (Fin.forall_fin_two.mpr ⟨by show (y 0).val = 0 + ((y 0).val - 0); omega, by show (y 1).val = B + ((y 1).val - B); omega⟩)).trans
        (hT o0 i0 0 h0 (by decide) y c0 (by omega) h.1 h.2)
    refine (View.read_writes_cons_unit_of_not_mem v X i0 _ _ y h0 (0 : Fin 2) (Or.inl (by show (y 0).val < 0; omega))).trans ?_
    exact absurd (Nat.zero_le _) c0

  · rw [if_neg h]
    refine (View.read_writes_cons_unit_of_not_mem v X i7 _ _ y h7 (1 : Fin 2) (by show (y 1).val < B ∨ B + 128 ≤ (y 1).val; omega)).trans ?_
    refine (View.read_writes_cons_unit_of_not_mem v X i6 _ _ y h6 (1 : Fin 2) (by show (y 1).val < B ∨ B + 128 ≤ (y 1).val; omega)).trans ?_
    refine (View.read_writes_cons_unit_of_not_mem v X i5 _ _ y h5 (1 : Fin 2) (by show (y 1).val < B ∨ B + 128 ≤ (y 1).val; omega)).trans ?_
    refine (View.read_writes_cons_unit_of_not_mem v X i4 _ _ y h4 (1 : Fin 2) (by show (y 1).val < B ∨ B + 128 ≤ (y 1).val; omega)).trans ?_
    refine (View.read_writes_cons_unit_of_not_mem v X i3 _ _ y h3 (1 : Fin 2) (by show (y 1).val < B ∨ B + 128 ≤ (y 1).val; omega)).trans ?_
    refine (View.read_writes_cons_unit_of_not_mem v X i2 _ _ y h2 (1 : Fin 2) (by show (y 1).val < B ∨ B + 128 ≤ (y 1).val; omega)).trans ?_
    refine (View.read_writes_cons_unit_of_not_mem v X i1 _ _ y h1 (1 : Fin 2) (by show (y 1).val < B ∨ B + 128 ≤ (y 1).val; omega)).trans ?_
    refine (View.read_writes_cons_unit_of_not_mem v X i0 _ _ y h0 (1 : Fin 2) (by show (y 1).val < B ∨ B + 128 ≤ (y 1).val; omega)).trans ?_
    rfl

end Cert.KernelIdeal.Hand

end
-- ==== Proof.KernelIdealXt.lean ====
module

public import proofs.«01_k».proof.Proof.KernelIdealPureC

@[expose] public section

set_option maxRecDepth 16384
set_option maxHeartbeats 1000000

noncomputable section

namespace Cert.KernelIdeal.Hand

open Idealize.ShloMosaic Idealize.ShloMosaic.TcCoe Idealize.ShloMosaic.Tactic
open Cert.KernelIdeal Cert.KernelIdeal.Gen

/-- A scale byte as a power of two. -/
def powb (b : BitVec 8) : EReal := Ideal.ofBits .f32 (IntOp.shli .vector (b.setWidth 32) 23#32)

theorem pay479_at (s : Vec Ideal S32x1280 .i8) (j : Fin 32) (l : Fin 1280) : k0_pay479 (F := Ideal) s (ix2 j l) = powb (s (ix2 j l)) := by
  pointwise [k0_pay479]
  rw [powb]

/-- The transposed tile from its eight strips and their scales. -/
def XP (v : FVec Ideal S8x1280 .f32) (a0 : Vec Ideal S32x1280 .fp8e4m3) (a1 : Vec Ideal S32x1280 .fp8e4m3) (a2 : Vec Ideal S32x1280 .fp8e4m3) (a3 : Vec Ideal S32x1280 .fp8e4m3) (a4 : Vec Ideal S32x1280 .fp8e4m3) (a5 : Vec Ideal S32x1280 .fp8e4m3) (a6 : Vec Ideal S32x1280 .fp8e4m3) (a7 : Vec Ideal S32x1280 .fp8e4m3) : FVec Ideal S1280x256 .bf16 :=
  k0_pay482 (F := Ideal) v (k0_pay480 (F := Ideal) v a0) (k0_pay481 (F := Ideal) v a1) a2 a3 a4 a5 a6 a7

theorem XP_at (v : FVec Ideal S8x1280 .f32) (a0 : Vec Ideal S32x1280 .fp8e4m3) (a1 : Vec Ideal S32x1280 .fp8e4m3) (a2 : Vec Ideal S32x1280 .fp8e4m3) (a3 : Vec Ideal S32x1280 .fp8e4m3) (a4 : Vec Ideal S32x1280 .fp8e4m3) (a5 : Vec Ideal S32x1280 .fp8e4m3) (a6 : Vec Ideal S32x1280 .fp8e4m3) (a7 : Vec Ideal S32x1280 .fp8e4m3) (x : S256x1280.Idx → EReal)
    (h0 : ∀ (j : Fin 32) (l : Fin 1280), a0 (ix2 j l) = x (ix2 (⟨0 + j.val, by omega⟩ : Fin 256) l)) (h1 : ∀ (j : Fin 32) (l : Fin 1280), a1 (ix2 j l) = x (ix2 (⟨32 + j.val, by omega⟩ : Fin 256) l)) (h2 : ∀ (j : Fin 32) (l : Fin 1280), a2 (ix2 j l) = x (ix2 (⟨64 + j.val, by omega⟩ : Fin 256) l)) (h3 : ∀ (j : Fin 32) (l : Fin 1280), a3 (ix2 j l) = x (ix2 (⟨96 + j.val, by omega⟩ : Fin 256) l)) (h4 : ∀ (j : Fin 32) (l : Fin 1280), a4 (ix2 j l) = x (ix2 (⟨128 + j.val, by omega⟩ : Fin 256) l)) (h5 : ∀ (j : Fin 32) (l : Fin 1280), a5 (ix2 j l) = x (ix2 (⟨160 + j.val, by omega⟩ : Fin 256) l)) (h6 : ∀ (j : Fin 32) (l : Fin 1280), a6 (ix2 j l) = x (ix2 (⟨192 + j.val, by omega⟩ : Fin 256) l)) (h7 : ∀ (j : Fin 32) (l : Fin 1280), a7 (ix2 j l) = x (ix2 (⟨224 + j.val, by omega⟩ : Fin 256) l))
    (j : Fin 1280) (k : Fin 256) :
    XP v a0 a1 a2 a3 a4 a5 a6 a7 (ix2 j k) = x (ix2 k j) * v (ix2 (⟨k.val / 32, by omega⟩ : Fin 8) j) := by
  pointwise [XP, k0_pay482, k0_pay480, k0_pay481]
  by_cases c0 : (k : ℕ) < 32
  · rw [dif_pos c0, h0]
    refine Ideal.mul_congr (congrArg x (congrArg (fun r => ix2 r j) (Fin.ext ?_))) (congrArg v (congrArg (fun r => ix2 r j) (Fin.ext ?_)))
    · show 0 + (k.val) = k.val; omega
    · show 0 = k.val / 32; omega
  rw [dif_neg c0]
  by_cases c1 : (k : ℕ) - 32 < 32
  · rw [dif_pos c1, h1]
    refine Ideal.mul_congr (congrArg x (congrArg (fun r => ix2 r j) (Fin.ext ?_))) (congrArg v (congrArg (fun r => ix2 r j) (Fin.ext ?_)))
    · show 32 + (k.val - 32) = k.val; omega
    · show 1 = k.val / 32; omega
  rw [dif_neg c1]
  by_cases c2 : (k : ℕ) - 32 - 32 < 32
  · rw [dif_pos c2, h2]
    refine Ideal.mul_congr (congrArg x (congrArg (fun r => ix2 r j) (Fin.ext ?_))) (congrArg v (congrArg (fun r => ix2 r j) (Fin.ext ?_)))
    · show 64 + (k.val - 32 - 32) = k.val; omega
    · show 2 = k.val / 32; omega
  rw [dif_neg c2]
  by_cases c3 : (k : ℕ) - 32 - 32 - 32 < 32
  · rw [dif_pos c3, h3]
    refine Ideal.mul_congr (congrArg x (congrArg (fun r => ix2 r j) (Fin.ext ?_))) (congrArg v (congrArg (fun r => ix2 r j) (Fin.ext ?_)))
    · show 96 + (k.val - 32 - 32 - 32) = k.val; omega
    · show 3 = k.val / 32; omega
  rw [dif_neg c3]
  by_cases c4 : (k : ℕ) - 32 - 32 - 32 - 32 < 32
  · rw [dif_pos c4, h4]
    refine Ideal.mul_congr (congrArg x (congrArg (fun r => ix2 r j) (Fin.ext ?_))) (congrArg v (congrArg (fun r => ix2 r j) (Fin.ext ?_)))
    · show 128 + (k.val - 32 - 32 - 32 - 32) = k.val; omega
    · show 4 = k.val / 32; omega
  rw [dif_neg c4]
  by_cases c5 : (k : ℕ) - 32 - 32 - 32 - 32 - 32 < 32
  · rw [dif_pos c5, h5]
    refine Ideal.mul_congr (congrArg x (congrArg (fun r => ix2 r j) (Fin.ext ?_))) (congrArg v (congrArg (fun r => ix2 r j) (Fin.ext ?_)))
    · show 160 + (k.val - 32 - 32 - 32 - 32 - 32) = k.val; omega
    · show 5 = k.val / 32; omega
  rw [dif_neg c5]
  by_cases c6 : (k : ℕ) - 32 - 32 - 32 - 32 - 32 - 32 < 32
  · rw [dif_pos c6, h6]
    refine Ideal.mul_congr (congrArg x (congrArg (fun r => ix2 r j) (Fin.ext ?_))) (congrArg v (congrArg (fun r => ix2 r j) (Fin.ext ?_)))
    · show 192 + (k.val - 32 - 32 - 32 - 32 - 32 - 32) = k.val; omega
    · show 6 = k.val / 32; omega
  rw [dif_neg c6]
  rw [h7]
  refine Ideal.mul_congr (congrArg x (congrArg (fun r => ix2 r j) (Fin.ext ?_))) (congrArg v (congrArg (fun r => ix2 r j) (Fin.ext ?_)))
  · show 224 + (k.val - 32 - 32 - 32 - 32 - 32 - 32 - 32) = k.val; omega
  · show 7 = k.val / 32; omega

/-- The transposed tile: the codes times their scales, rows `8 q + ·` of the scale block. -/
def xT (q : Fin 4) (x : S256x1280.Idx → EReal) (s : S32x1280.Idx → BitVec 8) : S1280x256.Idx → EReal := fun y =>
  x (ix2 (y 1) (y 0)) * powb (s (ix2 (⟨8 * q.val + (y 1).val / 32, by have : (y 1).val < 256 := (y 1).isLt; omega⟩ : Fin 32) (y 0)))

theorem ld2_at (v2 : View sig .tc .vmem S256x1280 .fp8e4m3) (X2 : v2.ty.Contents (Elt Ideal)) (R : ℕ) (o : Fin 2 → ℕ) (ho : o = ![R, 0])
    (inb : ∀ a : Fin 2, o a + S32x1280.size a ≤ S256x1280.size a) (j : Fin 32) (l : Fin 1280) (h : R + j.val < 256) :
    (v2.readAt (Elt Ideal) (Rect.unit (s := S256x1280) o S32x1280.size inb).toLoadRect X2 : Vec Ideal S32x1280 .fp8e4m3) (ix2 j l)
      = v2.read (Elt Ideal) X2 (ix2 (⟨R + j.val, h⟩ : Fin 256) l) := by
  subst ho
  rw [View.readAt_unit v2 X2 inb rfl inb]
  show v2.read (Elt Ideal) X2 _ = _
  congr 1
  funext a
  refine Fin.ext ?_
  match a with
  | ⟨0, _⟩ => show R + 1 * j.val = R + j.val; omega
  | ⟨1, _⟩ => show 0 + 1 * l.val = l.val; omega

theorem xt_read (v2 : View sig .tc .vmem S256x1280 .fp8e4m3) (X2 : v2.ty.Contents (Elt Ideal)) (v3 : View sig .tc .vmem S32x1280 .i8) (X3 : v3.ty.Contents (Elt Ideal))
    (v19 : View sig .tc .vmem S32x1280 .f32) (v17 : View sig .tc .vmem S1280x256 .bf16) (o21 : Fin 2 → ℕ)
    (i21 : ∀ a : Fin 2, o21 a + S8x1280.size a ≤ S32x1280.size a) (i19 : ∀ a : Fin 2, (![0, 0] : Fin 2 → ℕ) a + S32x1280.size a ≤ S32x1280.size a)
    (i17 : ∀ a : Fin 2, (![0, 0] : Fin 2 → ℕ) a + S1280x256.size a ≤ S1280x256.size a) (i0 : ∀ a : Fin 2, (![0, 0] : Fin 2 → ℕ) a + S32x1280.size a ≤ S256x1280.size a) (i1 : ∀ a : Fin 2, (![32, 0] : Fin 2 → ℕ) a + S32x1280.size a ≤ S256x1280.size a) (i2 : ∀ a : Fin 2, (![64, 0] : Fin 2 → ℕ) a + S32x1280.size a ≤ S256x1280.size a) (i3 : ∀ a : Fin 2, (![96, 0] : Fin 2 → ℕ) a + S32x1280.size a ≤ S256x1280.size a) (i4 : ∀ a : Fin 2, (![128, 0] : Fin 2 → ℕ) a + S32x1280.size a ≤ S256x1280.size a) (i5 : ∀ a : Fin 2, (![160, 0] : Fin 2 → ℕ) a + S32x1280.size a ≤ S256x1280.size a) (i6 : ∀ a : Fin 2, (![192, 0] : Fin 2 → ℕ) a + S32x1280.size a ≤ S256x1280.size a) (i7 : ∀ a : Fin 2, (![224, 0] : Fin 2 → ℕ) a + S32x1280.size a ≤ S256x1280.size a) (q : Fin 4) (h21 : o21 = ![8 * q.val, 0]) (y : S1280x256.Idx) :
    v17.read (Elt Ideal) (v17.writes (Elt Ideal) v17.junk [⟨Rect.unit (s := S1280x256) ![0, 0] S1280x256.size i17, XP (v19.readAt (Elt Ideal) (Rect.unit (s := S32x1280) o21 S8x1280.size i21).toLoadRect (v19.writes (Elt Ideal) v19.junk [⟨Rect.unit (s := S32x1280) ![0, 0] S32x1280.size i19, k0_pay479 (F := Ideal) (v3.readAt (Elt Ideal) (Rect.unit (s := S32x1280) ![0, 0] S32x1280.size i19).toLoadRect X3)⟩])) (v2.readAt (Elt Ideal) (Rect.unit (s := S256x1280) ![0, 0] S32x1280.size i0).toLoadRect X2) (v2.readAt (Elt Ideal) (Rect.unit (s := S256x1280) ![32, 0] S32x1280.size i1).toLoadRect X2) (v2.readAt (Elt Ideal) (Rect.unit (s := S256x1280) ![64, 0] S32x1280.size i2).toLoadRect X2) (v2.readAt (Elt Ideal) (Rect.unit (s := S256x1280) ![96, 0] S32x1280.size i3).toLoadRect X2) (v2.readAt (Elt Ideal) (Rect.unit (s := S256x1280) ![128, 0] S32x1280.size i4).toLoadRect X2) (v2.readAt (Elt Ideal) (Rect.unit (s := S256x1280) ![160, 0] S32x1280.size i5).toLoadRect X2) (v2.readAt (Elt Ideal) (Rect.unit (s := S256x1280) ![192, 0] S32x1280.size i6).toLoadRect X2) (v2.readAt (Elt Ideal) (Rect.unit (s := S256x1280) ![224, 0] S32x1280.size i7).toLoadRect X2)⟩]) y
      = xT q (v2.read (Elt Ideal) X2) (v3.read (Elt Ideal) X3) y := by
  subst h21
  refine (View.read_writes_cons_unit_of_mem v17 _ i17 _ _ y (ix2 (y 0) (y 1)) rfl
    (Fin.forall_fin_two.mpr ⟨by show (y 0).val = 0 + (y 0).val; omega, by show (y 1).val = 0 + (y 1).val; omega⟩)).trans ?_
  refine (XP_at _ _ _ _ _ _ _ _ _ (v2.read (Elt Ideal) X2) (fun j l => ld2_at v2 X2 0 _ rfl i0 j l (by omega)) (fun j l => ld2_at v2 X2 32 _ rfl i1 j l (by omega)) (fun j l => ld2_at v2 X2 64 _ rfl i2 j l (by omega)) (fun j l => ld2_at v2 X2 96 _ rfl i3 j l (by omega)) (fun j l => ld2_at v2 X2 128 _ rfl i4 j l (by omega)) (fun j l => ld2_at v2 X2 160 _ rfl i5 j l (by omega)) (fun j l => ld2_at v2 X2 192 _ rfl i6 j l (by omega)) (fun j l => ld2_at v2 X2 224 _ rfl i7 j l (by omega)) (y 0) (y 1)).trans ?_
  refine Ideal.mul_congr rfl ?_
  rw [View.readAt_unit v19 _ i21 rfl i21]
  have hk : (y 1).val < 256 := (y 1).isLt
  have hq := q.isLt
  refine (View.read_writes_cons_unit_of_mem v19 _ i19 _ _ _ (ix2 (⟨8 * q.val + (y 1).val / 32, by omega⟩ : Fin 32) (y 0)) rfl
    (Fin.forall_fin_two.mpr ⟨by show 8 * q.val + 1 * ((y 1).val / 32) = 0 + (8 * q.val + (y 1).val / 32); omega, by show 0 + 1 * (y 0).val = 0 + (y 0).val; omega⟩)).trans ?_
  refine (pay479_at _ _ _).trans ?_
  refine congrArg powb ?_
  rw [View.readAt_unit v3 X3 i19 rfl i19]
  show v3.read (Elt Ideal) X3 _ = _
  congr 1
  funext a
  refine Fin.ext ?_
  match a with
  | ⟨0, _⟩ => show 0 + 1 * (8 * q.val + (y 1).val / 32) = 8 * q.val + (y 1).val / 32; omega
  | ⟨1, _⟩ => show 0 + 1 * (y 0).val = (y 0).val; omega

end Cert.KernelIdeal.Hand

end
-- ==== Proof.KernelIdealT1V.lean ====
module

public import proofs.«01_k».proof.Proof.KernelIdealT1
public import proofs.«01_k».proof.Proof.KernelIdealXt
public import Idealize.ShloMosaic.Lib.ValueLayout

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The resource algebra: the pipeline's, with the counters of the kernel's own transfers. -/
local notation "𝕄" => MT nD τ sig Unit (Elt Ideal) ℕ (Pipeline.UD sig nD τ) ℕ

/-! The weight made ready: a block's codes transposed, times the powers of two of its eight strips. -/

/-- The scales' rows a trip reads. -/
abbrev ld13 (arg13 : Memref sig .tc .vmem S160x1280 .f32) (i : grid0.Coords) (k : Fin k0_t1_loop.trips) (h1 : k0_cond1 i = 1#1)
    (X13 : BufTy.Contents (Elt Ideal) arg13.view.ty) : Vec Ideal S8x1280 .f32 :=
  arg13.view.readAt (Elt Ideal) (Rect.unit (s := S160x1280) (k0_off7 k) S8x1280.size (k0_off7_inb i k h1)).toLoadRect X13

/-- The block a trip reads. -/
abbrev ldW (c : Dev nD) (i : grid0.Coords) (k : Fin k0_t1_loop.trips) (h1 : k0_cond1 i = 1#1)
    (f0 : Buf (Elt Ideal) ((slotW i k h1).view.loc (c : Thread nD τ))) : Vec Ideal S1x1280x256 .fp8e4m3 :=
  (Memref.whole cc0_scratch2).view.readAt (Elt Ideal) (Rect.unit (s := S2x1280x256) (k0_off8 k) S1x1280x256.size (k0_off8_inb i k h1)).toLoadRect f0

theorem ldW_at (c : Dev nD) (i : grid0.Coords) (k : Fin k0_t1_loop.trips) (h1 : k0_cond1 i = 1#1)
    (f0 : Buf (Elt Ideal) ((slotW i k h1).view.loc (c : Thread nD τ))) (a : S1x1280x256.Idx) :
    ldW c i k h1 f0 a = (slotW i k h1).view.read (Elt Ideal) f0 (ix2 (a 1) (a 2)) := by
  have key : ∀ (o o' : Fin 3 → ℕ) (e : o = o') (h) (h'),
      ((Memref.whole cc0_scratch2).view.readAt (Elt Ideal) (Rect.unit (s := S2x1280x256) o S1x1280x256.size h).toLoadRect f0 : Vec Ideal S1x1280x256 .fp8e4m3) a
        = (((Memref.whole cc0_scratch2).slice (Rect.unit (s := S2x1280x256) o' S1x1280x256.size h') (fun _ => rfl)).squeeze S1280x256 squeezes_S1x1280x256_S1280x256).view.read (Elt Ideal) f0 (ix2 (a 1) (a 2)) := by
    intro o o' e h h'
    subst e
    have ea : a = ix3 (⟨0, Nat.one_pos⟩ : Fin 1) (a 1) (a 2) := (eq_ix3 a).trans (congrArg (fun z => ix3 z (a 1) (a 2)) (Subsingleton.elim (α := Fin 1) _ _))
    refine (congrArg (fun z => ((Memref.whole cc0_scratch2).view.readAt (Elt Ideal) (Rect.unit (s := S2x1280x256) o S1x1280x256.size h).toLoadRect f0 : Vec Ideal S1x1280x256 .fp8e4m3) z)
      (ea.trans (ValueIdx.reshapeEquiv_ix2_1ab squeezes_S1x1280x256_S1280x256.numel_eq (a 1) (a 2)).symm)).trans ?_
    rfl
  exact key _ _ (off8_eq k) _ _

theorem dma_read (sI : Memref sig .tc .vmem S1280x256 .fp8e4m3)
    (f1 : sI.view.ty.Contents (Elt Ideal)) (d : S1280x256.Idx → EReal) (y) :
    sI.view.read (Elt Ideal) (sI.view.writes (Elt Ideal) f1 [⟨Rect.whole S1280x256, d⟩]) y = d y := by
  have h := View.read_writes_cons_emb sI.view f1 (Rect.whole S1280x256) d [] y
  have e : (Rect.whole S1280x256).emb y = y := funext fun a => Fin.ext (by show 0 + 1 * (y a).val = (y a).val; omega)
  rw [e] at h
  exact h

/-- What one trip stores: the block's eight strips of thirty-two rows. -/
def wpieces (i : grid0.Coords) (k : Fin k0_t1_loop.trips) (h1 : k0_cond1 i = 1#1) (v73 : Vec Ideal S8x1280 .f32) (v76 : Vec Ideal S1x1280x256 .fp8e4m3) :
    List (View.Piece (Elt Ideal) S5120x1280 .bf16) :=
  [⟨Rect.unit (s := S5120x1280) (k0_off9 k 224#32) S32x1280.size (k0_off9_inb i k h1 7), k0_pay253 (k0_pay11 v73) (k0_pay12 v76)⟩,
   ⟨Rect.unit (s := S5120x1280) (k0_off9 k 192#32) S32x1280.size (k0_off9_inb i k h1 6), k0_pay252 (k0_pay11 v73) (k0_pay12 v76)⟩,
   ⟨Rect.unit (s := S5120x1280) (k0_off9 k 160#32) S32x1280.size (k0_off9_inb i k h1 5), k0_pay251 (k0_pay11 v73) (k0_pay12 v76)⟩,
   ⟨Rect.unit (s := S5120x1280) (k0_off9 k 128#32) S32x1280.size (k0_off9_inb i k h1 4), k0_pay250 (k0_pay18 (k0_pay11 v73) (k0_pay12 v76))⟩,
   ⟨Rect.unit (s := S5120x1280) (k0_off9 k 96#32) S32x1280.size (k0_off9_inb i k h1 3), k0_pay17 (k0_pay11 v73) (k0_pay12 v76)⟩,
   ⟨Rect.unit (s := S5120x1280) (k0_off9 k 64#32) S32x1280.size (k0_off9_inb i k h1 2), k0_pay16 (k0_pay11 v73) (k0_pay12 v76)⟩,
   ⟨Rect.unit (s := S5120x1280) (k0_off9 k 32#32) S32x1280.size (k0_off9_inb i k h1 1), k0_pay15 (k0_pay11 v73) (k0_pay12 v76)⟩,
   ⟨Rect.unit (s := S5120x1280) (k0_off9 k 0#32) S32x1280.size (k0_off9_inb i k h1 0), k0_pay14 (k0_pay13 v73 v76)⟩]

theorem off9_0 : ∀ k : Fin k0_t1_loop.trips, k0_off9 k 0#32 = ![256 * k.val + 32 * 0, 0] := by decide +kernel
theorem off9_1 : ∀ k : Fin k0_t1_loop.trips, k0_off9 k 32#32 = ![256 * k.val + 32 * 1, 0] := by decide +kernel
theorem off9_2 : ∀ k : Fin k0_t1_loop.trips, k0_off9 k 64#32 = ![256 * k.val + 32 * 2, 0] := by decide +kernel
theorem off9_3 : ∀ k : Fin k0_t1_loop.trips, k0_off9 k 96#32 = ![256 * k.val + 32 * 3, 0] := by decide +kernel
theorem off9_4 : ∀ k : Fin k0_t1_loop.trips, k0_off9 k 128#32 = ![256 * k.val + 32 * 4, 0] := by decide +kernel
theorem off9_5 : ∀ k : Fin k0_t1_loop.trips, k0_off9 k 160#32 = ![256 * k.val + 32 * 5, 0] := by decide +kernel
theorem off9_6 : ∀ k : Fin k0_t1_loop.trips, k0_off9 k 192#32 = ![256 * k.val + 32 * 6, 0] := by decide +kernel
theorem off9_7 : ∀ k : Fin k0_t1_loop.trips, k0_off9 k 224#32 = ![256 * k.val + 32 * 7, 0] := by decide +kernel

/-- The weight scaled, transposed: row `n` holds column `n` of the codes, times its group's power of two. -/
def wT (C : S1280x5120.Idx → EReal) (P : S160x1280.Idx → EReal) : S5120x1280.Idx → EReal := fun y =>
  C (ix2 (y 1) (y 0)) * P (ix2 (⟨(y 0).val / 32, by have : (y 0).val < 5120 := (y 0).isLt; omega⟩ : Fin 160) (y 1))

theorem wp0_at (v73 : Vec Ideal S8x1280 .f32) (v76 : Vec Ideal S1x1280x256 .fp8e4m3) (j : Fin 32) (l : Fin 1280) :
    k0_pay14 (F := Ideal) (k0_pay13 v73 v76) (ix2 j l) = v76 (ix3 (0 : Fin 1) l (⟨0 + j.val, by omega⟩ : Fin 256)) * v73 (ix2 (⟨0, by omega⟩ : Fin 8) l) := by
  pointwise [k0_pay14, k0_pay13, k0_pay12, k0_pay11]

theorem wp1_at (v73 : Vec Ideal S8x1280 .f32) (v76 : Vec Ideal S1x1280x256 .fp8e4m3) (j : Fin 32) (l : Fin 1280) :
    k0_pay15 (F := Ideal) (k0_pay11 v73) (k0_pay12 v76) (ix2 j l) = v76 (ix3 (0 : Fin 1) l (⟨32 + j.val, by omega⟩ : Fin 256)) * v73 (ix2 (⟨1, by omega⟩ : Fin 8) l) := by
  pointwise [k0_pay15, k0_pay11, k0_pay12]

theorem wp2_at (v73 : Vec Ideal S8x1280 .f32) (v76 : Vec Ideal S1x1280x256 .fp8e4m3) (j : Fin 32) (l : Fin 1280) :
    k0_pay16 (F := Ideal) (k0_pay11 v73) (k0_pay12 v76) (ix2 j l) = v76 (ix3 (0 : Fin 1) l (⟨64 + j.val, by omega⟩ : Fin 256)) * v73 (ix2 (⟨2, by omega⟩ : Fin 8) l) := by
  pointwise [k0_pay16, k0_pay11, k0_pay12]

theorem wp3_at (v73 : Vec Ideal S8x1280 .f32) (v76 : Vec Ideal S1x1280x256 .fp8e4m3) (j : Fin 32) (l : Fin 1280) :
    k0_pay17 (F := Ideal) (k0_pay11 v73) (k0_pay12 v76) (ix2 j l) = v76 (ix3 (0 : Fin 1) l (⟨96 + j.val, by omega⟩ : Fin 256)) * v73 (ix2 (⟨3, by omega⟩ : Fin 8) l) := by
  pointwise [k0_pay17, k0_pay11, k0_pay12]

theorem wp4_at (v73 : Vec Ideal S8x1280 .f32) (v76 : Vec Ideal S1x1280x256 .fp8e4m3) (j : Fin 32) (l : Fin 1280) :
    k0_pay250 (F := Ideal) (k0_pay18 (k0_pay11 v73) (k0_pay12 v76)) (ix2 j l) = v76 (ix3 (0 : Fin 1) l (⟨128 + j.val, by omega⟩ : Fin 256)) * v73 (ix2 (⟨4, by omega⟩ : Fin 8) l) := by
  pointwise [k0_pay250, k0_pay18, k0_pay11, k0_pay12]

theorem wp5_at (v73 : Vec Ideal S8x1280 .f32) (v76 : Vec Ideal S1x1280x256 .fp8e4m3) (j : Fin 32) (l : Fin 1280) :
    k0_pay251 (F := Ideal) (k0_pay11 v73) (k0_pay12 v76) (ix2 j l) = v76 (ix3 (0 : Fin 1) l (⟨160 + j.val, by omega⟩ : Fin 256)) * v73 (ix2 (⟨5, by omega⟩ : Fin 8) l) := by
  pointwise [k0_pay251, k0_pay11, k0_pay12]

theorem wp6_at (v73 : Vec Ideal S8x1280 .f32) (v76 : Vec Ideal S1x1280x256 .fp8e4m3) (j : Fin 32) (l : Fin 1280) :
    k0_pay252 (F := Ideal) (k0_pay11 v73) (k0_pay12 v76) (ix2 j l) = v76 (ix3 (0 : Fin 1) l (⟨192 + j.val, by omega⟩ : Fin 256)) * v73 (ix2 (⟨6, by omega⟩ : Fin 8) l) := by
  pointwise [k0_pay252, k0_pay11, k0_pay12]

theorem wp7_at (v73 : Vec Ideal S8x1280 .f32) (v76 : Vec Ideal S1x1280x256 .fp8e4m3) (j : Fin 32) (l : Fin 1280) :
    k0_pay253 (F := Ideal) (k0_pay11 v73) (k0_pay12 v76) (ix2 j l) = v76 (ix3 (0 : Fin 1) l (⟨224 + j.val, by omega⟩ : Fin 256)) * v73 (ix2 (⟨7, by omega⟩ : Fin 8) l) := by
  pointwise [k0_pay253, k0_pay11, k0_pay12]

/-- One strip's store, read back. -/
theorem piece_read (v : View sig .tc .vmem S5120x1280 .bf16) (f : v.ty.Contents (Elt Ideal)) (rest : List (View.Piece (Elt Ideal) S5120x1280 .bf16)) (o : Fin 2 → ℕ) (k b : ℕ)
    (ho : o = ![256 * k + 32 * b, 0]) (inb : ∀ a : Fin 2, o a + S32x1280.size a ≤ S5120x1280.size a) (pay : Vec Ideal S32x1280 .bf16)
    (g : S5120x1280.Idx → EReal) (y : S5120x1280.Idx) (hb : b < 8)
    (hp : ∀ (j : Fin 32) (l : Fin 1280) (h : 256 * k + 32 * b + j.val < 5120), pay (ix2 j l) = g (ix2 (⟨256 * k + 32 * b + j.val, h⟩ : Fin 5120) l))
    (hr : (∀ n : ℕ, n = b → 256 * k ≤ (y 0).val → (y 0).val < 256 * k + 32 * n → v.read (Elt Ideal) (v.writes (Elt Ideal) f rest) y = g y)
       ∧ (¬ (256 * k ≤ (y 0).val ∧ (y 0).val < 256 * k + 32 * b) → v.read (Elt Ideal) (v.writes (Elt Ideal) f rest) y = v.read (Elt Ideal) f y)) :
    (∀ n : ℕ, n = b + 1 → 256 * k ≤ (y 0).val → (y 0).val < 256 * k + 32 * n → v.read (Elt Ideal) (v.writes (Elt Ideal) f (⟨Rect.unit (s := S5120x1280) o S32x1280.size inb, pay⟩ :: rest)) y = g y)
       ∧ (¬ (256 * k ≤ (y 0).val ∧ (y 0).val < 256 * k + 32 * (b + 1)) → v.read (Elt Ideal) (v.writes (Elt Ideal) f (⟨Rect.unit (s := S5120x1280) o S32x1280.size inb, pay⟩ :: rest)) y = v.read (Elt Ideal) f y) := by
  subst ho
  have hy : (y 0).val < 5120 := (y 0).isLt
  by_cases hc : 256 * k + 32 * b ≤ (y 0).val ∧ (y 0).val < 256 * k + 32 * b + 32
  · refine ⟨fun n hn h1 h2 => ?_, fun h => absurd ⟨by omega, by omega⟩ h⟩
    refine (View.read_writes_cons_unit_of_mem v _ inb _ _ y (ix2 (⟨(y 0).val - (256 * k + 32 * b), by omega⟩ : Fin 32) (y 1)) rfl
      (Fin.forall_fin_two.mpr ⟨by show (y 0).val = 256 * k + 32 * b + ((y 0).val - (256 * k + 32 * b)); omega, by show (y 1).val = 0 + (y 1).val; omega⟩)).trans ?_
    refine (hp _ _ (by show 256 * k + 32 * b + ((y 0).val - (256 * k + 32 * b)) < 5120; omega)).trans (congrArg g ?_)
    funext a
    refine Fin.ext ?_
    match a with
    | ⟨0, _⟩ => show 256 * k + 32 * b + ((y 0).val - (256 * k + 32 * b)) = (y 0).val; omega
    | ⟨1, _⟩ => rfl
  · have e := View.read_writes_cons_unit_of_not_mem v f inb pay rest y rfl (0 : Fin 2) (by
      show (y 0).val < 256 * k + 32 * b ∨ 256 * k + 32 * b + 32 ≤ (y 0).val; omega)
    refine ⟨fun n hn h1 h2 => ?_, fun h => ?_⟩
    · rw [e]; exact hr.1 b rfl h1 (by omega)
    · rw [e]; exact hr.2 (by omega)

theorem piece_val (k b : ℕ) (v73 : Vec Ideal S8x1280 .f32) (v76 : Vec Ideal S1x1280x256 .fp8e4m3) (C : S1280x5120.Idx → EReal) (P : S160x1280.Idx → EReal) (hk : k < 20) (hb : b < 8)
    (h73 : ∀ (q : Fin 8) (l : Fin 1280), v73 (ix2 q l) = P (ix2 (⟨8 * k + q.val, by omega⟩ : Fin 160) l))
    (h76 : ∀ (l : Fin 1280) (m : Fin 256), v76 (ix3 (0 : Fin 1) l m) = C (ix2 l (⟨256 * k + m.val, by omega⟩ : Fin 5120)))
    (j : Fin 32) (l : Fin 1280) (h : 256 * k + 32 * b + j.val < 5120) :
    v76 (ix3 (0 : Fin 1) l (⟨32 * b + j.val, by omega⟩ : Fin 256)) * v73 (ix2 (⟨b, hb⟩ : Fin 8) l) = wT C P (ix2 (⟨256 * k + 32 * b + j.val, h⟩ : Fin 5120) l) := by
  rw [h73, h76]
  unfold wT
  refine Ideal.mul_congr (congrArg C (congrArg (fun r => ix2 l r) (Fin.ext ?_))) (congrArg P (congrArg (fun r => ix2 r l) (Fin.ext ?_)))
  · show 256 * k + (32 * b + j.val) = 256 * k + 32 * b + j.val; omega
  · show 8 * k + b = (256 * k + 32 * b + j.val) / 32; omega

theorem wpieces_read (v : View sig .tc .vmem S5120x1280 .bf16) (f : v.ty.Contents (Elt Ideal)) (i : grid0.Coords) (k : Fin k0_t1_loop.trips) (h1 : k0_cond1 i = 1#1)
    (v73 : Vec Ideal S8x1280 .f32) (v76 : Vec Ideal S1x1280x256 .fp8e4m3) (C : S1280x5120.Idx → EReal) (P : S160x1280.Idx → EReal) (hk : k.val < 20)
    (h73 : ∀ (q : Fin 8) (l : Fin 1280), v73 (ix2 q l) = P (ix2 (⟨8 * k.val + q.val, by omega⟩ : Fin 160) l))
    (h76 : ∀ (l : Fin 1280) (m : Fin 256), v76 (ix3 (0 : Fin 1) l m) = C (ix2 l (⟨256 * k.val + m.val, by omega⟩ : Fin 5120)))
    (hf : ∀ y, (y 0).val < 256 * k.val → v.read (Elt Ideal) f y = wT C P y) (y : S5120x1280.Idx) (hy : (y 0).val < 256 * (k.val + 1)) :
    v.read (Elt Ideal) (v.writes (Elt Ideal) f (wpieces i k h1 v73 v76)) y = wT C P y := by
  have H := (
    piece_read v f _ _ k.val 7 (off9_7 k) (k0_off9_inb i k h1 7) _ (wT C P) y (by decide) (fun j l h => (wp7_at v73 v76 j l).trans (piece_val k.val 7 v73 v76 C P hk (by decide) h73 h76 j l h))
    (piece_read v f _ _ k.val 6 (off9_6 k) (k0_off9_inb i k h1 6) _ (wT C P) y (by decide) (fun j l h => (wp6_at v73 v76 j l).trans (piece_val k.val 6 v73 v76 C P hk (by decide) h73 h76 j l h))
    (piece_read v f _ _ k.val 5 (off9_5 k) (k0_off9_inb i k h1 5) _ (wT C P) y (by decide) (fun j l h => (wp5_at v73 v76 j l).trans (piece_val k.val 5 v73 v76 C P hk (by decide) h73 h76 j l h))
    (piece_read v f _ _ k.val 4 (off9_4 k) (k0_off9_inb i k h1 4) _ (wT C P) y (by decide) (fun j l h => (wp4_at v73 v76 j l).trans (piece_val k.val 4 v73 v76 C P hk (by decide) h73 h76 j l h))
    (piece_read v f _ _ k.val 3 (off9_3 k) (k0_off9_inb i k h1 3) _ (wT C P) y (by decide) (fun j l h => (wp3_at v73 v76 j l).trans (piece_val k.val 3 v73 v76 C P hk (by decide) h73 h76 j l h))
    (piece_read v f _ _ k.val 2 (off9_2 k) (k0_off9_inb i k h1 2) _ (wT C P) y (by decide) (fun j l h => (wp2_at v73 v76 j l).trans (piece_val k.val 2 v73 v76 C P hk (by decide) h73 h76 j l h))
    (piece_read v f _ _ k.val 1 (off9_1 k) (k0_off9_inb i k h1 1) _ (wT C P) y (by decide) (fun j l h => (wp1_at v73 v76 j l).trans (piece_val k.val 1 v73 v76 C P hk (by decide) h73 h76 j l h))
    (piece_read v f [] _ k.val 0 (off9_0 k) (k0_off9_inb i k h1 0) _ (wT C P) y (by decide) (fun j l h => (wp0_at v73 v76 j l).trans (piece_val k.val 0 v73 v76 C P hk (by decide) h73 h76 j l h))
    (⟨fun n hn a b => absurd b (by omega), fun _ => rfl⟩)))))))))
  by_cases hc : 256 * k.val ≤ (y 0).val
  · exact H.1 8 rfl hc (by omega)
  · exact (H.2 (by omega)).trans (hf y (by omega))

/-- A trip that starts the next block: its own block has come in, the next is in flight. -/
theorem tripv_mid (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1) (k : Fin k0_t1_loop.trips)
    (h2 : k0_cond2 k = 1#1) (X13 : BufTy.Contents (Elt Ideal) arg13.view.ty) (X12 : BufTy.Contents (Elt Ideal) arg12.view.ty) (V : Vec Ideal S1x1280x256 .fp8e4m3) (W)
    (sW sI : Memref sig .tc .vmem S1280x256 .fp8e4m3) (bW bI : Memref sig .tc .hbm S1280x256 .fp8e4m3) (cW cI : SemLoc sig)
    (esW : slotW i k k0_h1 = sW) (esI : slotI i k k0_h1 h2 = sI) (ebW : srcW i k k0_h1 = bW) (ebI : srcI i k k0_h1 h2 = bI)
    (ecW : cellW i k k0_h1 = cW) (ecI : cellI i k k0_h1 h2 = cI)
    (f0 : Buf (Elt Ideal) (sW.view.loc (c : Thread nD τ))) (f1 : Buf (Elt Ideal) (sI.view.loc (c : Thread nD τ)))
    (fW : Buf (Elt Ideal) (bW.view.loc (c : Thread nD τ))) (fI : Buf (Elt Ideal) (bI.view.loc (c : Thread nD τ))) (hV : ∀ a, V a = sW.view.read (Elt Ideal) f0 (ix2 (a 1) (a 2))) :
    iprop(flying c cW sW bW f0 fW ∗ held c sI f1 ∗ semVal ((c : Thread nD τ), cI) 0 ∗ held c bI fI
      ∗ owes (c : Thread nD τ) 0 W ∗ (arg13.view.loc (c : Thread nD τ) ↦[arg13.view.set]{fullShare} X13) ∗ (arg12.view.loc (c : Thread nD τ) ↦[arg12.view.set]{fullShare} X12))
    ⊢ wp frame (wpE (defs₀ (F := Ideal)) Variants.none (c : Thread nD τ) none) Set.univ
        (k0_t1_body (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(held c sW f0 ∗ semVal ((c : Thread nD τ), cW) 0 ∗ held c bW fW
          ∗ (∃ f, ⌜∀ y, sI.view.read (Elt Ideal) f y = bI.view.read (Elt Ideal) fI y⌝ ∗ flying c cI sI bI f fI)
          ∗ (∃ W, owes (c : Thread nD τ) 0 W) ∗ (arg13.view.loc (c : Thread nD τ) ↦[arg13.view.set]{fullShare} X13) ∗ (arg12.view.loc (c : Thread nD τ) ↦[arg12.view.set]{fullShare} (arg12.view.writes (Elt Ideal) X12 (wpieces i k k0_h1 (ld13 arg13 i k k0_h1 X13) V))))) := by
  subst esW esI ebW ebI ecW ecI
  have hS := loadW_sub i k k0_h1
  obtain rfl : V = ldW c i k k0_h1 f0 := funext fun a => (hV a).trans (ldW_at c i k k0_h1 f0 a).symm
  unfold k0_t1_body flying held
  iintro ⟨HF, H1, HV, HB, HO, H13, H12⟩
  sl_exec
  sl_step
  isplitl [HF_dst]; · iexact HF_dst
  isplitl [HF]; · iexact HF
  isplitl [HF_src]; · iexact HF_src
  isplitl [HV]
  · iexists _; isplitr; swap; · iexact HV
    ipureintro; intro y
    exact dma_read _ _ _ y
  isplitl [HO]; · iexists _; iexact HO
  isplitl [H13]; · iexact H13
  iexact H12

/-- The last trip starts nothing. -/
theorem tripv_last (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1) (k : Fin k0_t1_loop.trips)
    (h2 : ¬ k0_cond2 k = 1#1) (X13 : BufTy.Contents (Elt Ideal) arg13.view.ty) (X12 : BufTy.Contents (Elt Ideal) arg12.view.ty) (V : Vec Ideal S1x1280x256 .fp8e4m3) (W)
    (sW : Memref sig .tc .vmem S1280x256 .fp8e4m3) (bW : Memref sig .tc .hbm S1280x256 .fp8e4m3) (cW : SemLoc sig)
    (esW : slotW i k k0_h1 = sW) (ebW : srcW i k k0_h1 = bW) (ecW : cellW i k k0_h1 = cW)
    (f0 : Buf (Elt Ideal) (sW.view.loc (c : Thread nD τ))) (fW : Buf (Elt Ideal) (bW.view.loc (c : Thread nD τ))) (hV : ∀ a, V a = sW.view.read (Elt Ideal) f0 (ix2 (a 1) (a 2))) :
    iprop(flying c cW sW bW f0 fW
      ∗ owes (c : Thread nD τ) 0 W ∗ (arg13.view.loc (c : Thread nD τ) ↦[arg13.view.set]{fullShare} X13) ∗ (arg12.view.loc (c : Thread nD τ) ↦[arg12.view.set]{fullShare} X12))
    ⊢ wp frame (wpE (defs₀ (F := Ideal)) Variants.none (c : Thread nD τ) none) Set.univ
        (k0_t1_body (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(held c sW f0 ∗ semVal ((c : Thread nD τ), cW) 0 ∗ held c bW fW
          ∗ (∃ W, owes (c : Thread nD τ) 0 W) ∗ (arg13.view.loc (c : Thread nD τ) ↦[arg13.view.set]{fullShare} X13) ∗ (arg12.view.loc (c : Thread nD τ) ↦[arg12.view.set]{fullShare} (arg12.view.writes (Elt Ideal) X12 (wpieces i k k0_h1 (ld13 arg13 i k k0_h1 X13) V))))) := by
  subst esW ebW ecW
  have hS := loadW_sub i k k0_h1
  obtain rfl : V = ldW c i k k0_h1 f0 := funext fun a => (hV a).trans (ldW_at c i k k0_h1 f0 a).symm
  unfold k0_t1_body flying held
  iintro ⟨HF, HO, H13, H12⟩
  sl_exec
  sl_step
  isplitl [HF_dst]; · iexact HF_dst
  isplitl [HF]; · iexact HF
  isplitl [HF_src]; · iexact HF_src
  isplitl [HO]; · iexists _; iexact HO
  isplitl [H13]; · iexact H13
  iexact H12

/-- Block `n` of the weight's codes. -/
theorem blk_at (c : Dev nD) (n : Fin 20) (fh : Buf (Elt Ideal) ((c : Thread nD τ).loc main_arg3)) (l : Fin 1280) (m : Fin 256) :
    (blkAt n).view.read (Elt Ideal) fh (ix2 l m) = (Memref.whole main_arg3).view.read (Elt Ideal) fh (ix2 l (⟨256 * n.val + m.val, by omega⟩ : Fin 5120)) := by
  show (Memref.whole main_arg3).view.read (Elt Ideal) fh _ = _
  congr 1
  funext a
  refine Fin.ext ?_
  match a with
  | ⟨0, _⟩ => show 0 + 1 * l.val = l.val; omega
  | ⟨1, _⟩ => show 256 * n.val + 1 * m.val = 256 * n.val + m.val; omega

theorem off7_eq : ∀ k : Fin k0_t1_loop.trips, k0_off7 k = ![8 * k.val, 0] := by decide +kernel

theorem ld13_at (arg13 : Memref sig .tc .vmem S160x1280 .f32) (i : grid0.Coords) (k : Fin k0_t1_loop.trips) (h1 : k0_cond1 i = 1#1)
    (X13 : BufTy.Contents (Elt Ideal) arg13.view.ty) (hk : k.val < 20) (q : Fin 8) (l : Fin 1280) :
    ld13 arg13 i k h1 X13 (ix2 q l) = arg13.view.read (Elt Ideal) X13 (ix2 (⟨8 * k.val + q.val, by omega⟩ : Fin 160) l) := by
  have key : ∀ (o : Fin 2 → ℕ) (e : o = ![8 * k.val, 0]) (h),
      (arg13.view.readAt (Elt Ideal) (Rect.unit (s := S160x1280) o S8x1280.size h).toLoadRect X13 : Vec Ideal S8x1280 .f32) (ix2 q l)
        = arg13.view.read (Elt Ideal) X13 (ix2 (⟨8 * k.val + q.val, by omega⟩ : Fin 160) l) := by
    intro o e h
    subst e
    rw [View.readAt_unit arg13.view X13 h rfl h]
    show arg13.view.read (Elt Ideal) X13 _ = _
    congr 1
    funext a
    refine Fin.ext ?_
    match a with
    | ⟨0, _⟩ => show 8 * k.val + 1 * q.val = 8 * k.val + q.val; omega
    | ⟨1, _⟩ => show 0 + 1 * l.val = l.val; omega
  exact key _ (off7_eq k) _

/-- As `ring1`, with what lies in the slot in flight. Before trip `n`: block `n` in flight into its slot, the other slot and its cell at rest, the rest of the weight here;
    after the last trip everything at rest. -/
def ring1v (c : Dev nD) (fh : Buf (Elt Ideal) ((c : Thread nD τ).loc main_arg3)) (n : ℕ) : sProp 𝕄 :=
  if h : n < 20 then
    iprop(∃ f0 f1, ⌜∀ y, (slotAt (par n)).view.read (Elt Ideal) f0 y = (blkAt ⟨n, h⟩).view.read (Elt Ideal) fh y⌝ ∗ flying c (cellAt (par n)) (slotAt (par n)) (blkAt ⟨n, h⟩) f0 fh ∗ held c (slotAt (par (n + 1))) f1
      ∗ semVal ((c : Thread nD τ), cellAt (par (n + 1))) 0 ∗ wcOn c (Finset.univ \ (blkAt ⟨n, h⟩).view.set) fh)
  else
    iprop(∃ f0 f1, held c (slotAt 0) f0 ∗ held c (slotAt 1) f1
      ∗ semVal ((c : Thread nD τ), cellAt 0) 0 ∗ semVal ((c : Thread nD τ), cellAt 1) 0 ∗ wcOn c Finset.univ fh)

theorem step1v (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt Ideal) ((c : Thread nD τ).loc main_arg3)) (X13 : BufTy.Contents (Elt Ideal) arg13.view.ty) (k : Fin k0_t1_loop.trips) :
    iprop(ring1v c fh k.val ∗ (∃ W, owes (c : Thread nD τ) 0 W) ∗ (arg13.view.loc (c : Thread nD τ) ↦[arg13.view.set]{fullShare} X13) ∗ (∃ f, ⌜∀ y, (y 0).val < 256 * k.val → arg12.view.read (Elt Ideal) f y = wT ((Memref.whole main_arg3).view.read (Elt Ideal) fh) (arg13.view.read (Elt Ideal) X13) y⌝ ∗ (arg12.view.loc (c : Thread nD τ) ↦[arg12.view.set]{fullShare} f)))
    ⊢ wp frame (wpE (defs₀ (F := Ideal)) Variants.none (c : Thread nD τ) none) Set.univ
        (k0_t1_body (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1 k PUnit.unit)
        (fun _ => iprop(ring1v c fh (k.val + 1) ∗ (∃ W, owes (c : Thread nD τ) 0 W) ∗ (arg13.view.loc (c : Thread nD τ) ↦[arg13.view.set]{fullShare} X13) ∗ (∃ f, ⌜∀ y, (y 0).val < 256 * (k.val + 1) → arg12.view.read (Elt Ideal) f y = wT ((Memref.whole main_arg3).view.read (Elt Ideal) fh) (arg13.view.read (Elt Ideal) X13) y⌝ ∗ (arg12.view.loc (c : Thread nD τ) ↦[arg12.view.set]{fullShare} f)))) := by
  have hk : k.val < 20 := trips1 ▸ k.isLt
  have hA : ∀ a : S1x1280x256.Idx, 256 * k.val + (a 2).val < 5120 := fun a => by have : (a 2).val < 256 := (a 2).isLt; omega
  by_cases h : k.val + 1 < 20
  · have h2 := (cond2_iff k).2 h
    have hne : (⟨k.val, hk⟩ : Fin 20) ≠ ⟨k.val + 1, h⟩ := fun e => by have := congrArg Fin.val e; simp at this
    unfold ring1v
    rw [dif_pos hk, dif_pos h]
    iintro ⟨⟨%f0, %f1, %h0, HF, H1, HV, HR⟩, ⟨%W, HO⟩, H13, ⟨%f12, %h12, H12⟩⟩
    ihave HR' := (wc_next c fh hne) $$ HR
    icases HR' with ⟨HB, HR⟩
    have hV : ∀ a : S1x1280x256.Idx, (fun a : S1x1280x256.Idx => (Memref.whole main_arg3).view.read (Elt Ideal) fh (ix2 (a 1) (⟨256 * k.val + (a 2).val, hA a⟩ : Fin 5120))) a = (slotAt (par k.val)).view.read (Elt Ideal) f0 (ix2 (a 1) (a 2)) :=
      fun a => ((h0 _).trans (blk_at c ⟨k.val, hk⟩ fh (a 1) (a 2))).symm
    iapply (wp_wand_r Idealize.ShloMosaic.frame (wpE (defs₀ (F := Ideal)) Variants.none (c : Thread nD τ) none) Set.univ)
    isplitl [HF H1 HV HB HO H13 H12]
    · iapply (tripv_mid c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 k h2 X13 f12 (fun a => (Memref.whole main_arg3).view.read (Elt Ideal) fh (ix2 (a 1) (⟨256 * k.val + (a 2).val, hA a⟩ : Fin 5120))) W _ _ _ _ _ _ (slotW_eq i k k0_h1) (slotI_eq i k k0_h1 h2) (srcW_eq i k k0_h1 hk) (srcI_eq i k k0_h1 h2 h) (cellW_eq i k k0_h1) (cellI_eq i k k0_h1 h2) f0 f1 fh fh hV)
      isplitl [HF]; · iexact HF
      isplitl [H1]; · iexact H1
      isplitl [HV]; · iexact HV
      isplitl [HB]; · iexact HB
      isplitl [HO]; · iexact HO
      isplitl [H13]; · iexact H13
      iexact H12
    · rw [show par (k.val + 1 + 1) = par k.val from by unfold par; ext; show (k.val + 1 + 1) % 2 = k.val % 2; omega]
      iintro %_ ⟨H0, HV, HB, ⟨%f, %hf, HF⟩, HO, H13, H12⟩
      ihave HR' := (wc_back c fh hne) $$ [HB HR]
      · isplitl [HB]; · iexact HB
        iexact HR
      isplitl [H0 HV HF HR']
      · iexists f; iexists f0
        isplitr; · ipureintro; exact hf
        isplitl [HF]; · iexact HF
        isplitl [H0]; · iexact H0
        isplitl [HV]; · iexact HV
        iexact HR'
      isplitl [HO]; · iexact HO
      isplitl [H13]; · iexact H13
      iexists _; isplitr; swap; · iexact H12
      ipureintro
      exact fun y hy => wpieces_read arg12.view f12 i k k0_h1 _ _ _ _ hk (ld13_at arg13 i k k0_h1 X13 hk) (fun l m => rfl) h12 y hy
  · have h2 : ¬ k0_cond2 k = 1#1 := fun e => h ((cond2_iff k).1 e)
    have e19 : k.val = 19 := by omega
    unfold ring1v
    rw [dif_pos hk, dif_neg h]
    have p1 : par k.val = 1 := by rw [e19]; rfl
    have p0 : par (k.val + 1) = 0 := by rw [e19]; rfl
    rw [p0, p1]
    iintro ⟨⟨%f0, %f1, %h0, HF, H1, HV, HR⟩, ⟨%W, HO⟩, H13, ⟨%f12, %h12, H12⟩⟩
    have hV : ∀ a : S1x1280x256.Idx, (fun a : S1x1280x256.Idx => (Memref.whole main_arg3).view.read (Elt Ideal) fh (ix2 (a 1) (⟨256 * k.val + (a 2).val, hA a⟩ : Fin 5120))) a = (slotAt 1).view.read (Elt Ideal) f0 (ix2 (a 1) (a 2)) :=
      fun a => ((h0 _).trans (blk_at c ⟨k.val, hk⟩ fh (a 1) (a 2))).symm
    iapply (wp_wand_r Idealize.ShloMosaic.frame (wpE (defs₀ (F := Ideal)) Variants.none (c : Thread nD τ) none) Set.univ)
    isplitl [HF HO H13 H12]
    · iapply (tripv_last c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 k h2 X13 f12 (fun a => (Memref.whole main_arg3).view.read (Elt Ideal) fh (ix2 (a 1) (⟨256 * k.val + (a 2).val, hA a⟩ : Fin 5120))) W _ _ _ ((slotW_eq i k k0_h1).trans (congrArg slotAt p1)) (srcW_eq i k k0_h1 hk) ((cellW_eq i k k0_h1).trans (congrArg cellAt p1)) f0 fh hV)
      isplitl [HF]; · iexact HF
      isplitl [HO]; · iexact HO
      isplitl [H13]; · iexact H13
      iexact H12
    · iintro %_ ⟨H0, HV', HB, HO, H13, H12⟩
      ihave HR' := (wc_join c fh ⟨k.val, hk⟩) $$ [HB HR]
      · isplitl [HB]; · iexact HB
        iexact HR
      isplitl [H0 H1 HV HV' HR']
      · iexists f1; iexists f0
        isplitl [H1]; · iexact H1
        isplitl [H0]; · iexact H0
        isplitl [HV]; · iexact HV
        isplitl [HV']; · iexact HV'
        iexact HR'
      isplitl [HO]; · iexact HO
      isplitl [H13]; · iexact H13
      iexists _; isplitr; swap; · iexact H12
      ipureintro
      exact fun y hy => wpieces_read arg12.view f12 i k k0_h1 _ _ _ _ hk (ld13_at arg13 i k k0_h1 X13 hk) (fun l m => rfl) h12 y hy

end Cert.KernelIdeal.Hand

end
-- ==== Proof.KernelIdealRow.lean ====
module

public import proofs.«01_k».proof.Proof.KernelIdealPureC

@[expose] public section

set_option maxRecDepth 16384
set_option maxHeartbeats 1000000

noncomputable section

namespace Cert.KernelIdeal.Hand

open Idealize.ShloMosaic Idealize.ShloMosaic.TcCoe Idealize.ShloMosaic.Tactic
open Cert.KernelIdeal Cert.KernelIdeal.Gen

/-- The magnitudes of the upper sixteen rows against those of the lower sixteen, of magnitudes already taken. -/
def VHa (a : FVec Ideal S32x128 .bf16) : FVec Ideal S16x128 .bf16 :=
  maximumf (extractStridedSlice S16x128 ![0, 0] a slices_S32x128_o0_0_S16x128)
    (extractStridedSlice S16x128 ![16, 0] a slices_S32x128_o16_0_S16x128)

/-- The greatest of thirty-two rows, at every row. -/
def AMr (a : FVec Ideal S32x128 .bf16) : FVec Ideal S16x128 .f32 :=
  extf .f32 (VSw (VG 1#32 (VG 2#32 (VG 4#32 (VHa a))))) bitsLt_bf16_f32

/-- The search's words of thirty-two rows of magnitudes. -/
def RW (a : FVec Ideal S32x128 .bf16) : IVec S16x128 32 :=
  select (cmpf .olt (AMr a) (bitcastToFloat .f32 (broadcast S16x128 140509184#32))) (broadcast S16x128 1065353216#32)
    (subi (VT 8388608#32 (AMr a) (VT 16777216#32 (AMr a) (VT 33554432#32 (AMr a) (VT 58720256#32 (AMr a)
      (VT 125829120#32 (AMr a) (VT 251658240#32 (AMr a) (VT 503316480#32 (AMr a) (VT 998244352#32 (AMr a)
        (broadcast S16x128 140509184#32)))))))))
      (broadcast S16x128 123731968#32))

/-- The magnitudes of four strips, transposed. -/
def MagT (y0 y1 y2 y3 : FVec Ideal S32x128 .bf16) : FVec Ideal S128x128 .bf16 :=
  transpose S128x128 [1, 0] (concatenate S128x128 0 [⟨S32x128, absf (k0_pay257 (F := Ideal) y0)⟩, ⟨S32x128, absf (k0_pay257 (F := Ideal) y1)⟩,
    ⟨S32x128, absf (k0_pay257 (F := Ideal) y2)⟩, ⟨S32x128, absf (k0_pay257 (F := Ideal) y3)⟩] concatenates_S32x128_S32x128_S32x128_S32x128_S128x128_d0) transposes_S128x128_p1_0_S128x128

/-- The words of four strips, each element's by the block of thirty-two columns it lies in. -/
def PMT (y0 y1 y2 y3 : FVec Ideal S32x128 .bf16) : IVec S128x128 32 :=
  transpose S128x128 [1, 0] (concatenate S128x128 0 [
    ⟨S16x128, RW (extractStridedSlice S32x128 ![0, 0] (MagT y0 y1 y2 y3) slices_S128x128_o0_0_S32x128)⟩,
    ⟨S16x128, RW (extractStridedSlice S32x128 ![0, 0] (MagT y0 y1 y2 y3) slices_S128x128_o0_0_S32x128)⟩,
    ⟨S16x128, RW (extractStridedSlice S32x128 ![32, 0] (MagT y0 y1 y2 y3) slices_S128x128_o32_0_S32x128)⟩,
    ⟨S16x128, RW (extractStridedSlice S32x128 ![32, 0] (MagT y0 y1 y2 y3) slices_S128x128_o32_0_S32x128)⟩,
    ⟨S16x128, RW (extractStridedSlice S32x128 ![64, 0] (MagT y0 y1 y2 y3) slices_S128x128_o64_0_S32x128)⟩,
    ⟨S16x128, RW (extractStridedSlice S32x128 ![64, 0] (MagT y0 y1 y2 y3) slices_S128x128_o64_0_S32x128)⟩,
    ⟨S16x128, RW (extractStridedSlice S32x128 ![96, 0] (MagT y0 y1 y2 y3) slices_S128x128_o96_0_S32x128)⟩,
    ⟨S16x128, RW (extractStridedSlice S32x128 ![96, 0] (MagT y0 y1 y2 y3) slices_S128x128_o96_0_S32x128)⟩]
    concatenates_S16x128_S16x128_S16x128_S16x128_S16x128_S16x128_S16x128_S16x128_S128x128_d0) transposes_S128x128_p1_0_S128x128

/-- The codes of a strip under given words. -/
def RC (w : IVec S32x128 32) (y : FVec Ideal S32x128 .bf16) : FVec Ideal S32x128 .fp8e5m2 :=
  truncf .fp8e5m2 (codeV (k0_pay257 (F := Ideal) y) w) bitsLt_fp8e5m2_bf16

/-- The codes scaled back. -/
def RV (w : IVec S32x128 32) (y : FVec Ideal S32x128 .bf16) : FVec Ideal S32x128 .bf16 :=
  shapeCast S32x128 (backV (k0_pay257 (F := Ideal) y) w) shapeCasts_S32x128_S32x128

/-- The words of strip 0 of four. -/
def PS0 (y0 y1 y2 y3 : FVec Ideal S32x128 .bf16) : IVec S32x128 32 :=
  extractStridedSlice S32x128 ![0, 0] (PMT y0 y1 y2 y3) slices_S128x128_o0_0_S32x128

/-- The words of strip 1 of four. -/
def PS1 (y0 y1 y2 y3 : FVec Ideal S32x128 .bf16) : IVec S32x128 32 :=
  extractStridedSlice S32x128 ![32, 0] (PMT y0 y1 y2 y3) slices_S128x128_o32_0_S32x128

/-- The words of strip 2 of four. -/
def PS2 (y0 y1 y2 y3 : FVec Ideal S32x128 .bf16) : IVec S32x128 32 :=
  extractStridedSlice S32x128 ![64, 0] (PMT y0 y1 y2 y3) slices_S128x128_o64_0_S32x128

/-- The words of strip 3 of four. -/
def PS3 (y0 y1 y2 y3 : FVec Ideal S32x128 .bf16) : IVec S32x128 32 :=
  extractStridedSlice S32x128 ![96, 0] (PMT y0 y1 y2 y3) slices_S128x128_o96_0_S32x128

theorem VHa_at (a : FVec Ideal S32x128 .bf16) (j : Fin 16) (l : Fin 128) :
    VHa a (ix2 j l) = max (a (ix2 (lo j) l)) (a (ix2 (hi j) l)) := by
  pointwise [VHa]
  rfl

theorem AMr_at (a : FVec Ideal S32x128 .bf16) (j : Fin 16) (l : Fin 128) :
    AMr a (ix2 j l) = Finset.univ.sup fun r : Fin 32 => (a (ix2 r l) : EReal) := by
  have h0 : ∀ j, VHa a (ix2 j l) = (seen0 j).sup fun r => (a (ix2 r l) : EReal) := fun j => by
    rw [VHa_at, seen0, Finset.sup_insert, Finset.sup_singleton]
  have h4 : ∀ j, VG 4#32 (VHa a) (ix2 j l) = (seen4 j).sup fun r => (a (ix2 r l) : EReal) := fun j => by
    rw [VG4_at, h0, h0, seen4, Finset.sup_union]
  have h2 : ∀ j, VG 2#32 (VG 4#32 (VHa a)) (ix2 j l) = (seen2 j).sup fun r => (a (ix2 r l) : EReal) := fun j => by
    rw [VG2_at, h4, h4, seen2, Finset.sup_union]
  have h1 : ∀ j, VG 1#32 (VG 2#32 (VG 4#32 (VHa a))) (ix2 j l) = (seen1 j).sup fun r => (a (ix2 r l) : EReal) := fun j => by
    rw [VG1_at, h2, h2, seen1, Finset.sup_union]
  have hs : VSw (VG 1#32 (VG 2#32 (VG 4#32 (VHa a)))) (ix2 j l) = (seen j).sup fun r => (a (ix2 r l) : EReal) := by
    rw [VSw_at, h1, h1, seen, Finset.sup_union]
  rw [seen_all] at hs
  exact hs

theorem RW_at (a : FVec Ideal S32x128 .bf16) (j : Fin 16) (l : Fin 128) :
    RW a (ix2 j l) = Scale.word (Finset.univ.sup fun r : Fin 32 => (a (ix2 r l) : EReal)) := by
  unfold RW
  pointwise
  simp only [VT_at, AMr_at]
  rfl

theorem MagT_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (l k : Fin 128) : MagT y0 y1 y2 y3 (ix2 l k) = mag (x (ix2 k l)) := by
  have hv : ∀ (y : FVec Ideal S32x128 .bf16) (o : ℕ) (ho : o + 32 ≤ 128)
      (h : ∀ (j : Fin 32) (l : Fin 128), y (ix2 j l) = x (ix2 (⟨o + j.val, by omega⟩ : Fin 128) l)) (j : Fin 32), o + j.val = k.val →
      absf (k0_pay257 (F := Ideal) y) (ix2 j l) = mag (x (ix2 k l)) := by
    intro y o ho h j e
    refine (congrArg mag ((congrFun (pay257_eq y) _).trans (h j l))).trans ?_
    exact congrArg (fun r => mag (x (ix2 r l))) (Fin.ext e)
  unfold MagT
  pointwise
  by_cases c0 : (k : ℕ) < 32
  · exact (dif_pos c0).trans (hv y0 0 (by omega) h0 _ (by show 0 + k.val = k.val; omega))
  refine (dif_neg c0).trans ?_
  by_cases c1 : (k : ℕ) - 32 < 32
  · exact (dif_pos c1).trans (hv y1 32 (by omega) h1 _ (by show 32 + (k.val - 32) = k.val; omega))
  refine (dif_neg c1).trans ?_
  by_cases c2 : (k : ℕ) - 32 - 32 < 32
  · exact (dif_pos c2).trans (hv y2 64 (by omega) h2 _ (by show 64 + (k.val - 32 - 32) = k.val; omega))
  refine (dif_neg c2).trans ?_
  exact hv y3 96 (by omega) h3 _ (by show 96 + (k.val - 32 - 32 - 32) = k.val; omega)

theorem PMT_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (k l : Fin 128) : PMT y0 y1 y2 y3 (ix2 k l) = Scale.word (amax fun r => x (ix2 k (⟨32 * (l.val / 32) + r.val, by omega⟩ : Fin 128))) := by
  have hm := MagT_at y0 y1 y2 y3 x h0 h1 h2 h3
  have hb : ∀ (b : ℕ) (hb : b < 4) (o : Fin 2 → ℕ) (ho : o = ![32 * b, 0]) (hs : S128x128.Slices o S32x128), b = l.val / 32 → ∀ j : Fin 16,
      RW (extractStridedSlice S32x128 o (MagT y0 y1 y2 y3) hs) (ix2 j k) = Scale.word (amax fun r => x (ix2 k (⟨32 * (l.val / 32) + r.val, by omega⟩ : Fin 128))) := by
    intro b hb o ho hs e j
    subst ho
    rw [RW_at]
    refine congrArg Scale.word (Finset.sup_congr rfl fun r _ => ?_)
    refine Eq.trans ?_ (hm (⟨32 * (l.val / 32) + r.val, by omega⟩ : Fin 128) k)
    show MagT y0 y1 y2 y3 _ = _
    refine congrArg (MagT y0 y1 y2 y3) (funext fun a => Fin.ext ?_)
    match a with
    | ⟨0, _⟩ => show 32 * b + r.val = 32 * (l.val / 32) + r.val; omega
    | ⟨1, _⟩ => show 0 + k.val = k.val; omega
  unfold PMT
  pointwise
  by_cases c0 : (l : ℕ) < 16
  · rw [dif_pos c0]
    exact hb 0 (by decide) _ rfl _ (by omega) _
  rw [dif_neg c0]
  by_cases c1 : (l : ℕ) - 16 < 16
  · rw [dif_pos c1]
    exact hb 0 (by decide) _ rfl _ (by omega) _
  rw [dif_neg c1]
  by_cases c2 : (l : ℕ) - 16 - 16 < 16
  · rw [dif_pos c2]
    exact hb 1 (by decide) _ rfl _ (by omega) _
  rw [dif_neg c2]
  by_cases c3 : (l : ℕ) - 16 - 16 - 16 < 16
  · rw [dif_pos c3]
    exact hb 1 (by decide) _ rfl _ (by omega) _
  rw [dif_neg c3]
  by_cases c4 : (l : ℕ) - 16 - 16 - 16 - 16 < 16
  · rw [dif_pos c4]
    exact hb 2 (by decide) _ rfl _ (by omega) _
  rw [dif_neg c4]
  by_cases c5 : (l : ℕ) - 16 - 16 - 16 - 16 - 16 < 16
  · rw [dif_pos c5]
    exact hb 2 (by decide) _ rfl _ (by omega) _
  rw [dif_neg c5]
  by_cases c6 : (l : ℕ) - 16 - 16 - 16 - 16 - 16 - 16 < 16
  · rw [dif_pos c6]
    exact hb 3 (by decide) _ rfl _ (by omega) _
  rw [dif_neg c6]
  exact hb 3 (by decide) _ rfl _ (by have := l.isLt; omega) _

theorem RC0_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RC (PS0 y0 y1 y2 y3) y0 (ix2 j l)
      = code (x (ix2 (⟨0 + j.val, by omega⟩ : Fin 128) l)) (amax fun r => x (ix2 (⟨0 + j.val, by omega⟩ : Fin 128) (⟨32 * (l.val / 32) + r.val, by omega⟩ : Fin 128))) := by
  have hw : PS0 y0 y1 y2 y3 (ix2 j l) = Scale.word (amax fun r => x (ix2 (⟨0 + j.val, by omega⟩ : Fin 128) (⟨32 * (l.val / 32) + r.val, by omega⟩ : Fin 128))) := by
    refine Eq.trans ?_ (PMT_at y0 y1 y2 y3 x h0 h1 h2 h3 (⟨0 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := codeV_at y0 (PS0 y0 y1 y2 y3) j l
  rw [hw, h0] at h
  unfold RC
  rw [pay257_eq]
  exact h

theorem RV0_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RV (PS0 y0 y1 y2 y3) y0 (ix2 j l)
      = back (x (ix2 (⟨0 + j.val, by omega⟩ : Fin 128) l)) (amax fun r => x (ix2 (⟨0 + j.val, by omega⟩ : Fin 128) (⟨32 * (l.val / 32) + r.val, by omega⟩ : Fin 128))) := by
  have hw : PS0 y0 y1 y2 y3 (ix2 j l) = Scale.word (amax fun r => x (ix2 (⟨0 + j.val, by omega⟩ : Fin 128) (⟨32 * (l.val / 32) + r.val, by omega⟩ : Fin 128))) := by
    refine Eq.trans ?_ (PMT_at y0 y1 y2 y3 x h0 h1 h2 h3 (⟨0 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := backV_at y0 (PS0 y0 y1 y2 y3) j l
  rw [codeV_at, hw, h0] at h
  unfold RV
  rw [shapeCast_same, pay257_eq]
  exact h

theorem RC1_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RC (PS1 y0 y1 y2 y3) y1 (ix2 j l)
      = code (x (ix2 (⟨32 + j.val, by omega⟩ : Fin 128) l)) (amax fun r => x (ix2 (⟨32 + j.val, by omega⟩ : Fin 128) (⟨32 * (l.val / 32) + r.val, by omega⟩ : Fin 128))) := by
  have hw : PS1 y0 y1 y2 y3 (ix2 j l) = Scale.word (amax fun r => x (ix2 (⟨32 + j.val, by omega⟩ : Fin 128) (⟨32 * (l.val / 32) + r.val, by omega⟩ : Fin 128))) := by
    refine Eq.trans ?_ (PMT_at y0 y1 y2 y3 x h0 h1 h2 h3 (⟨32 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := codeV_at y1 (PS1 y0 y1 y2 y3) j l
  rw [hw, h1] at h
  unfold RC
  rw [pay257_eq]
  exact h

theorem RV1_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RV (PS1 y0 y1 y2 y3) y1 (ix2 j l)
      = back (x (ix2 (⟨32 + j.val, by omega⟩ : Fin 128) l)) (amax fun r => x (ix2 (⟨32 + j.val, by omega⟩ : Fin 128) (⟨32 * (l.val / 32) + r.val, by omega⟩ : Fin 128))) := by
  have hw : PS1 y0 y1 y2 y3 (ix2 j l) = Scale.word (amax fun r => x (ix2 (⟨32 + j.val, by omega⟩ : Fin 128) (⟨32 * (l.val / 32) + r.val, by omega⟩ : Fin 128))) := by
    refine Eq.trans ?_ (PMT_at y0 y1 y2 y3 x h0 h1 h2 h3 (⟨32 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := backV_at y1 (PS1 y0 y1 y2 y3) j l
  rw [codeV_at, hw, h1] at h
  unfold RV
  rw [shapeCast_same, pay257_eq]
  exact h

theorem RC2_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RC (PS2 y0 y1 y2 y3) y2 (ix2 j l)
      = code (x (ix2 (⟨64 + j.val, by omega⟩ : Fin 128) l)) (amax fun r => x (ix2 (⟨64 + j.val, by omega⟩ : Fin 128) (⟨32 * (l.val / 32) + r.val, by omega⟩ : Fin 128))) := by
  have hw : PS2 y0 y1 y2 y3 (ix2 j l) = Scale.word (amax fun r => x (ix2 (⟨64 + j.val, by omega⟩ : Fin 128) (⟨32 * (l.val / 32) + r.val, by omega⟩ : Fin 128))) := by
    refine Eq.trans ?_ (PMT_at y0 y1 y2 y3 x h0 h1 h2 h3 (⟨64 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := codeV_at y2 (PS2 y0 y1 y2 y3) j l
  rw [hw, h2] at h
  unfold RC
  rw [pay257_eq]
  exact h

theorem RV2_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RV (PS2 y0 y1 y2 y3) y2 (ix2 j l)
      = back (x (ix2 (⟨64 + j.val, by omega⟩ : Fin 128) l)) (amax fun r => x (ix2 (⟨64 + j.val, by omega⟩ : Fin 128) (⟨32 * (l.val / 32) + r.val, by omega⟩ : Fin 128))) := by
  have hw : PS2 y0 y1 y2 y3 (ix2 j l) = Scale.word (amax fun r => x (ix2 (⟨64 + j.val, by omega⟩ : Fin 128) (⟨32 * (l.val / 32) + r.val, by omega⟩ : Fin 128))) := by
    refine Eq.trans ?_ (PMT_at y0 y1 y2 y3 x h0 h1 h2 h3 (⟨64 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := backV_at y2 (PS2 y0 y1 y2 y3) j l
  rw [codeV_at, hw, h2] at h
  unfold RV
  rw [shapeCast_same, pay257_eq]
  exact h

theorem RC3_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RC (PS3 y0 y1 y2 y3) y3 (ix2 j l)
      = code (x (ix2 (⟨96 + j.val, by omega⟩ : Fin 128) l)) (amax fun r => x (ix2 (⟨96 + j.val, by omega⟩ : Fin 128) (⟨32 * (l.val / 32) + r.val, by omega⟩ : Fin 128))) := by
  have hw : PS3 y0 y1 y2 y3 (ix2 j l) = Scale.word (amax fun r => x (ix2 (⟨96 + j.val, by omega⟩ : Fin 128) (⟨32 * (l.val / 32) + r.val, by omega⟩ : Fin 128))) := by
    refine Eq.trans ?_ (PMT_at y0 y1 y2 y3 x h0 h1 h2 h3 (⟨96 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := codeV_at y3 (PS3 y0 y1 y2 y3) j l
  rw [hw, h3] at h
  unfold RC
  rw [pay257_eq]
  exact h

theorem RV3_at (y0 y1 y2 y3 : FVec Ideal S32x128 .bf16) (x : S128x128.Idx → EReal)
    (h0 : ∀ (j : Fin 32) (l : Fin 128), y0 (ix2 j l) = x (ix2 (⟨0 + j.val, by omega⟩ : Fin 128) l))
    (h1 : ∀ (j : Fin 32) (l : Fin 128), y1 (ix2 j l) = x (ix2 (⟨32 + j.val, by omega⟩ : Fin 128) l))
    (h2 : ∀ (j : Fin 32) (l : Fin 128), y2 (ix2 j l) = x (ix2 (⟨64 + j.val, by omega⟩ : Fin 128) l))
    (h3 : ∀ (j : Fin 32) (l : Fin 128), y3 (ix2 j l) = x (ix2 (⟨96 + j.val, by omega⟩ : Fin 128) l))
    (j : Fin 32) (l : Fin 128) : RV (PS3 y0 y1 y2 y3) y3 (ix2 j l)
      = back (x (ix2 (⟨96 + j.val, by omega⟩ : Fin 128) l)) (amax fun r => x (ix2 (⟨96 + j.val, by omega⟩ : Fin 128) (⟨32 * (l.val / 32) + r.val, by omega⟩ : Fin 128))) := by
  have hw : PS3 y0 y1 y2 y3 (ix2 j l) = Scale.word (amax fun r => x (ix2 (⟨96 + j.val, by omega⟩ : Fin 128) (⟨32 * (l.val / 32) + r.val, by omega⟩ : Fin 128))) := by
    refine Eq.trans ?_ (PMT_at y0 y1 y2 y3 x h0 h1 h2 h3 (⟨96 + j.val, by omega⟩ : Fin 128) l)
    show PMT y0 y1 y2 y3 _ = _
    refine congrArg (PMT y0 y1 y2 y3) (funext fun a => Fin.ext ?_)
    match a with
    | ⟨0, _⟩ => rfl
    | ⟨1, _⟩ => show 0 + l.val = l.val; omega
  have h := backV_at y3 (PS3 y0 y1 y2 y3) j l
  rw [codeV_at, hw, h3] at h
  unfold RV
  rw [shapeCast_same, pay257_eq]
  exact h

/-- A tile's image: every value under the greatest magnitude of its thirty-two columns. -/
def tileR (q : EReal → EReal → EReal) (Y : S256x5120.Idx → EReal) : S256x5120.Idx → EReal := fun y =>
  q (Y y) (amax fun r => Y (ix2 (y 0) (⟨32 * ((y 1).val / 32) + r.val, by have : (y 1).val < 5120 := (y 1).isLt; omega⟩ : Fin 5120)))

/-- What eight stores of strips leave, whatever their values. -/
theorem strips8_at {e : EltTy} (v : View sig .tc .vmem S256x5120 e) (X : v.ty.Contents (Elt Ideal)) (p0 p1 p2 p3 p4 p5 p6 p7 : S32x128.Idx → Elt Ideal e) (o0 o1 o2 o3 o4 o5 o6 o7 : Fin 2 → ℕ) (B : ℕ) (T : S256x5120.Idx → Elt Ideal e)
    (q0 : ∀ (y : S256x5120.Idx) (h0 : 0 ≤ (y 0).val) (h0' : (y 0).val < 0 + 32) (h1 : B ≤ (y 1).val) (h1' : (y 1).val < B + 128), p0 (ix2 (⟨(y 0).val - 0, by omega⟩ : Fin 32) (⟨(y 1).val - B, by omega⟩ : Fin 128)) = T y)
    (q1 : ∀ (y : S256x5120.Idx) (h0 : 32 ≤ (y 0).val) (h0' : (y 0).val < 32 + 32) (h1 : B ≤ (y 1).val) (h1' : (y 1).val < B + 128), p1 (ix2 (⟨(y 0).val - 32, by omega⟩ : Fin 32) (⟨(y 1).val - B, by omega⟩ : Fin 128)) = T y)
    (q2 : ∀ (y : S256x5120.Idx) (h0 : 64 ≤ (y 0).val) (h0' : (y 0).val < 64 + 32) (h1 : B ≤ (y 1).val) (h1' : (y 1).val < B + 128), p2 (ix2 (⟨(y 0).val - 64, by omega⟩ : Fin 32) (⟨(y 1).val - B, by omega⟩ : Fin 128)) = T y)
    (q3 : ∀ (y : S256x5120.Idx) (h0 : 96 ≤ (y 0).val) (h0' : (y 0).val < 96 + 32) (h1 : B ≤ (y 1).val) (h1' : (y 1).val < B + 128), p3 (ix2 (⟨(y 0).val - 96, by omega⟩ : Fin 32) (⟨(y 1).val - B, by omega⟩ : Fin 128)) = T y)
    (q4 : ∀ (y : S256x5120.Idx) (h0 : 128 ≤ (y 0).val) (h0' : (y 0).val < 128 + 32) (h1 : B ≤ (y 1).val) (h1' : (y 1).val < B + 128), p4 (ix2 (⟨(y 0).val - 128, by omega⟩ : Fin 32) (⟨(y 1).val - B, by omega⟩ : Fin 128)) = T y)
    (q5 : ∀ (y : S256x5120.Idx) (h0 : 160 ≤ (y 0).val) (h0' : (y 0).val < 160 + 32) (h1 : B ≤ (y 1).val) (h1' : (y 1).val < B + 128), p5 (ix2 (⟨(y 0).val - 160, by omega⟩ : Fin 32) (⟨(y 1).val - B, by omega⟩ : Fin 128)) = T y)
    (q6 : ∀ (y : S256x5120.Idx) (h0 : 192 ≤ (y 0).val) (h0' : (y 0).val < 192 + 32) (h1 : B ≤ (y 1).val) (h1' : (y 1).val < B + 128), p6 (ix2 (⟨(y 0).val - 192, by omega⟩ : Fin 32) (⟨(y 1).val - B, by omega⟩ : Fin 128)) = T y)
    (q7 : ∀ (y : S256x5120.Idx) (h0 : 224 ≤ (y 0).val) (h0' : (y 0).val < 224 + 32) (h1 : B ≤ (y 1).val) (h1' : (y 1).val < B + 128), p7 (ix2 (⟨(y 0).val - 224, by omega⟩ : Fin 32) (⟨(y 1).val - B, by omega⟩ : Fin 128)) = T y)
    (h0 : o0 = ![0, B])
    (h1 : o1 = ![32, B])
    (h2 : o2 = ![64, B])
    (h3 : o3 = ![96, B])
    (h4 : o4 = ![128, B])
    (h5 : o5 = ![160, B])
    (h6 : o6 = ![192, B])
    (h7 : o7 = ![224, B])
    (i0 : ∀ a : Fin 2, o0 a + S32x128.size a ≤ S256x5120.size a)
    (i1 : ∀ a : Fin 2, o1 a + S32x128.size a ≤ S256x5120.size a)
    (i2 : ∀ a : Fin 2, o2 a + S32x128.size a ≤ S256x5120.size a)
    (i3 : ∀ a : Fin 2, o3 a + S32x128.size a ≤ S256x5120.size a)
    (i4 : ∀ a : Fin 2, o4 a + S32x128.size a ≤ S256x5120.size a)
    (i5 : ∀ a : Fin 2, o5 a + S32x128.size a ≤ S256x5120.size a)
    (i6 : ∀ a : Fin 2, o6 a + S32x128.size a ≤ S256x5120.size a)
    (i7 : ∀ a : Fin 2, o7 a + S32x128.size a ≤ S256x5120.size a) (y : S256x5120.Idx) :
    v.read (Elt Ideal) (v.writes (Elt Ideal) X [⟨Rect.unit (s := S256x5120) o7 S32x128.size i7, p7⟩, ⟨Rect.unit (s := S256x5120) o6 S32x128.size i6, p6⟩, ⟨Rect.unit (s := S256x5120) o5 S32x128.size i5, p5⟩, ⟨Rect.unit (s := S256x5120) o4 S32x128.size i4, p4⟩, ⟨Rect.unit (s := S256x5120) o3 S32x128.size i3, p3⟩, ⟨Rect.unit (s := S256x5120) o2 S32x128.size i2, p2⟩, ⟨Rect.unit (s := S256x5120) o1 S32x128.size i1, p1⟩, ⟨Rect.unit (s := S256x5120) o0 S32x128.size i0, p0⟩]) y
      = if B ≤ (y 1).val ∧ (y 1).val < B + 128 then T y else v.read (Elt Ideal) X y := by
  have hy : (y 0).val < 256 := (y 0).isLt
  by_cases h : B ≤ (y 1).val ∧ (y 1).val < B + 128
  · rw [if_pos h]
    by_cases c7 : 224 ≤ (y 0).val
    · exact (View.read_writes_cons_unit_of_mem v X i7 _ _ y (ix2 (⟨(y 0).val - 224, by omega⟩ : Fin 32) (⟨(y 1).val - B, by omega⟩ : Fin 128)) h7
        (Fin.forall_fin_two.mpr ⟨by show (y 0).val = 224 + ((y 0).val - 224); omega, by show (y 1).val = B + ((y 1).val - B); omega⟩)).trans
        (q7 y c7 (by omega) h.1 h.2)
    refine (View.read_writes_cons_unit_of_not_mem v X i7 _ _ y h7 (0 : Fin 2) (Or.inl (by show (y 0).val < 224; omega))).trans ?_
    by_cases c6 : 192 ≤ (y 0).val
    · exact (View.read_writes_cons_unit_of_mem v X i6 _ _ y (ix2 (⟨(y 0).val - 192, by omega⟩ : Fin 32) (⟨(y 1).val - B, by omega⟩ : Fin 128)) h6
        (Fin.forall_fin_two.mpr ⟨by show (y 0).val = 192 + ((y 0).val - 192); omega, by show (y 1).val = B + ((y 1).val - B); omega⟩)).trans
        (q6 y c6 (by omega) h.1 h.2)
    refine (View.read_writes_cons_unit_of_not_mem v X i6 _ _ y h6 (0 : Fin 2) (Or.inl (by show (y 0).val < 192; omega))).trans ?_
    by_cases c5 : 160 ≤ (y 0).val
    · exact (View.read_writes_cons_unit_of_mem v X i5 _ _ y (ix2 (⟨(y 0).val - 160, by omega⟩ : Fin 32) (⟨(y 1).val - B, by omega⟩ : Fin 128)) h5
        (Fin.forall_fin_two.mpr ⟨by show (y 0).val = 160 + ((y 0).val - 160); omega, by show (y 1).val = B + ((y 1).val - B); omega⟩)).trans
        (q5 y c5 (by omega) h.1 h.2)
    refine (View.read_writes_cons_unit_of_not_mem v X i5 _ _ y h5 (0 : Fin 2) (Or.inl (by show (y 0).val < 160; omega))).trans ?_
    by_cases c4 : 128 ≤ (y 0).val
    · exact (View.read_writes_cons_unit_of_mem v X i4 _ _ y (ix2 (⟨(y 0).val - 128, by omega⟩ : Fin 32) (⟨(y 1).val - B, by omega⟩ : Fin 128)) h4
        (Fin.forall_fin_two.mpr ⟨by show (y 0).val = 128 + ((y 0).val - 128); omega, by show (y 1).val = B + ((y 1).val - B); omega⟩)).trans
        (q4 y c4 (by omega) h.1 h.2)
    refine (View.read_writes_cons_unit_of_not_mem v X i4 _ _ y h4 (0 : Fin 2) (Or.inl (by show (y 0).val < 128; omega))).trans ?_
    by_cases c3 : 96 ≤ (y 0).val
    · exact (View.read_writes_cons_unit_of_mem v X i3 _ _ y (ix2 (⟨(y 0).val - 96, by omega⟩ : Fin 32) (⟨(y 1).val - B, by omega⟩ : Fin 128)) h3
        (Fin.forall_fin_two.mpr ⟨by show (y 0).val = 96 + ((y 0).val - 96); omega, by show (y 1).val = B + ((y 1).val - B); omega⟩)).trans
        (q3 y c3 (by omega) h.1 h.2)
    refine (View.read_writes_cons_unit_of_not_mem v X i3 _ _ y h3 (0 : Fin 2) (Or.inl (by show (y 0).val < 96; omega))).trans ?_
    by_cases c2 : 64 ≤ (y 0).val
    · exact (View.read_writes_cons_unit_of_mem v X i2 _ _ y (ix2 (⟨(y 0).val - 64, by omega⟩ : Fin 32) (⟨(y 1).val - B, by omega⟩ : Fin 128)) h2
        (Fin.forall_fin_two.mpr ⟨by show (y 0).val = 64 + ((y 0).val - 64); omega, by show (y 1).val = B + ((y 1).val - B); omega⟩)).trans
        (q2 y c2 (by omega) h.1 h.2)
    refine (View.read_writes_cons_unit_of_not_mem v X i2 _ _ y h2 (0 : Fin 2) (Or.inl (by show (y 0).val < 64; omega))).trans ?_
    by_cases c1 : 32 ≤ (y 0).val
    · exact (View.read_writes_cons_unit_of_mem v X i1 _ _ y (ix2 (⟨(y 0).val - 32, by omega⟩ : Fin 32) (⟨(y 1).val - B, by omega⟩ : Fin 128)) h1
        (Fin.forall_fin_two.mpr ⟨by show (y 0).val = 32 + ((y 0).val - 32); omega, by show (y 1).val = B + ((y 1).val - B); omega⟩)).trans
        (q1 y c1 (by omega) h.1 h.2)
    refine (View.read_writes_cons_unit_of_not_mem v X i1 _ _ y h1 (0 : Fin 2) (Or.inl (by show (y 0).val < 32; omega))).trans ?_
    by_cases c0 : 0 ≤ (y 0).val
    · exact (View.read_writes_cons_unit_of_mem v X i0 _ _ y (ix2 (⟨(y 0).val - 0, by omega⟩ : Fin 32) (⟨(y 1).val - B, by omega⟩ : Fin 128)) h0
        (Fin.forall_fin_two.mpr ⟨by show (y 0).val = 0 + ((y 0).val - 0); omega, by show (y 1).val = B + ((y 1).val - B); omega⟩)).trans
        (q0 y c0 (by omega) h.1 h.2)
    refine (View.read_writes_cons_unit_of_not_mem v X i0 _ _ y h0 (0 : Fin 2) (Or.inl (by show (y 0).val < 0; omega))).trans ?_
    exact absurd (Nat.zero_le _) c0

  · rw [if_neg h]
    refine (View.read_writes_cons_unit_of_not_mem v X i7 _ _ y h7 (1 : Fin 2) (by show (y 1).val < B ∨ B + 128 ≤ (y 1).val; omega)).trans ?_
    refine (View.read_writes_cons_unit_of_not_mem v X i6 _ _ y h6 (1 : Fin 2) (by show (y 1).val < B ∨ B + 128 ≤ (y 1).val; omega)).trans ?_
    refine (View.read_writes_cons_unit_of_not_mem v X i5 _ _ y h5 (1 : Fin 2) (by show (y 1).val < B ∨ B + 128 ≤ (y 1).val; omega)).trans ?_
    refine (View.read_writes_cons_unit_of_not_mem v X i4 _ _ y h4 (1 : Fin 2) (by show (y 1).val < B ∨ B + 128 ≤ (y 1).val; omega)).trans ?_
    refine (View.read_writes_cons_unit_of_not_mem v X i3 _ _ y h3 (1 : Fin 2) (by show (y 1).val < B ∨ B + 128 ≤ (y 1).val; omega)).trans ?_
    refine (View.read_writes_cons_unit_of_not_mem v X i2 _ _ y h2 (1 : Fin 2) (by show (y 1).val < B ∨ B + 128 ≤ (y 1).val; omega)).trans ?_
    refine (View.read_writes_cons_unit_of_not_mem v X i1 _ _ y h1 (1 : Fin 2) (by show (y 1).val < B ∨ B + 128 ≤ (y 1).val; omega)).trans ?_
    refine (View.read_writes_cons_unit_of_not_mem v X i0 _ _ y h0 (1 : Fin 2) (by show (y 1).val < B ∨ B + 128 ≤ (y 1).val; omega)).trans ?_
    rfl

/-- One strip as loaded. -/
def ld (v1 : View sig .tc .vmem S256x5120 .bf16) (X1 : v1.ty.Contents (Elt Ideal)) (o : Fin 2 → ℕ)
    (inb : ∀ a : Fin 2, o a + S32x128.size a ≤ S256x5120.size a) : FVec Ideal S32x128 .bf16 :=
  v1.readAt (Elt Ideal) (Rect.unit (s := S256x5120) o S32x128.size inb).toLoadRect X1

/-- The eight stores of a trip, the last first, each strip under the words of its half. -/
def rows8 {e : EltTy} (f : IVec S32x128 32 → FVec Ideal S32x128 .bf16 → S32x128.Idx → Elt Ideal e)
    (v1 : View sig .tc .vmem S256x5120 .bf16) (X1 : v1.ty.Contents (Elt Ideal)) (o0 o1 o2 o3 o4 o5 o6 o7 : Fin 2 → ℕ)
    (i0 : ∀ a : Fin 2, o0 a + S32x128.size a ≤ S256x5120.size a)
    (i1 : ∀ a : Fin 2, o1 a + S32x128.size a ≤ S256x5120.size a)
    (i2 : ∀ a : Fin 2, o2 a + S32x128.size a ≤ S256x5120.size a)
    (i3 : ∀ a : Fin 2, o3 a + S32x128.size a ≤ S256x5120.size a)
    (i4 : ∀ a : Fin 2, o4 a + S32x128.size a ≤ S256x5120.size a)
    (i5 : ∀ a : Fin 2, o5 a + S32x128.size a ≤ S256x5120.size a)
    (i6 : ∀ a : Fin 2, o6 a + S32x128.size a ≤ S256x5120.size a)
    (i7 : ∀ a : Fin 2, o7 a + S32x128.size a ≤ S256x5120.size a) : List (View.Piece (Elt Ideal) S256x5120 e) :=
  [⟨Rect.unit (s := S256x5120) o7 S32x128.size i7, f (PS3 (ld v1 X1 o4 i4) (ld v1 X1 o5 i5) (ld v1 X1 o6 i6) (ld v1 X1 o7 i7)) (ld v1 X1 o7 i7)⟩,
    ⟨Rect.unit (s := S256x5120) o6 S32x128.size i6, f (PS2 (ld v1 X1 o4 i4) (ld v1 X1 o5 i5) (ld v1 X1 o6 i6) (ld v1 X1 o7 i7)) (ld v1 X1 o6 i6)⟩,
    ⟨Rect.unit (s := S256x5120) o5 S32x128.size i5, f (PS1 (ld v1 X1 o4 i4) (ld v1 X1 o5 i5) (ld v1 X1 o6 i6) (ld v1 X1 o7 i7)) (ld v1 X1 o5 i5)⟩,
    ⟨Rect.unit (s := S256x5120) o4 S32x128.size i4, f (PS0 (ld v1 X1 o4 i4) (ld v1 X1 o5 i5) (ld v1 X1 o6 i6) (ld v1 X1 o7 i7)) (ld v1 X1 o4 i4)⟩,
    ⟨Rect.unit (s := S256x5120) o3 S32x128.size i3, f (PS3 (ld v1 X1 o0 i0) (ld v1 X1 o1 i1) (ld v1 X1 o2 i2) (ld v1 X1 o3 i3)) (ld v1 X1 o3 i3)⟩,
    ⟨Rect.unit (s := S256x5120) o2 S32x128.size i2, f (PS2 (ld v1 X1 o0 i0) (ld v1 X1 o1 i1) (ld v1 X1 o2 i2) (ld v1 X1 o3 i3)) (ld v1 X1 o2 i2)⟩,
    ⟨Rect.unit (s := S256x5120) o1 S32x128.size i1, f (PS1 (ld v1 X1 o0 i0) (ld v1 X1 o1 i1) (ld v1 X1 o2 i2) (ld v1 X1 o3 i3)) (ld v1 X1 o1 i1)⟩,
    ⟨Rect.unit (s := S256x5120) o0 S32x128.size i0, f (PS0 (ld v1 X1 o0 i0) (ld v1 X1 o1 i1) (ld v1 X1 o2 i2) (ld v1 X1 o3 i3)) (ld v1 X1 o0 i0)⟩]

/-- A hundred and twenty-eight rows and columns of a tile. -/
def xw (Y : S256x5120.Idx → EReal) (H B : ℕ) (hH : H + 128 ≤ 256) (hB : B + 128 ≤ 5120) : S128x128.Idx → EReal := fun z =>
  Y (ix2 (⟨H + (z 0).val, by have : (z 0).val < 128 := (z 0).isLt; omega⟩ : Fin 256) (⟨B + (z 1).val, by have : (z 1).val < 128 := (z 1).isLt; omega⟩ : Fin 5120))

theorem xw_at (q : EReal → EReal → EReal) (Y : S256x5120.Idx → EReal) (H B : ℕ) (hH : H + 128 ≤ 256) (hB : B + 128 ≤ 5120) (hB32 : B % 32 = 0)
    (k l : Fin 128) (y : S256x5120.Idx) (e0 : H + k.val = (y 0).val) (e1 : B + l.val = (y 1).val) :
    q (xw Y H B hH hB (ix2 k l)) (amax fun r => xw Y H B hH hB (ix2 k (⟨32 * (l.val / 32) + r.val, by omega⟩ : Fin 128))) = tileR q Y y := by
  unfold tileR xw
  refine congrArg₂ q (congrArg Y (funext fun a => Fin.ext ?_)) (congrArg amax (funext fun r => congrArg Y (funext fun a => Fin.ext ?_)))
  · match a with
    | ⟨0, _⟩ => exact e0
    | ⟨1, _⟩ => exact e1
  · match a with
    | ⟨0, _⟩ => exact e0
    | ⟨1, _⟩ => show B + (32 * (l.val / 32) + r.val) = 32 * ((y 1).val / 32) + r.val; omega

theorem ld_at (v1 : View sig .tc .vmem S256x5120 .bf16) (X1 : v1.ty.Contents (Elt Ideal)) (o : Fin 2 → ℕ)
    (inb : ∀ a : Fin 2, o a + S32x128.size a ≤ S256x5120.size a) (H R B : ℕ) (hH : H + 128 ≤ 256) (hB : B + 128 ≤ 5120) (hR : R + 32 ≤ 128) (ho : o = ![H + R, B])
    (j : Fin 32) (l : Fin 128) : ld v1 X1 o inb (ix2 j l) = xw (v1.read (Elt Ideal) X1) H B hH hB (ix2 (⟨R + j.val, by omega⟩ : Fin 128) l) := by
  subst ho
  unfold ld
  rw [View.readAt_unit v1 X1 inb rfl inb]
  show v1.read (Elt Ideal) X1 _ = v1.read (Elt Ideal) X1 _
  congr 1
  funext a
  refine Fin.ext ?_
  match a with
  | ⟨0, _⟩ => show H + R + 1 * j.val = H + (R + j.val); omega
  | ⟨1, _⟩ => show B + 1 * l.val = B + l.val; omega

theorem rows8_RC (v : View sig .tc .vmem S256x5120 .fp8e5m2) (X : v.ty.Contents (Elt Ideal))
    (v1 : View sig .tc .vmem S256x5120 .bf16) (X1 : v1.ty.Contents (Elt Ideal)) (o0 o1 o2 o3 o4 o5 o6 o7 : Fin 2 → ℕ) (B : ℕ) (hB : B + 128 ≤ 5120) (hB32 : B % 32 = 0)
    (h0 : o0 = ![0, B])
    (h1 : o1 = ![32, B])
    (h2 : o2 = ![64, B])
    (h3 : o3 = ![96, B])
    (h4 : o4 = ![128, B])
    (h5 : o5 = ![160, B])
    (h6 : o6 = ![192, B])
    (h7 : o7 = ![224, B])
    (i0 : ∀ a : Fin 2, o0 a + S32x128.size a ≤ S256x5120.size a)
    (i1 : ∀ a : Fin 2, o1 a + S32x128.size a ≤ S256x5120.size a)
    (i2 : ∀ a : Fin 2, o2 a + S32x128.size a ≤ S256x5120.size a)
    (i3 : ∀ a : Fin 2, o3 a + S32x128.size a ≤ S256x5120.size a)
    (i4 : ∀ a : Fin 2, o4 a + S32x128.size a ≤ S256x5120.size a)
    (i5 : ∀ a : Fin 2, o5 a + S32x128.size a ≤ S256x5120.size a)
    (i6 : ∀ a : Fin 2, o6 a + S32x128.size a ≤ S256x5120.size a)
    (i7 : ∀ a : Fin 2, o7 a + S32x128.size a ≤ S256x5120.size a) (y : S256x5120.Idx) :
    v.read (Elt Ideal) (v.writes (Elt Ideal) X (rows8 (e := .fp8e5m2) RC v1 X1 o0 o1 o2 o3 o4 o5 o6 o7 i0 i1 i2 i3 i4 i5 i6 i7)) y
      = if B ≤ (y 1).val ∧ (y 1).val < B + 128 then tileR code (v1.read (Elt Ideal) X1) y else v.read (Elt Ideal) X y := by
  have l0 := ld_at v1 X1 o0 i0 0 0 B (by decide) hB (by decide) h0
  have l1 := ld_at v1 X1 o1 i1 0 32 B (by decide) hB (by decide) h1
  have l2 := ld_at v1 X1 o2 i2 0 64 B (by decide) hB (by decide) h2
  have l3 := ld_at v1 X1 o3 i3 0 96 B (by decide) hB (by decide) h3
  have l4 := ld_at v1 X1 o4 i4 128 0 B (by decide) hB (by decide) h4
  have l5 := ld_at v1 X1 o5 i5 128 32 B (by decide) hB (by decide) h5
  have l6 := ld_at v1 X1 o6 i6 128 64 B (by decide) hB (by decide) h6
  have l7 := ld_at v1 X1 o7 i7 128 96 B (by decide) hB (by decide) h7
  refine strips8_at (e := .fp8e5m2) v X _ _ _ _ _ _ _ _ o0 o1 o2 o3 o4 o5 o6 o7 B (tileR code (v1.read (Elt Ideal) X1)) ?_ ?_ ?_ ?_ ?_ ?_ ?_ ?_ h0 h1 h2 h3 h4 h5 h6 h7 i0 i1 i2 i3 i4 i5 i6 i7 y
  · intro y g0 g0' g1 g1'
    exact (RC0_at _ _ _ _ _ l0 l1 l2 l3 _ _).trans (xw_at code _ 0 B (by decide) hB hB32 _ _ y
      (by show 0 + (0 + ((y 0).val - 0)) = (y 0).val; omega) (by show B + ((y 1).val - B) = (y 1).val; omega))
  · intro y g0 g0' g1 g1'
    exact (RC1_at _ _ _ _ _ l0 l1 l2 l3 _ _).trans (xw_at code _ 0 B (by decide) hB hB32 _ _ y
      (by show 0 + (32 + ((y 0).val - 32)) = (y 0).val; omega) (by show B + ((y 1).val - B) = (y 1).val; omega))
  · intro y g0 g0' g1 g1'
    exact (RC2_at _ _ _ _ _ l0 l1 l2 l3 _ _).trans (xw_at code _ 0 B (by decide) hB hB32 _ _ y
      (by show 0 + (64 + ((y 0).val - 64)) = (y 0).val; omega) (by show B + ((y 1).val - B) = (y 1).val; omega))
  · intro y g0 g0' g1 g1'
    exact (RC3_at _ _ _ _ _ l0 l1 l2 l3 _ _).trans (xw_at code _ 0 B (by decide) hB hB32 _ _ y
      (by show 0 + (96 + ((y 0).val - 96)) = (y 0).val; omega) (by show B + ((y 1).val - B) = (y 1).val; omega))
  · intro y g0 g0' g1 g1'
    exact (RC0_at _ _ _ _ _ l4 l5 l6 l7 _ _).trans (xw_at code _ 128 B (by decide) hB hB32 _ _ y
      (by show 128 + (0 + ((y 0).val - 128)) = (y 0).val; omega) (by show B + ((y 1).val - B) = (y 1).val; omega))
  · intro y g0 g0' g1 g1'
    exact (RC1_at _ _ _ _ _ l4 l5 l6 l7 _ _).trans (xw_at code _ 128 B (by decide) hB hB32 _ _ y
      (by show 128 + (32 + ((y 0).val - 160)) = (y 0).val; omega) (by show B + ((y 1).val - B) = (y 1).val; omega))
  · intro y g0 g0' g1 g1'
    exact (RC2_at _ _ _ _ _ l4 l5 l6 l7 _ _).trans (xw_at code _ 128 B (by decide) hB hB32 _ _ y
      (by show 128 + (64 + ((y 0).val - 192)) = (y 0).val; omega) (by show B + ((y 1).val - B) = (y 1).val; omega))
  · intro y g0 g0' g1 g1'
    exact (RC3_at _ _ _ _ _ l4 l5 l6 l7 _ _).trans (xw_at code _ 128 B (by decide) hB hB32 _ _ y
      (by show 128 + (96 + ((y 0).val - 224)) = (y 0).val; omega) (by show B + ((y 1).val - B) = (y 1).val; omega))

theorem rows8_RV (v : View sig .tc .vmem S256x5120 .bf16) (X : v.ty.Contents (Elt Ideal))
    (v1 : View sig .tc .vmem S256x5120 .bf16) (X1 : v1.ty.Contents (Elt Ideal)) (o0 o1 o2 o3 o4 o5 o6 o7 : Fin 2 → ℕ) (B : ℕ) (hB : B + 128 ≤ 5120) (hB32 : B % 32 = 0)
    (h0 : o0 = ![0, B])
    (h1 : o1 = ![32, B])
    (h2 : o2 = ![64, B])
    (h3 : o3 = ![96, B])
    (h4 : o4 = ![128, B])
    (h5 : o5 = ![160, B])
    (h6 : o6 = ![192, B])
    (h7 : o7 = ![224, B])
    (i0 : ∀ a : Fin 2, o0 a + S32x128.size a ≤ S256x5120.size a)
    (i1 : ∀ a : Fin 2, o1 a + S32x128.size a ≤ S256x5120.size a)
    (i2 : ∀ a : Fin 2, o2 a + S32x128.size a ≤ S256x5120.size a)
    (i3 : ∀ a : Fin 2, o3 a + S32x128.size a ≤ S256x5120.size a)
    (i4 : ∀ a : Fin 2, o4 a + S32x128.size a ≤ S256x5120.size a)
    (i5 : ∀ a : Fin 2, o5 a + S32x128.size a ≤ S256x5120.size a)
    (i6 : ∀ a : Fin 2, o6 a + S32x128.size a ≤ S256x5120.size a)
    (i7 : ∀ a : Fin 2, o7 a + S32x128.size a ≤ S256x5120.size a) (y : S256x5120.Idx) :
    v.read (Elt Ideal) (v.writes (Elt Ideal) X (rows8 (e := .bf16) RV v1 X1 o0 o1 o2 o3 o4 o5 o6 o7 i0 i1 i2 i3 i4 i5 i6 i7)) y
      = if B ≤ (y 1).val ∧ (y 1).val < B + 128 then tileR back (v1.read (Elt Ideal) X1) y else v.read (Elt Ideal) X y := by
  have l0 := ld_at v1 X1 o0 i0 0 0 B (by decide) hB (by decide) h0
  have l1 := ld_at v1 X1 o1 i1 0 32 B (by decide) hB (by decide) h1
  have l2 := ld_at v1 X1 o2 i2 0 64 B (by decide) hB (by decide) h2
  have l3 := ld_at v1 X1 o3 i3 0 96 B (by decide) hB (by decide) h3
  have l4 := ld_at v1 X1 o4 i4 128 0 B (by decide) hB (by decide) h4
  have l5 := ld_at v1 X1 o5 i5 128 32 B (by decide) hB (by decide) h5
  have l6 := ld_at v1 X1 o6 i6 128 64 B (by decide) hB (by decide) h6
  have l7 := ld_at v1 X1 o7 i7 128 96 B (by decide) hB (by decide) h7
  refine strips8_at (e := .bf16) v X _ _ _ _ _ _ _ _ o0 o1 o2 o3 o4 o5 o6 o7 B (tileR back (v1.read (Elt Ideal) X1)) ?_ ?_ ?_ ?_ ?_ ?_ ?_ ?_ h0 h1 h2 h3 h4 h5 h6 h7 i0 i1 i2 i3 i4 i5 i6 i7 y
  · intro y g0 g0' g1 g1'
    exact (RV0_at _ _ _ _ _ l0 l1 l2 l3 _ _).trans (xw_at back _ 0 B (by decide) hB hB32 _ _ y
      (by show 0 + (0 + ((y 0).val - 0)) = (y 0).val; omega) (by show B + ((y 1).val - B) = (y 1).val; omega))
  · intro y g0 g0' g1 g1'
    exact (RV1_at _ _ _ _ _ l0 l1 l2 l3 _ _).trans (xw_at back _ 0 B (by decide) hB hB32 _ _ y
      (by show 0 + (32 + ((y 0).val - 32)) = (y 0).val; omega) (by show B + ((y 1).val - B) = (y 1).val; omega))
  · intro y g0 g0' g1 g1'
    exact (RV2_at _ _ _ _ _ l0 l1 l2 l3 _ _).trans (xw_at back _ 0 B (by decide) hB hB32 _ _ y
      (by show 0 + (64 + ((y 0).val - 64)) = (y 0).val; omega) (by show B + ((y 1).val - B) = (y 1).val; omega))
  · intro y g0 g0' g1 g1'
    exact (RV3_at _ _ _ _ _ l0 l1 l2 l3 _ _).trans (xw_at back _ 0 B (by decide) hB hB32 _ _ y
      (by show 0 + (96 + ((y 0).val - 96)) = (y 0).val; omega) (by show B + ((y 1).val - B) = (y 1).val; omega))
  · intro y g0 g0' g1 g1'
    exact (RV0_at _ _ _ _ _ l4 l5 l6 l7 _ _).trans (xw_at back _ 128 B (by decide) hB hB32 _ _ y
      (by show 128 + (0 + ((y 0).val - 128)) = (y 0).val; omega) (by show B + ((y 1).val - B) = (y 1).val; omega))
  · intro y g0 g0' g1 g1'
    exact (RV1_at _ _ _ _ _ l4 l5 l6 l7 _ _).trans (xw_at back _ 128 B (by decide) hB hB32 _ _ y
      (by show 128 + (32 + ((y 0).val - 160)) = (y 0).val; omega) (by show B + ((y 1).val - B) = (y 1).val; omega))
  · intro y g0 g0' g1 g1'
    exact (RV2_at _ _ _ _ _ l4 l5 l6 l7 _ _).trans (xw_at back _ 128 B (by decide) hB hB32 _ _ y
      (by show 128 + (64 + ((y 0).val - 192)) = (y 0).val; omega) (by show B + ((y 1).val - B) = (y 1).val; omega))
  · intro y g0 g0' g1 g1'
    exact (RV3_at _ _ _ _ _ l4 l5 l6 l7 _ _).trans (xw_at back _ 128 B (by decide) hB hB32 _ _ y
      (by show 128 + (96 + ((y 0).val - 224)) = (y 0).val; omega) (by show B + ((y 1).val - B) = (y 1).val; omega))

end Cert.KernelIdeal.Hand

end
-- ==== Proof.KernelIdealTrips.lean ====
module

public import proofs.«01_k».proof.Proof.KernelIdealRow
public import proofs.«01_k».proof.Proof.Gen.KernelIdeal.Loops

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The resource algebra: the pipeline's, with the counters of the kernel's own transfers. -/
local notation "𝕄" => MT nD τ sig Unit (Elt Ideal) ℕ (Pipeline.UD sig nD τ) ℕ

theorem off10_eq : ∀ t : Fin k0_t2_loop.trips, k0_off10 t = ![0, t.val * 128] := by decide +kernel
theorem off26_eq : ∀ (a : Fin k0_t3_loop.trips) (b : Fin k0_t4_loop.trips) (t : Fin k0_t5_loop.trips), k0_off26 a b t = ![0, a.val * 1280 + b.val * 256 + t.val * 128] := by decide +kernel
theorem off11_eq : ∀ t : Fin k0_t2_loop.trips, k0_off11 t = ![32, t.val * 128] := by decide +kernel
theorem off27_eq : ∀ (a : Fin k0_t3_loop.trips) (b : Fin k0_t4_loop.trips) (t : Fin k0_t5_loop.trips), k0_off27 a b t = ![32, a.val * 1280 + b.val * 256 + t.val * 128] := by decide +kernel
theorem off12_eq : ∀ t : Fin k0_t2_loop.trips, k0_off12 t = ![64, t.val * 128] := by decide +kernel
theorem off28_eq : ∀ (a : Fin k0_t3_loop.trips) (b : Fin k0_t4_loop.trips) (t : Fin k0_t5_loop.trips), k0_off28 a b t = ![64, a.val * 1280 + b.val * 256 + t.val * 128] := by decide +kernel
theorem off13_eq : ∀ t : Fin k0_t2_loop.trips, k0_off13 t = ![96, t.val * 128] := by decide +kernel
theorem off29_eq : ∀ (a : Fin k0_t3_loop.trips) (b : Fin k0_t4_loop.trips) (t : Fin k0_t5_loop.trips), k0_off29 a b t = ![96, a.val * 1280 + b.val * 256 + t.val * 128] := by decide +kernel
theorem off14_eq : ∀ t : Fin k0_t2_loop.trips, k0_off14 t = ![128, t.val * 128] := by decide +kernel
theorem off30_eq : ∀ (a : Fin k0_t3_loop.trips) (b : Fin k0_t4_loop.trips) (t : Fin k0_t5_loop.trips), k0_off30 a b t = ![128, a.val * 1280 + b.val * 256 + t.val * 128] := by decide +kernel
theorem off15_eq : ∀ t : Fin k0_t2_loop.trips, k0_off15 t = ![160, t.val * 128] := by decide +kernel
theorem off31_eq : ∀ (a : Fin k0_t3_loop.trips) (b : Fin k0_t4_loop.trips) (t : Fin k0_t5_loop.trips), k0_off31 a b t = ![160, a.val * 1280 + b.val * 256 + t.val * 128] := by decide +kernel
theorem off16_eq : ∀ t : Fin k0_t2_loop.trips, k0_off16 t = ![192, t.val * 128] := by decide +kernel
theorem off32_eq : ∀ (a : Fin k0_t3_loop.trips) (b : Fin k0_t4_loop.trips) (t : Fin k0_t5_loop.trips), k0_off32 a b t = ![192, a.val * 1280 + b.val * 256 + t.val * 128] := by decide +kernel
theorem off17_eq : ∀ t : Fin k0_t2_loop.trips, k0_off17 t = ![224, t.val * 128] := by decide +kernel
theorem off33_eq : ∀ (a : Fin k0_t3_loop.trips) (b : Fin k0_t4_loop.trips) (t : Fin k0_t5_loop.trips), k0_off33 a b t = ![224, a.val * 1280 + b.val * 256 + t.val * 128] := by decide +kernel
theorem off24_eq : ∀ (a : Fin k0_t3_loop.trips) (b : Fin k0_t4_loop.trips), k0_off24 a b = ![0, a.val * 1280 + b.val * 256] := by decide +kernel
theorem off25_eq : ∀ (a : Fin k0_t3_loop.trips) (b : Fin k0_t4_loop.trips), k0_off25 a b = ![0, a.val * 1280 + b.val * 256] := by decide +kernel

/-- One trip: its strips' codes stored, and the codes scaled back. -/
theorem trip5 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (k0_t4 : Fin k0_t4_loop.trips) (v136 : BitVec 32) (k0_t5 : Fin k0_t5_loop.trips) (X1 : BufTy.Contents (Elt Ideal) arg1.view.ty) (X10 : BufTy.Contents (Elt Ideal) arg10.view.ty) (X16 : BufTy.Contents (Elt Ideal) arg16.view.ty) (X8 : BufTy.Contents (Elt Ideal) arg8.view.ty) (X15 : BufTy.Contents (Elt Ideal) arg15.view.ty) :
   (iprop((arg1.view.loc (c : Thread nD τ) ↦[arg1.view.set]{fullShare} X1) ∗ (arg10.view.loc (c : Thread nD τ) ↦[arg10.view.set]{fullShare} X10) ∗ (arg16.view.loc (c : Thread nD τ) ↦[arg16.view.set]{fullShare} X16) ∗ (arg8.view.loc (c : Thread nD τ) ↦[arg8.view.set]{fullShare} X8) ∗ (arg15.view.loc (c : Thread nD τ) ↦[arg15.view.set]{fullShare} X15) ∗ (∃ f, (arg20.view.loc (c : Thread nD τ) ↦[arg20.view.set]{fullShare} f)) ∗ (∃ f, (arg21.view.loc (c : Thread nD τ) ↦[arg21.view.set]{fullShare} f))) : sProp 𝕄) ⊢ wp frame (wpE (defs₀ (F := Ideal)) Variants.none (c : Thread nD τ) none) Set.univ (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k0_t4 v136 k0_t5 ()) (fun _ => iprop((arg1.view.loc (c : Thread nD τ) ↦[arg1.view.set]{fullShare} X1) ∗ (∃ f, ⌜f = arg10.view.writes (Elt Ideal) X10 [pc QC arg1.view X1 (k0_off33 k0_t3 k0_t4 k0_t5) (k0_off33_inb i k0_t3 k0_t4 k0_t5 k0_h3), pc QC arg1.view X1 (k0_off32 k0_t3 k0_t4 k0_t5) (k0_off32_inb i k0_t3 k0_t4 k0_t5 k0_h3), pc QC arg1.view X1 (k0_off31 k0_t3 k0_t4 k0_t5) (k0_off31_inb i k0_t3 k0_t4 k0_t5 k0_h3), pc QC arg1.view X1 (k0_off30 k0_t3 k0_t4 k0_t5) (k0_off30_inb i k0_t3 k0_t4 k0_t5 k0_h3), pc QC arg1.view X1 (k0_off29 k0_t3 k0_t4 k0_t5) (k0_off29_inb i k0_t3 k0_t4 k0_t5 k0_h3), pc QC arg1.view X1 (k0_off28 k0_t3 k0_t4 k0_t5) (k0_off28_inb i k0_t3 k0_t4 k0_t5 k0_h3), pc QC arg1.view X1 (k0_off27 k0_t3 k0_t4 k0_t5) (k0_off27_inb i k0_t3 k0_t4 k0_t5 k0_h3), pc QC arg1.view X1 (k0_off26 k0_t3 k0_t4 k0_t5) (k0_off26_inb i k0_t3 k0_t4 k0_t5 k0_h3)]⌝ ∗ (arg10.view.loc (c : Thread nD τ) ↦[arg10.view.set]{fullShare} f)) ∗ (∃ f, ⌜f = arg16.view.writes (Elt Ideal) X16 [pc QV arg1.view X1 (k0_off33 k0_t3 k0_t4 k0_t5) (k0_off33_inb i k0_t3 k0_t4 k0_t5 k0_h3), pc QV arg1.view X1 (k0_off32 k0_t3 k0_t4 k0_t5) (k0_off32_inb i k0_t3 k0_t4 k0_t5 k0_h3), pc QV arg1.view X1 (k0_off31 k0_t3 k0_t4 k0_t5) (k0_off31_inb i k0_t3 k0_t4 k0_t5 k0_h3), pc QV arg1.view X1 (k0_off30 k0_t3 k0_t4 k0_t5) (k0_off30_inb i k0_t3 k0_t4 k0_t5 k0_h3), pc QV arg1.view X1 (k0_off29 k0_t3 k0_t4 k0_t5) (k0_off29_inb i k0_t3 k0_t4 k0_t5 k0_h3), pc QV arg1.view X1 (k0_off28 k0_t3 k0_t4 k0_t5) (k0_off28_inb i k0_t3 k0_t4 k0_t5 k0_h3), pc QV arg1.view X1 (k0_off27 k0_t3 k0_t4 k0_t5) (k0_off27_inb i k0_t3 k0_t4 k0_t5 k0_h3), pc QV arg1.view X1 (k0_off26 k0_t3 k0_t4 k0_t5) (k0_off26_inb i k0_t3 k0_t4 k0_t5 k0_h3)]⌝ ∗(arg16.view.loc (c : Thread nD τ) ↦[arg16.view.set]{fullShare} f)) ∗ (∃ f, ⌜f = arg8.view.writes (Elt Ideal) X8 (rows8 RC arg1.view X1 (k0_off26 k0_t3 k0_t4 k0_t5) (k0_off27 k0_t3 k0_t4 k0_t5) (k0_off28 k0_t3 k0_t4 k0_t5) (k0_off29 k0_t3 k0_t4 k0_t5) (k0_off30 k0_t3 k0_t4 k0_t5) (k0_off31 k0_t3 k0_t4 k0_t5) (k0_off32 k0_t3 k0_t4 k0_t5) (k0_off33 k0_t3 k0_t4 k0_t5) (k0_off26_inb i k0_t3 k0_t4 k0_t5 k0_h3) (k0_off27_inb i k0_t3 k0_t4 k0_t5 k0_h3) (k0_off28_inb i k0_t3 k0_t4 k0_t5 k0_h3) (k0_off29_inb i k0_t3 k0_t4 k0_t5 k0_h3) (k0_off30_inb i k0_t3 k0_t4 k0_t5 k0_h3) (k0_off31_inb i k0_t3 k0_t4 k0_t5 k0_h3) (k0_off32_inb i k0_t3 k0_t4 k0_t5 k0_h3) (k0_off33_inb i k0_t3 k0_t4 k0_t5 k0_h3))⌝ ∗ (arg8.view.loc (c : Thread nD τ) ↦[arg8.view.set]{fullShare} f)) ∗ (∃ f, ⌜f = arg15.view.writes (Elt Ideal) X15 (rows8 RV arg1.view X1 (k0_off26 k0_t3 k0_t4 k0_t5) (k0_off27 k0_t3 k0_t4 k0_t5) (k0_off28 k0_t3 k0_t4 k0_t5) (k0_off29 k0_t3 k0_t4 k0_t5) (k0_off30 k0_t3 k0_t4 k0_t5) (k0_off31 k0_t3 k0_t4 k0_t5) (k0_off32 k0_t3 k0_t4 k0_t5) (k0_off33 k0_t3 k0_t4 k0_t5) (k0_off26_inb i k0_t3 k0_t4 k0_t5 k0_h3) (k0_off27_inb i k0_t3 k0_t4 k0_t5 k0_h3) (k0_off28_inb i k0_t3 k0_t4 k0_t5 k0_h3) (k0_off29_inb i k0_t3 k0_t4 k0_t5 k0_h3) (k0_off30_inb i k0_t3 k0_t4 k0_t5 k0_h3) (k0_off31_inb i k0_t3 k0_t4 k0_t5 k0_h3) (k0_off32_inb i k0_t3 k0_t4 k0_t5 k0_h3) (k0_off33_inb i k0_t3 k0_t4 k0_t5 k0_h3))⌝ ∗ (arg15.view.loc (c : Thread nD τ) ↦[arg15.view.set]{fullShare} f)) ∗ (∃ f, (arg20.view.loc (c : Thread nD τ) ↦[arg20.view.set]{fullShare} f)) ∗ (∃ f, (arg21.view.loc (c : Thread nD τ) ↦[arg21.view.set]{fullShare} f)))) := by
    iintro ⟨H1, H10, H16, H8, H15, ⟨%f20, H20⟩, ⟨%f21, H21⟩⟩
    unfold k0_t5_body
    sl_exec
    sl_step
    isplitl [H1]; · iexact H1
    isplitl [H10]
    · iexists _; isplitr; swap; · iexact H10
      ipureintro; rfl
    isplitl [H16]
    · iexists _; isplitr; swap; · iexact H16
      ipureintro; rfl
    isplitl [H8]
    · iexists _; isplitr; swap; · iexact H8
      ipureintro; rfl
    isplitl [H15]
    · iexists _; isplitr; swap; · iexact H15
      ipureintro; rfl
    isplitl [H20]; · iexists _; iexact H20
    iexists _; iexact H21

/-- One trip: its strips' codes stored, and the codes scaled back. -/
theorem trip2 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h1 : k0_cond1 i = 1#1) (k0_t2 : Fin k0_t2_loop.trips) (X1 : BufTy.Contents (Elt Ideal) arg1.view.ty) (X10 : BufTy.Contents (Elt Ideal) arg10.view.ty) (X16 : BufTy.Contents (Elt Ideal) arg16.view.ty) (X8 : BufTy.Contents (Elt Ideal) arg8.view.ty) (X15 : BufTy.Contents (Elt Ideal) arg15.view.ty) :
   (iprop((arg1.view.loc (c : Thread nD τ) ↦[arg1.view.set]{fullShare} X1) ∗ (arg10.view.loc (c : Thread nD τ) ↦[arg10.view.set]{fullShare} X10) ∗ (arg16.view.loc (c : Thread nD τ) ↦[arg16.view.set]{fullShare} X16) ∗ (arg8.view.loc (c : Thread nD τ) ↦[arg8.view.set]{fullShare} X8) ∗ (arg15.view.loc (c : Thread nD τ) ↦[arg15.view.set]{fullShare} X15) ∗ (∃ f, (arg20.view.loc (c : Thread nD τ) ↦[arg20.view.set]{fullShare} f)) ∗ (∃ f, (arg21.view.loc (c : Thread nD τ) ↦[arg21.view.set]{fullShare} f))) : sProp 𝕄) ⊢ wp frame (wpE (defs₀ (F := Ideal)) Variants.none (c : Thread nD τ) none) Set.univ (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h1 k0_t2 ()) (fun _ => iprop((arg1.view.loc (c : Thread nD τ) ↦[arg1.view.set]{fullShare} X1) ∗ (∃ f, ⌜f = arg10.view.writes (Elt Ideal) X10 [pc QC arg1.view X1 (k0_off17 k0_t2) (k0_off17_inb i k0_t2 k0_h1), pc QC arg1.view X1 (k0_off16 k0_t2) (k0_off16_inb i k0_t2 k0_h1), pc QC arg1.view X1 (k0_off15 k0_t2) (k0_off15_inb i k0_t2 k0_h1), pc QC arg1.view X1 (k0_off14 k0_t2) (k0_off14_inb i k0_t2 k0_h1), pc QC arg1.view X1 (k0_off13 k0_t2) (k0_off13_inb i k0_t2 k0_h1), pc QC arg1.view X1 (k0_off12 k0_t2) (k0_off12_inb i k0_t2 k0_h1), pc QC arg1.view X1 (k0_off11 k0_t2) (k0_off11_inb i k0_t2 k0_h1), pc QC arg1.view X1 (k0_off10 k0_t2) (k0_off10_inb i k0_t2 k0_h1)]⌝ ∗ (arg10.view.loc (c : Thread nD τ) ↦[arg10.view.set]{fullShare} f)) ∗ (∃ f, ⌜f = arg16.view.writes (Elt Ideal) X16 [pc QV arg1.view X1 (k0_off17 k0_t2) (k0_off17_inb i k0_t2 k0_h1), pc QV arg1.view X1 (k0_off16 k0_t2) (k0_off16_inb i k0_t2 k0_h1), pc QV arg1.view X1 (k0_off15 k0_t2) (k0_off15_inb i k0_t2 k0_h1), pc QV arg1.view X1 (k0_off14 k0_t2) (k0_off14_inb i k0_t2 k0_h1), pc QV arg1.view X1 (k0_off13 k0_t2) (k0_off13_inb i k0_t2 k0_h1), pc QV arg1.view X1 (k0_off12 k0_t2) (k0_off12_inb i k0_t2 k0_h1), pc QV arg1.view X1 (k0_off11 k0_t2) (k0_off11_inb i k0_t2 k0_h1), pc QV arg1.view X1 (k0_off10 k0_t2) (k0_off10_inb i k0_t2 k0_h1)]⌝ ∗(arg16.view.loc (c : Thread nD τ) ↦[arg16.view.set]{fullShare} f)) ∗ (∃ f, ⌜f = arg8.view.writes (Elt Ideal) X8 (rows8 RC arg1.view X1 (k0_off10 k0_t2) (k0_off11 k0_t2) (k0_off12 k0_t2) (k0_off13 k0_t2) (k0_off14 k0_t2) (k0_off15 k0_t2) (k0_off16 k0_t2) (k0_off17 k0_t2) (k0_off10_inb i k0_t2 k0_h1) (k0_off11_inb i k0_t2 k0_h1) (k0_off12_inb i k0_t2 k0_h1) (k0_off13_inb i k0_t2 k0_h1) (k0_off14_inb i k0_t2 k0_h1) (k0_off15_inb i k0_t2 k0_h1) (k0_off16_inb i k0_t2 k0_h1) (k0_off17_inb i k0_t2 k0_h1))⌝ ∗ (arg8.view.loc (c : Thread nD τ) ↦[arg8.view.set]{fullShare} f)) ∗ (∃ f, ⌜f = arg15.view.writes (Elt Ideal) X15 (rows8 RV arg1.view X1 (k0_off10 k0_t2) (k0_off11 k0_t2) (k0_off12 k0_t2) (k0_off13 k0_t2) (k0_off14 k0_t2) (k0_off15 k0_t2) (k0_off16 k0_t2) (k0_off17 k0_t2) (k0_off10_inb i k0_t2 k0_h1) (k0_off11_inb i k0_t2 k0_h1) (k0_off12_inb i k0_t2 k0_h1) (k0_off13_inb i k0_t2 k0_h1) (k0_off14_inb i k0_t2 k0_h1) (k0_off15_inb i k0_t2 k0_h1) (k0_off16_inb i k0_t2 k0_h1) (k0_off17_inb i k0_t2 k0_h1))⌝ ∗ (arg15.view.loc (c : Thread nD τ) ↦[arg15.view.set]{fullShare} f)) ∗ (∃ f, (arg20.view.loc (c : Thread nD τ) ↦[arg20.view.set]{fullShare} f)) ∗ (∃ f, (arg21.view.loc (c : Thread nD τ) ↦[arg21.view.set]{fullShare} f)))) := by
    iintro ⟨H1, H10, H16, H8, H15, ⟨%f20, H20⟩, ⟨%f21, H21⟩⟩
    unfold k0_t2_body
    sl_exec
    sl_step
    isplitl [H1]; · iexact H1
    isplitl [H10]
    · iexists _; isplitr; swap; · iexact H10
      ipureintro; rfl
    isplitl [H16]
    · iexists _; isplitr; swap; · iexact H16
      ipureintro; rfl
    isplitl [H8]
    · iexists _; isplitr; swap; · iexact H8
      ipureintro; rfl
    isplitl [H15]
    · iexists _; isplitr; swap; · iexact H15
      ipureintro; rfl
    isplitl [H20]; · iexists _; iexact H20
    iexists _; iexact H21

end Cert.KernelIdeal.Hand

end
-- ==== Proof.KernelIdealValA.lean ====
module

public import proofs.«01_k».proof.Proof.KernelIdealPureC
public import proofs.«01_k».proof.Proof.KernelIdealTrips

@[expose] public section

set_option maxRecDepth 16384
set_option maxHeartbeats 2000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The resource algebra: the pipeline's, with the counters of the kernel's own transfers. -/
local notation "𝕄" => MT nD τ sig Unit (Elt Ideal) ℕ (Pipeline.UD sig nD τ) ℕ

/-- The columns below `n` hold `T`. -/
def Below (n : ℕ) (T x : S256x5120.Idx → EReal) : Prop := ∀ y, (y 1).val < n → x y = T y

/-- The columns below `n` hold `T`, the others `R`. -/
def Pfx (n : ℕ) (T R x : S256x5120.Idx → EReal) : Prop := ∀ y, x y = if (y 1).val < n then T y else R y

theorem below_step (T x x' : S256x5120.Idx → EReal) (k : ℕ) {b : ℕ} (h : Below (b + k * 128) T x)
    (hs : ∀ y, x' y = if b + k * 128 ≤ (y 1).val ∧ (y 1).val < b + k * 128 + 128 then T y else x y) : Below (b + (k + 1) * 128) T x' := by
  intro y hy
  rw [hs y]
  by_cases hc : b + k * 128 ≤ (y 1).val ∧ (y 1).val < b + k * 128 + 128
  · rw [if_pos hc]
  · rw [if_neg hc]; exact h y (by omega)

theorem pfx_step (T R x x' : S256x5120.Idx → EReal) (k : ℕ) {b : ℕ} (h : Pfx (b + k * 128) T R x)
    (hs : ∀ y, x' y = if b + k * 128 ≤ (y 1).val ∧ (y 1).val < b + k * 128 + 128 then T y else x y) : Pfx (b + (k + 1) * 128) T R x' := by
  intro y
  rw [hs y]
  by_cases hc : b + k * 128 ≤ (y 1).val ∧ (y 1).val < b + k * 128 + 128
  · rw [if_pos hc, if_pos (by omega)]
  · rw [if_neg hc, h y]
    by_cases h2 : (y 1).val < b + k * 128
    · rw [if_pos h2, if_pos (by omega)]
    · rw [if_neg h2, if_neg (by omega)]

theorem QC_at_ (v1 : View sig .tc .vmem S256x5120 .bf16) (X1 : v1.ty.Contents (Elt Ideal)) (B : ℕ) (hB : B + 128 ≤ 5120)
    (o : Fin 2 → ℕ) (inb : ∀ a : Fin 2, o a + S32x128.size a ≤ S256x5120.size a) (R : ℕ) (ho : o = ![R, B]) (hR : R % 32 = 0) (y : S256x5120.Idx)
      (h0 : R ≤ (y 0).val) (h0' : (y 0).val < R + 32) (h1 : B ≤ (y 1).val) (h1' : (y 1).val < B + 128) :
      QC (F := Ideal) (v1.readAt (Elt Ideal) (Rect.unit (s := S256x5120) o S32x128.size inb).toLoadRect X1)
        (ix2 (⟨(y 0).val - R, by omega⟩ : Fin 32) (⟨(y 1).val - B, by omega⟩ : Fin 128)) = tile code (v1.read (Elt Ideal) X1) y :=
  pc_at (e := .bf16) (QC (F := Ideal)) code QC_at v1 X1 o inb R B ho hR y hB h0 h0' h1 h1'

theorem QV_at_ (v1 : View sig .tc .vmem S256x5120 .bf16) (X1 : v1.ty.Contents (Elt Ideal)) (B : ℕ) (hB : B + 128 ≤ 5120)
    (o : Fin 2 → ℕ) (inb : ∀ a : Fin 2, o a + S32x128.size a ≤ S256x5120.size a) (R : ℕ) (ho : o = ![R, B]) (hR : R % 32 = 0) (y : S256x5120.Idx)
      (h0 : R ≤ (y 0).val) (h0' : (y 0).val < R + 32) (h1 : B ≤ (y 1).val) (h1' : (y 1).val < B + 128) :
      QV (F := Ideal) (v1.readAt (Elt Ideal) (Rect.unit (s := S256x5120) o S32x128.size inb).toLoadRect X1)
        (ix2 (⟨(y 0).val - R, by omega⟩ : Fin 32) (⟨(y 1).val - B, by omega⟩ : Fin 128)) = tile back (v1.read (Elt Ideal) X1) y :=
  pc_at (e := .bf16) (QV (F := Ideal)) back QV_at v1 X1 o inb R B ho hR y hB h0 h0' h1 h1'

theorem lim5 : ∀ (a : Fin k0_t3_loop.trips) (b : Fin k0_t4_loop.trips) (t : Fin k0_t5_loop.trips), a.val * 1280 + b.val * 256 + t.val * 128 + 128 ≤ 5120 := by decide +kernel
theorem lim2 : ∀ t : Fin k0_t2_loop.trips, 0 + t.val * 128 + 128 ≤ 5120 := by decide +kernel

def v5_inv (c : Dev nD) {arg1 : Memref sig .tc .vmem S256x5120 .bf16} {arg8 : Memref sig .tc .vmem S256x5120 .fp8e5m2} {arg10 : Memref sig .tc .vmem S256x5120 .fp8e5m2} {arg15 : Memref sig .tc .vmem S256x5120 .bf16} {arg16 : Memref sig .tc .vmem S256x5120 .bf16} {arg20 : Memref sig .tc .vmem S160x1x256 .i32} {arg21 : Memref sig .tc .vmem S4x8x5120 .i32} (X1 : BufTy.Contents (Elt Ideal) arg1.view.ty) (R16 R15 : S256x5120.Idx → EReal) (b n : ℕ) : sProp 𝕄 :=
  iprop((arg1.view.loc (c : Thread nD τ) ↦[arg1.view.set]{fullShare} X1) ∗ (∃ f, ⌜Below (b + n * 128) (tile code (arg1.view.read (Elt Ideal) X1)) (arg10.view.read (Elt Ideal) f)⌝ ∗ (arg10.view.loc (c : Thread nD τ) ↦[arg10.view.set]{fullShare} f)) ∗ (∃ f, ⌜Pfx (b + n * 128) (tile back (arg1.view.read (Elt Ideal) X1)) R16 (arg16.view.read (Elt Ideal) f)⌝ ∗ (arg16.view.loc (c : Thread nD τ) ↦[arg16.view.set]{fullShare} f)) ∗ (∃ f, ⌜Below (b + n * 128) (tileR code (arg1.view.read (Elt Ideal) X1)) (arg8.view.read (Elt Ideal) f)⌝ ∗ (arg8.view.loc (c : Thread nD τ) ↦[arg8.view.set]{fullShare} f)) ∗ (∃ f, ⌜Pfx (b + n * 128) (tileR back (arg1.view.read (Elt Ideal) X1)) R15 (arg15.view.read (Elt Ideal) f)⌝ ∗ (arg15.view.loc (c : Thread nD τ) ↦[arg15.view.set]{fullShare} f)) ∗ (∃ f, (arg20.view.loc (c : Thread nD τ) ↦[arg20.view.set]{fullShare} f)) ∗ (∃ f, (arg21.view.loc (c : Thread nD τ) ↦[arg21.view.set]{fullShare} f)))

theorem v5_step (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (k0_t4 : Fin k0_t4_loop.trips) (v136 : BitVec 32) (X1 : BufTy.Contents (Elt Ideal) arg1.view.ty) (R16 R15 : S256x5120.Idx → EReal) (k : Fin k0_t5_loop.trips) :
    v5_inv c (arg1 := arg1) (arg8 := arg8) (arg10 := arg10) (arg15 := arg15) (arg16 := arg16) (arg20 := arg20) (arg21 := arg21) X1 R16 R15 (k0_t3.val * 1280 + k0_t4.val * 256) k.val ⊢ wp frame (wpE (defs₀ (F := Ideal)) Variants.none (c : Thread nD τ) none) Set.univ (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k0_t4 v136 k ())
      (fun _ => v5_inv c (arg1 := arg1) (arg8 := arg8) (arg10 := arg10) (arg15 := arg15) (arg16 := arg16) (arg20 := arg20) (arg21 := arg21) X1 R16 R15 (k0_t3.val * 1280 + k0_t4.val * 256) (k.val + 1)) := by
  unfold v5_inv
  iintro ⟨H1, ⟨%f10, %e10, H10⟩, ⟨%f16, %e16, H16⟩, ⟨%f8, %e8, H8⟩, ⟨%f15, %e15, H15⟩, H20, H21⟩
  iapply (wp_wand_r Idealize.ShloMosaic.frame (wpE (defs₀ (F := Ideal)) Variants.none (c : Thread nD τ) none) Set.univ)
  isplitl [H1 H10 H16 H8 H15 H20 H21]
  · iapply (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k0_t4 v136 k X1 f10 f16 f8 f15)
    isplitl [H1]; · iexact H1
    isplitl [H10]; · iexact H10
    isplitl [H16]; · iexact H16
    isplitl [H8]; · iexact H8
    isplitl [H15]; · iexact H15
    isplitl [H20]; · iexact H20
    iexact H21
  iintro %_ ⟨H1, ⟨%g10, %eg10, H10⟩, ⟨%g16, %eg16, H16⟩, ⟨%g8, %eg8, H8⟩, ⟨%g15, %eg15, H15⟩, H20, H21⟩
  isplitl [H1]; · iexact H1
  isplitl [H10]
  · iexists _; isplitr; swap; · iexact H10
    ipureintro
    subst eg10
    exact below_step _ _ _ _ (b := k0_t3.val * 1280 + k0_t4.val * 256) e10 (fun y => (strips_at _ _ _ _ _ _ _ _ _ _ _ _ _ _ _ (QC_at_ arg1.view X1 _ (lim5 k0_t3 k0_t4 k)) (off26_eq k0_t3 k0_t4 k) (off27_eq k0_t3 k0_t4 k) (off28_eq k0_t3 k0_t4 k) (off29_eq k0_t3 k0_t4 k) (off30_eq k0_t3 k0_t4 k) (off31_eq k0_t3 k0_t4 k) (off32_eq k0_t3 k0_t4 k) (off33_eq k0_t3 k0_t4 k) _ _ _ _ _ _ _ _ y))
  isplitl [H16]
  · iexists _; isplitr; swap; · iexact H16
    ipureintro
    subst eg16
    exact pfx_step _ _ _ _ _ (b := k0_t3.val * 1280 + k0_t4.val * 256) e16 (fun y => (strips_at _ _ _ _ _ _ _ _ _ _ _ _ _ _ _ (QV_at_ arg1.view X1 _ (lim5 k0_t3 k0_t4 k)) (off26_eq k0_t3 k0_t4 k) (off27_eq k0_t3 k0_t4 k) (off28_eq k0_t3 k0_t4 k) (off29_eq k0_t3 k0_t4 k) (off30_eq k0_t3 k0_t4 k) (off31_eq k0_t3 k0_t4 k) (off32_eq k0_t3 k0_t4 k) (off33_eq k0_t3 k0_t4 k) _ _ _ _ _ _ _ _ y))
  isplitl [H8]
  · iexists _; isplitr; swap; · iexact H8
    ipureintro
    subst eg8
    exact below_step _ _ _ _ (b := k0_t3.val * 1280 + k0_t4.val * 256) e8 (fun y => (rows8_RC arg8.view f8 arg1.view X1 _ _ _ _ _ _ _ _ _ (lim5 k0_t3 k0_t4 k) (by omega) (off26_eq k0_t3 k0_t4 k) (off27_eq k0_t3 k0_t4 k) (off28_eq k0_t3 k0_t4 k) (off29_eq k0_t3 k0_t4 k) (off30_eq k0_t3 k0_t4 k) (off31_eq k0_t3 k0_t4 k) (off32_eq k0_t3 k0_t4 k) (off33_eq k0_t3 k0_t4 k) _ _ _ _ _ _ _ _ y))
  isplitl [H15]
  · iexists _; isplitr; swap; · iexact H15
    ipureintro
    subst eg15
    exact pfx_step _ _ _ _ _ (b := k0_t3.val * 1280 + k0_t4.val * 256) e15 (fun y => (rows8_RV arg15.view f15 arg1.view X1 _ _ _ _ _ _ _ _ _ (lim5 k0_t3 k0_t4 k) (by omega) (off26_eq k0_t3 k0_t4 k) (off27_eq k0_t3 k0_t4 k) (off28_eq k0_t3 k0_t4 k) (off29_eq k0_t3 k0_t4 k) (off30_eq k0_t3 k0_t4 k) (off31_eq k0_t3 k0_t4 k) (off32_eq k0_t3 k0_t4 k) (off33_eq k0_t3 k0_t4 k) _ _ _ _ _ _ _ _ y))
  isplitl [H20]; · iexact H20
  iexact H21

theorem v5_wp (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (k0_t4 : Fin k0_t4_loop.trips) (v136 : BitVec 32) (X1 : BufTy.Contents (Elt Ideal) arg1.view.ty) (R16 R15 : S256x5120.Idx → EReal) {β : Type} (kk : Unit → Prog (TpuEff nD τ sig (Elt Ideal) Λ₀ .tc) β) (Q : β → sProp 𝕄) :
    v5_inv c (arg1 := arg1) (arg8 := arg8) (arg10 := arg10) (arg15 := arg15) (arg16 := arg16) (arg20 := arg20) (arg21 := arg21) X1 R16 R15 (k0_t3.val * 1280 + k0_t4.val * 256) 0
    ⊢ iprop((∀ acc : Unit, v5_inv c (arg1 := arg1) (arg8 := arg8) (arg10 := arg10) (arg15 := arg15) (arg16 := arg16) (arg20 := arg20) (arg21 := arg21) X1 R16 R15 (k0_t3.val * 1280 + k0_t4.val * 256) 2 -∗ wp frame (wpE (defs₀ (F := Ideal)) Variants.none (c : Thread nD τ) none) Set.univ (kk acc) Q)
      -∗ wp frame (wpE (defs₀ (F := Ideal)) Variants.none (c : Thread nD τ) none) Set.univ
        (Scf.Loop.for k0_t5_loop (k0_t5_ok i k0_h3) ⟨⟩ (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k0_t4 v136) >>= kk) Q) :=
  Scf.wp_for_bind Idealize.ShloMosaic.frame _ _ _ _ _ _ _ _ (fun n _ => v5_inv c (arg1 := arg1) (arg8 := arg8) (arg10 := arg10) (arg15 := arg15) (arg16 := arg16) (arg20 := arg20) (arg21 := arg21) X1 R16 R15 (k0_t3.val * 1280 + k0_t4.val * 256) n)
    (fun k _ => v5_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k0_t4 v136 X1 R16 R15 k)

def v2_inv (c : Dev nD) {arg1 : Memref sig .tc .vmem S256x5120 .bf16} {arg8 : Memref sig .tc .vmem S256x5120 .fp8e5m2} {arg10 : Memref sig .tc .vmem S256x5120 .fp8e5m2} {arg15 : Memref sig .tc .vmem S256x5120 .bf16} {arg16 : Memref sig .tc .vmem S256x5120 .bf16} {arg20 : Memref sig .tc .vmem S160x1x256 .i32} {arg21 : Memref sig .tc .vmem S4x8x5120 .i32} (X1 : BufTy.Contents (Elt Ideal) arg1.view.ty) (b n : ℕ) : sProp 𝕄 :=
  iprop((arg1.view.loc (c : Thread nD τ) ↦[arg1.view.set]{fullShare} X1) ∗ (∃ f, ⌜Below (b + n * 128) (tile code (arg1.view.read (Elt Ideal) X1)) (arg10.view.read (Elt Ideal) f)⌝ ∗ (arg10.view.loc (c : Thread nD τ) ↦[arg10.view.set]{fullShare} f)) ∗ (∃ f, ⌜Below (b + n * 128) (tile back (arg1.view.read (Elt Ideal) X1)) (arg16.view.read (Elt Ideal) f)⌝ ∗ (arg16.view.loc (c : Thread nD τ) ↦[arg16.view.set]{fullShare} f)) ∗ (∃ f, ⌜Below (b + n * 128) (tileR code (arg1.view.read (Elt Ideal) X1)) (arg8.view.read (Elt Ideal) f)⌝ ∗ (arg8.view.loc (c : Thread nD τ) ↦[arg8.view.set]{fullShare} f)) ∗ (∃ f, ⌜Below (b + n * 128) (tileR back (arg1.view.read (Elt Ideal) X1)) (arg15.view.read (Elt Ideal) f)⌝ ∗ (arg15.view.loc (c : Thread nD τ) ↦[arg15.view.set]{fullShare} f)) ∗ (∃ f, (arg20.view.loc (c : Thread nD τ) ↦[arg20.view.set]{fullShare} f)) ∗ (∃ f, (arg21.view.loc (c : Thread nD τ) ↦[arg21.view.set]{fullShare} f)))

theorem v2_step (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h1 : k0_cond1 i = 1#1) (X1 : BufTy.Contents (Elt Ideal) arg1.view.ty) (k : Fin k0_t2_loop.trips) :
    v2_inv c (arg1 := arg1) (arg8 := arg8) (arg10 := arg10) (arg15 := arg15) (arg16 := arg16) (arg20 := arg20) (arg21 := arg21) X1 (0) k.val ⊢ wp frame (wpE (defs₀ (F := Ideal)) Variants.none (c : Thread nD τ) none) Set.univ (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h1 k ())
      (fun _ => v2_inv c (arg1 := arg1) (arg8 := arg8) (arg10 := arg10) (arg15 := arg15) (arg16 := arg16) (arg20 := arg20) (arg21 := arg21) X1 (0) (k.val + 1)) := by
  unfold v2_inv
  iintro ⟨H1, ⟨%f10, %e10, H10⟩, ⟨%f16, %e16, H16⟩, ⟨%f8, %e8, H8⟩, ⟨%f15, %e15, H15⟩, H20, H21⟩
  iapply (wp_wand_r Idealize.ShloMosaic.frame (wpE (defs₀ (F := Ideal)) Variants.none (c : Thread nD τ) none) Set.univ)
  isplitl [H1 H10 H16 H8 H15 H20 H21]
  · iapply (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h1 k X1 f10 f16 f8 f15)
    isplitl [H1]; · iexact H1
    isplitl [H10]; · iexact H10
    isplitl [H16]; · iexact H16
    isplitl [H8]; · iexact H8
    isplitl [H15]; · iexact H15
    isplitl [H20]; · iexact H20
    iexact H21
  iintro %_ ⟨H1, ⟨%g10, %eg10, H10⟩, ⟨%g16, %eg16, H16⟩, ⟨%g8, %eg8, H8⟩, ⟨%g15, %eg15, H15⟩, H20, H21⟩
  isplitl [H1]; · iexact H1
  isplitl [H10]
  · iexists _; isplitr; swap; · iexact H10
    ipureintro
    subst eg10
    exact below_step _ _ _ _ (b := 0) e10 (fun y => (strips_at _ _ _ _ _ _ _ _ _ _ _ _ _ _ _ (QC_at_ arg1.view X1 _ (lim2 k)) ((off10_eq k).trans (by rw [Nat.zero_add])) ((off11_eq k).trans (by rw [Nat.zero_add])) ((off12_eq k).trans (by rw [Nat.zero_add])) ((off13_eq k).trans (by rw [Nat.zero_add])) ((off14_eq k).trans (by rw [Nat.zero_add])) ((off15_eq k).trans (by rw [Nat.zero_add])) ((off16_eq k).trans (by rw [Nat.zero_add])) ((off17_eq k).trans (by rw [Nat.zero_add])) _ _ _ _ _ _ _ _ y))
  isplitl [H16]
  · iexists _; isplitr; swap; · iexact H16
    ipureintro
    subst eg16
    exact below_step _ _ _ _ (b := 0) e16 (fun y => (strips_at _ _ _ _ _ _ _ _ _ _ _ _ _ _ _ (QV_at_ arg1.view X1 _ (lim2 k)) ((off10_eq k).trans (by rw [Nat.zero_add])) ((off11_eq k).trans (by rw [Nat.zero_add])) ((off12_eq k).trans (by rw [Nat.zero_add])) ((off13_eq k).trans (by rw [Nat.zero_add])) ((off14_eq k).trans (by rw [Nat.zero_add])) ((off15_eq k).trans (by rw [Nat.zero_add])) ((off16_eq k).trans (by rw [Nat.zero_add])) ((off17_eq k).trans (by rw [Nat.zero_add])) _ _ _ _ _ _ _ _ y))
  isplitl [H8]
  · iexists _; isplitr; swap; · iexact H8
    ipureintro
    subst eg8
    exact below_step _ _ _ _ (b := 0) e8 (fun y => (rows8_RC arg8.view f8 arg1.view X1 _ _ _ _ _ _ _ _ _ (lim2 k) (by omega) ((off10_eq k).trans (by rw [Nat.zero_add])) ((off11_eq k).trans (by rw [Nat.zero_add])) ((off12_eq k).trans (by rw [Nat.zero_add])) ((off13_eq k).trans (by rw [Nat.zero_add])) ((off14_eq k).trans (by rw [Nat.zero_add])) ((off15_eq k).trans (by rw [Nat.zero_add])) ((off16_eq k).trans (by rw [Nat.zero_add])) ((off17_eq k).trans (by rw [Nat.zero_add])) _ _ _ _ _ _ _ _ y))
  isplitl [H15]
  · iexists _; isplitr; swap; · iexact H15
    ipureintro
    subst eg15
    exact below_step _ _ _ _ (b := 0) e15 (fun y => (rows8_RV arg15.view f15 arg1.view X1 _ _ _ _ _ _ _ _ _ (lim2 k) (by omega) ((off10_eq k).trans (by rw [Nat.zero_add])) ((off11_eq k).trans (by rw [Nat.zero_add])) ((off12_eq k).trans (by rw [Nat.zero_add])) ((off13_eq k).trans (by rw [Nat.zero_add])) ((off14_eq k).trans (by rw [Nat.zero_add])) ((off15_eq k).trans (by rw [Nat.zero_add])) ((off16_eq k).trans (by rw [Nat.zero_add])) ((off17_eq k).trans (by rw [Nat.zero_add])) _ _ _ _ _ _ _ _ y))
  isplitl [H20]; · iexact H20
  iexact H21

theorem v2_wp (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h1 : k0_cond1 i = 1#1) (X1 : BufTy.Contents (Elt Ideal) arg1.view.ty) {β : Type} (kk : Unit → Prog (TpuEff nD τ sig (Elt Ideal) Λ₀ .tc) β) (Q : β → sProp 𝕄) :
    v2_inv c (arg1 := arg1) (arg8 := arg8) (arg10 := arg10) (arg15 := arg15) (arg16 := arg16) (arg20 := arg20) (arg21 := arg21) X1 (0) 0
    ⊢ iprop((∀ acc : Unit, v2_inv c (arg1 := arg1) (arg8 := arg8) (arg10 := arg10) (arg15 := arg15) (arg16 := arg16) (arg20 := arg20) (arg21 := arg21) X1 (0) 40 -∗ wp frame (wpE (defs₀ (F := Ideal)) Variants.none (c : Thread nD τ) none) Set.univ (kk acc) Q)
      -∗ wp frame (wpE (defs₀ (F := Ideal)) Variants.none (c : Thread nD τ) none) Set.univ
        (Scf.Loop.for k0_t2_loop (k0_t2_ok i k0_h1) ⟨⟩ (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h1) >>= kk) Q) :=
  Scf.wp_for_bind Idealize.ShloMosaic.frame _ _ _ _ _ _ _ _ (fun n _ => v2_inv c (arg1 := arg1) (arg8 := arg8) (arg10 := arg10) (arg15 := arg15) (arg16 := arg16) (arg20 := arg20) (arg21 := arg21) X1 (0) n)
    (fun k _ => v2_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h1 X1 k)

end Cert.KernelIdeal.Hand

end
-- ==== Proof.KernelIdealValB.lean ====
module

public import proofs.«01_k».proof.Proof.KernelIdealValA

@[expose] public section

set_option maxRecDepth 16384
set_option maxHeartbeats 2000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The resource algebra: the pipeline's, with the counters of the kernel's own transfers. -/
local notation "𝕄" => MT nD τ sig Unit (Elt Ideal) ℕ (Pipeline.UD sig nD τ) ℕ

/-- The columns below `n` hold `T`, the others `R`. -/
def Pfx7 (n : ℕ) (T R x : S1280x5120.Idx → EReal) : Prop := ∀ y, x y = if (y 1).val < n then T y else R y

/-- The product of a transposed tile with a tile. -/
def outer (x : S1280x256.Idx → EReal) (d : S256x5120.Idx → EReal) (y : S1280x5120.Idx) : EReal :=
  ∑ k : Fin 256, x (ix2 (y 0) k) * d (ix2 k (y 1))

theorem pay7_at (a : FVec Ideal S1280x256 .f32) (x : FVec Ideal S1280x256 .bf16) (d : FVec Ideal S256x256 .bf16) (j : Fin 1280) (l : Fin 256) :
    k0_pay7 (F := Ideal) a x d (ix2 j l) = a (ix2 j l) + ∑ k : Fin 256, x (ix2 j k) * d (ix2 k l) := by
  pointwise [k0_pay7]
  try rw [zero_add]

theorem pfx7_step (v7 : View sig .tc .vmem S1280x5120 .f32) (f7 : v7.ty.Contents (Elt Ideal)) (v17 : View sig .tc .vmem S1280x256 .bf16)
    (X17 : v17.ty.Contents (Elt Ideal)) (v16 : View sig .tc .vmem S256x5120 .bf16) (f16 : v16.ty.Contents (Elt Ideal)) (o24 o25 : Fin 2 → ℕ)
    (i24 : ∀ a : Fin 2, o24 a + S1280x256.size a ≤ S1280x5120.size a) (i25 : ∀ a : Fin 2, o25 a + S256x256.size a ≤ S256x5120.size a)
    (i17 : ∀ a : Fin 2, (![0, 0] : Fin 2 → ℕ) a + S1280x256.size a ≤ S1280x256.size a) (B : ℕ) (h24 : o24 = ![0, B]) (h25 : o25 = ![0, B])
    (R7 : S1280x5120.Idx → EReal) (R16 T16 : S256x5120.Idx → EReal)
    (e7 : Pfx7 B (fun y => R7 y + outer (v17.read (Elt Ideal) X17) R16 y) R7 (v7.read (Elt Ideal) f7))
    (e16 : Pfx B T16 R16 (v16.read (Elt Ideal) f16)) :
    Pfx7 (B + 256) (fun y => R7 y + outer (v17.read (Elt Ideal) X17) R16 y) R7
      (v7.read (Elt Ideal) (v7.writes (Elt Ideal) f7 [⟨Rect.unit (s := S1280x5120) o24 S1280x256.size i24,
        k0_pay7 (F := Ideal) (v7.readAt (Elt Ideal) (Rect.unit (s := S1280x5120) o24 S1280x256.size i24).toLoadRect f7)
          (v17.readAt (Elt Ideal) (Rect.unit (s := S1280x256) ![0, 0] S1280x256.size i17).toLoadRect X17)
          (v16.readAt (Elt Ideal) (Rect.unit (s := S256x5120) o25 S256x256.size i25).toLoadRect f16)⟩])) := by
  subst h24; subst h25
  intro y
  by_cases c1 : B ≤ (y 1).val ∧ (y 1).val < B + 256
  · have hl : (y 1).val - B < 256 := by omega
    refine (View.read_writes_cons_unit_of_mem v7 f7 i24 _ _ y (ix2 (y 0) (⟨(y 1).val - B, hl⟩ : Fin 256)) rfl
        (Fin.forall_fin_two.mpr ⟨by show (y 0).val = 0 + (y 0).val; omega, by show (y 1).val = B + ((y 1).val - B); omega⟩)).trans ?_
    rw [if_pos c1.2]
    refine (pay7_at _ _ _ (y 0) ⟨(y 1).val - B, hl⟩).trans ?_
    have ea : (v7.readAt (Elt Ideal) (Rect.unit (s := S1280x5120) ![0, B] S1280x256.size i24).toLoadRect f7 : Vec Ideal S1280x256 .f32)
        (ix2 (y 0) ⟨(y 1).val - B, hl⟩) = R7 y := by
      rw [View.readAt_unit v7 f7 i24 rfl i24]
      have := e7 y
      rw [if_neg (by omega)] at this
      rw [← this]
      show v7.read (Elt Ideal) f7 _ = _
      congr 1
      funext a
      refine Fin.ext ?_
      match a with
      | ⟨0, _⟩ => show 0 + 1 * (y 0).val = (y 0).val; omega
      | ⟨1, _⟩ => show B + 1 * ((y 1).val - B) = (y 1).val; omega
    rw [ea]
    show R7 y + _ = R7 y + _
    congr 1
    unfold outer
    refine Finset.sum_congr rfl fun k _ => ?_
    have ex : (v17.readAt (Elt Ideal) (Rect.unit (s := S1280x256) ![0, 0] S1280x256.size i17).toLoadRect X17 : Vec Ideal S1280x256 .bf16) (ix2 (y 0) k)
        = v17.read (Elt Ideal) X17 (ix2 (y 0) k) := by
      rw [View.readAt_unit v17 X17 i17 rfl i17]
      show v17.read (Elt Ideal) X17 _ = _
      congr 1
      funext a
      refine Fin.ext ?_
      match a with
      | ⟨0, _⟩ => show 0 + 1 * (y 0).val = (y 0).val; omega
      | ⟨1, _⟩ => show 0 + 1 * k.val = k.val; omega
    have ed : (v16.readAt (Elt Ideal) (Rect.unit (s := S256x5120) ![0, B] S256x256.size i25).toLoadRect f16 : Vec Ideal S256x256 .bf16) (ix2 k ⟨(y 1).val - B, hl⟩)
        = R16 (ix2 k (y 1)) := by
      rw [View.readAt_unit v16 f16 i25 rfl i25]
      have := e16 (ix2 k (y 1))
      rw [if_neg (by show ¬ (y 1).val < B; omega)] at this
      rw [← this]
      show v16.read (Elt Ideal) f16 _ = _
      congr 1
      funext a
      refine Fin.ext ?_
      match a with
      | ⟨0, _⟩ => show 0 + 1 * k.val = k.val; omega
      | ⟨1, _⟩ => show B + 1 * ((y 1).val - B) = (y 1).val; omega
    rw [ex, ed]
  · refine (View.read_writes_cons_unit_of_not_mem v7 f7 i24 _ _ y rfl (1 : Fin 2) (by show (y 1).val < B ∨ B + 256 ≤ (y 1).val; omega)).trans ?_
    refine (e7 y).trans ?_
    by_cases h2 : (y 1).val < B
    · rw [if_pos h2, if_pos (by omega)]
    · rw [if_neg h2, if_neg (by omega)]

def v4_inv (c : Dev nD) {arg1 : Memref sig .tc .vmem S256x5120 .bf16} {arg7 : Memref sig .tc .vmem S1280x5120 .f32} {arg8 : Memref sig .tc .vmem S256x5120 .fp8e5m2} {arg10 : Memref sig .tc .vmem S256x5120 .fp8e5m2} {arg15 : Memref sig .tc .vmem S256x5120 .bf16} {arg16 : Memref sig .tc .vmem S256x5120 .bf16} {arg17 : Memref sig .tc .vmem S1280x256 .bf16} {arg20 : Memref sig .tc .vmem S160x1x256 .i32} {arg21 : Memref sig .tc .vmem S4x8x5120 .i32} (X1 : BufTy.Contents (Elt Ideal) arg1.view.ty) (X17 : BufTy.Contents (Elt Ideal) arg17.view.ty) (R7 : S1280x5120.Idx → EReal) (R16 R15 : S256x5120.Idx → EReal) (b n : ℕ) : sProp 𝕄 :=
  iprop((arg1.view.loc (c : Thread nD τ) ↦[arg1.view.set]{fullShare} X1) ∗ (arg17.view.loc (c : Thread nD τ) ↦[arg17.view.set]{fullShare} X17) ∗ (∃ f, ⌜Pfx7 (b + n * 256) (fun y => R7 y + outer (arg17.view.read (Elt Ideal) X17) R16 y) R7 (arg7.view.read (Elt Ideal) f)⌝ ∗ (arg7.view.loc (c : Thread nD τ) ↦[arg7.view.set]{fullShare} f)) ∗ (∃ f, ⌜Below (b + n * 256) (tile code (arg1.view.read (Elt Ideal) X1)) (arg10.view.read (Elt Ideal) f)⌝ ∗ (arg10.view.loc (c : Thread nD τ) ↦[arg10.view.set]{fullShare} f)) ∗ (∃ f, ⌜Pfx (b + n * 256) (tile back (arg1.view.read (Elt Ideal) X1)) R16 (arg16.view.read (Elt Ideal) f)⌝ ∗ (arg16.view.loc (c : Thread nD τ) ↦[arg16.view.set]{fullShare} f)) ∗ (∃ f, ⌜Below (b + n * 256) (tileR code (arg1.view.read (Elt Ideal) X1)) (arg8.view.read (Elt Ideal) f)⌝ ∗ (arg8.view.loc (c : Thread nD τ) ↦[arg8.view.set]{fullShare} f)) ∗ (∃ f, ⌜Pfx (b + n * 256) (tileR back (arg1.view.read (Elt Ideal) X1)) R15 (arg15.view.read (Elt Ideal) f)⌝ ∗ (arg15.view.loc (c : Thread nD τ) ↦[arg15.view.set]{fullShare} f)) ∗ (∃ f, (arg20.view.loc (c : Thread nD τ) ↦[arg20.view.set]{fullShare} f)) ∗ (∃ f, (arg21.view.loc (c : Thread nD τ) ↦[arg21.view.set]{fullShare} f)))

theorem v4_step (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (arg23 : BitVec 32) (X1 : BufTy.Contents (Elt Ideal) arg1.view.ty) (X17 : BufTy.Contents (Elt Ideal) arg17.view.ty) (R7 : S1280x5120.Idx → EReal) (R16 R15 : S256x5120.Idx → EReal) (k : Fin k0_t4_loop.trips) :
    v4_inv c (arg1 := arg1) (arg7 := arg7) (arg8 := arg8) (arg10 := arg10) (arg15 := arg15) (arg16 := arg16) (arg17 := arg17) (arg20 := arg20) (arg21 := arg21) X1 X17 R7 R16 R15 (k0_t3.val * 1280) k.val ⊢ wp frame (wpE (defs₀ (F := Ideal)) Variants.none (c : Thread nD τ) none) Set.univ (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 arg23 k ())
      (fun _ => v4_inv c (arg1 := arg1) (arg7 := arg7) (arg8 := arg8) (arg10 := arg10) (arg15 := arg15) (arg16 := arg16) (arg17 := arg17) (arg20 := arg20) (arg21 := arg21) X1 X17 R7 R16 R15 (k0_t3.val * 1280) (k.val + 1)) := by
  unfold v4_inv
  iintro ⟨H1, H17, ⟨%f7, %e7, H7⟩, ⟨%f10, %e10, H10⟩, ⟨%f16, %e16, H16⟩, ⟨%f8, %e8, H8⟩, ⟨%f15, %e15, H15⟩, ⟨%f20, H20⟩, ⟨%f21, H21⟩⟩
  unfold k0_t4_body
  sl_exec
  ihave HX := (v5_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 k _ X1 R16 R15 _ _) $$ [H1 H10 H16 H8 H15 H20 H21]
  · unfold v5_inv
    isplitl [H1]; · iexact H1
    isplitl [H10]
    · iexists _; isplitr; swap; · iexact H10
      ipureintro
      exact e10
    isplitl [H16]
    · iexists _; isplitr; swap; · iexact H16
      ipureintro
      exact e16
    isplitl [H8]
    · iexists _; isplitr; swap; · iexact H8
      ipureintro
      exact e8
    isplitl [H15]
    · iexists _; isplitr; swap; · iexact H15
      ipureintro
      exact e15
    isplitl [H20]; · iexists _; iexact H20
    iexists _; iexact H21
  iapply HX
  iintro %_ HI
  unfold v5_inv
  icases HI with ⟨H1, ⟨%g10, %eg10, H10⟩, ⟨%g16, %eg16, H16⟩, ⟨%g8, %eg8, H8⟩, ⟨%g15, %eg15, H15⟩, H20, H21⟩
  sl_exec
  sl_step
  have en : k0_t3.val * 1280 + k.val * 256 + 2 * 128 = k0_t3.val * 1280 + (k.val + 1) * 256 := by omega
  isplitl [H1]; · iexact H1
  isplitl [H17]; · iexact H17
  isplitl [H7]
  · iexists _; isplitr; swap; · iexact H7
    ipureintro
    exact (show k0_t3.val * 1280 + k.val * 256 + 256 = k0_t3.val * 1280 + (k.val + 1) * 256 by omega) ▸
      pfx7_step _ _ _ _ _ _ _ _ _ _ _ _ (off24_eq k0_t3 k) (off25_eq k0_t3 k) R7 R16 _ e7 e16
  isplitl [H10]
  · iexists _; isplitr; swap; · iexact H10
    ipureintro
    exact en ▸ eg10
  isplitl [H16]
  · iexists _; isplitr; swap; · iexact H16
    ipureintro
    exact en ▸ eg16
  isplitl [H8]
  · iexists _; isplitr; swap; · iexact H8
    ipureintro
    exact en ▸ eg8
  isplitl [H15]
  · iexists _; isplitr; swap; · iexact H15
    ipureintro
    exact en ▸ eg15
  isplitl [H20]; · iexact H20
  iexact H21

theorem v4_wp (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (k0_t3 : Fin k0_t3_loop.trips) (arg23 : BitVec 32) (X1 : BufTy.Contents (Elt Ideal) arg1.view.ty) (X17 : BufTy.Contents (Elt Ideal) arg17.view.ty) (R7 : S1280x5120.Idx → EReal) (R16 R15 : S256x5120.Idx → EReal) {β : Type} (kk : Unit → Prog (TpuEff nD τ sig (Elt Ideal) Λ₀ .tc) β) (Q : β → sProp 𝕄) :
    v4_inv c (arg1 := arg1) (arg7 := arg7) (arg8 := arg8) (arg10 := arg10) (arg15 := arg15) (arg16 := arg16) (arg17 := arg17) (arg20 := arg20) (arg21 := arg21) X1 X17 R7 R16 R15 (k0_t3.val * 1280) 0
    ⊢ iprop((∀ acc : Unit, v4_inv c (arg1 := arg1) (arg7 := arg7) (arg8 := arg8) (arg10 := arg10) (arg15 := arg15) (arg16 := arg16) (arg17 := arg17) (arg20 := arg20) (arg21 := arg21) X1 X17 R7 R16 R15 (k0_t3.val * 1280) 5 -∗ wp frame (wpE (defs₀ (F := Ideal)) Variants.none (c : Thread nD τ) none) Set.univ (kk acc) Q)
      -∗ wp frame (wpE (defs₀ (F := Ideal)) Variants.none (c : Thread nD τ) none) Set.univ
        (Scf.Loop.for k0_t4_loop (k0_t4_ok i k0_h3) ⟨⟩ (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 arg23) >>= kk) Q) :=
  Scf.wp_for_bind Idealize.ShloMosaic.frame _ _ _ _ _ _ _ _ (fun n _ => v4_inv c (arg1 := arg1) (arg7 := arg7) (arg8 := arg8) (arg10 := arg10) (arg15 := arg15) (arg16 := arg16) (arg17 := arg17) (arg20 := arg20) (arg21 := arg21) X1 X17 R7 R16 R15 (k0_t3.val * 1280) n)
    (fun k _ => v4_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k0_t3 arg23 X1 X17 R7 R16 R15 k)

/-- The product of a chunk of 1280 columns of a tile with the rows of the weight they meet. -/
def chunk (R : S256x5120.Idx → EReal) (W : S5120x1280.Idx → EReal) (n : ℕ) (y : S256x1280.Idx) : EReal :=
  ∑ l : Fin 1280, R (ix2 (y 0) (⟨(1280 * n + l.val) % 5120, Nat.mod_lt _ (by decide)⟩ : Fin 5120))
    * W (ix2 (⟨(1280 * n + l.val) % 5120, Nat.mod_lt _ (by decide)⟩ : Fin 5120) (y 1))

/-- The first `n` chunks' products, added. -/
def chunks (R : S256x5120.Idx → EReal) (W : S5120x1280.Idx → EReal) (n : ℕ) (y : S256x1280.Idx) : EReal :=
  ∑ q ∈ Finset.range n, chunk R W q y

theorem pay3_at (a : FVec Ideal S256x1280 .bf16) (b : FVec Ideal S1280x1280 .bf16) (y : S256x1280.Idx) :
    k0_pay3 (F := Ideal) a b y = ∑ l : Fin 1280, a (ix2 (y 0) l) * b (ix2 l (y 1)) := by
  refine (congrArg _ (eq_ix2 y)).trans ?_
  pointwise [k0_pay3]
  try rw [zero_add]

theorem pay4_eq (a : FVec Ideal S256x1280 .bf16) (b : FVec Ideal S1280x1280 .bf16) (y : S256x1280.Idx) :
    k0_pay4 (F := Ideal) a b y = k0_pay3 (F := Ideal) a b y := by
  rw [pay3_at]
  refine (congrArg _ (eq_ix2 y)).trans ?_
  pointwise [k0_pay4, k0_pay3]
  try rw [zero_add]

theorem pay5_eq (a : FVec Ideal S256x1280 .bf16) (b : FVec Ideal S1280x1280 .bf16) (z : FVec Ideal S256x1280 .f32) (y : S256x1280.Idx) :
    k0_pay5 (F := Ideal) a b z y = z y + k0_pay3 (F := Ideal) a b y := by
  rw [pay3_at]
  rw [eq_ix2 y]
  pointwise [k0_pay5, k0_pay3]
  try rw [zero_add]

theorem pay6_eq (a : FVec Ideal S256x1280 .bf16) (b : FVec Ideal S1280x1280 .bf16) (z : FVec Ideal S256x1280 .f32) (y : S256x1280.Idx) :
    k0_pay6 (F := Ideal) a b z y = z y + k0_pay3 (F := Ideal) a b y := by
  rw [pay3_at]
  rw [eq_ix2 y]
  pointwise [k0_pay6, k0_pay3]
  try rw [zero_add]

theorem chunk_at (v15 : View sig .tc .vmem S256x5120 .bf16) (f15 : v15.ty.Contents (Elt Ideal)) (v12 : View sig .tc .vmem S5120x1280 .bf16) (f12 : v12.ty.Contents (Elt Ideal))
    (o22 o23 : Fin 2 → ℕ) (n : ℕ) (hn : n < 4) (h22 : o22 = ![0, 1280 * n]) (h23 : o23 = ![1280 * n, 0])
    (i22 : ∀ a : Fin 2, o22 a + S256x1280.size a ≤ S256x5120.size a) (i23 : ∀ a : Fin 2, o23 a + S1280x1280.size a ≤ S5120x1280.size a)
    (T R : S256x5120.Idx → EReal) (e15 : Pfx (n * 1280) T R (v15.read (Elt Ideal) f15)) (y : S256x1280.Idx) :
    k0_pay3 (F := Ideal) (v15.readAt (Elt Ideal) (Rect.unit (s := S256x5120) o22 S256x1280.size i22).toLoadRect f15)
      (v12.readAt (Elt Ideal) (Rect.unit (s := S5120x1280) o23 S1280x1280.size i23).toLoadRect f12) y = chunk R (v12.read (Elt Ideal) f12) n y := by
  subst h22; subst h23
  rw [pay3_at]
  unfold chunk
  refine Finset.sum_congr rfl fun l _ => ?_
  have hm : (1280 * n + l.val) % 5120 = 1280 * n + l.val := Nat.mod_eq_of_lt (by omega)
  refine Ideal.mul_congr ?_ ?_
  · rw [View.readAt_unit v15 f15 i22 rfl i22]
    have := e15 (ix2 (y 0) (⟨(1280 * n + l.val) % 5120, Nat.mod_lt _ (by decide)⟩ : Fin 5120))
    rw [if_neg (by show ¬ (1280 * n + l.val) % 5120 < n * 1280; omega)] at this
    rw [← this]
    show v15.read (Elt Ideal) f15 _ = _
    congr 1
    funext a
    refine Fin.ext ?_
    match a with
    | ⟨0, _⟩ => show 0 + 1 * (y 0).val = (y 0).val; omega
    | ⟨1, _⟩ => show 1280 * n + 1 * l.val = (1280 * n + l.val) % 5120; omega
  · rw [View.readAt_unit v12 f12 i23 rfl i23]
    show v12.read (Elt Ideal) f12 _ = _
    congr 1
    funext a
    refine Fin.ext ?_
    match a with
    | ⟨0, _⟩ => show 1280 * n + 1 * l.val = (1280 * n + l.val) % 5120; omega
    | ⟨1, _⟩ => show 0 + 1 * (y 1).val = (y 1).val; omega

theorem full_write {e : EltTy} (v : View sig .tc .vmem S256x1280 e) (f : v.ty.Contents (Elt Ideal)) (inb : ∀ a : Fin 2, (![0, 0] : Fin 2 → ℕ) a + S256x1280.size a ≤ S256x1280.size a)
    (w : Vec Ideal S256x1280 e) (y : S256x1280.Idx) :
    v.read (Elt Ideal) (v.writes (Elt Ideal) f [⟨Rect.unit (s := S256x1280) ![0, 0] S256x1280.size inb, w⟩]) y = w y :=
  View.read_writes_cons_unit_of_mem v f inb w [] y y rfl
    (Fin.forall_fin_two.mpr ⟨by show (y 0).val = 0 + (y 0).val; omega, by show (y 1).val = 0 + (y 1).val; omega⟩)

theorem full_read (v : View sig .tc .vmem S256x1280 .f32) (f : v.ty.Contents (Elt Ideal)) (inb : ∀ a : Fin 2, (![0, 0] : Fin 2 → ℕ) a + S256x1280.size a ≤ S256x1280.size a)
    (y : S256x1280.Idx) :
    (v.readAt (Elt Ideal) (Rect.unit (s := S256x1280) ![0, 0] S256x1280.size inb).toLoadRect f : Vec Ideal S256x1280 .f32) y = v.read (Elt Ideal) f y := by
  rw [View.readAt_unit v f inb rfl inb]
  show v.read (Elt Ideal) f _ = _
  congr 1
  funext a
  refine Fin.ext ?_
  match a with
  | ⟨0, _⟩ => show 0 + 1 * (y 0).val = (y 0).val; omega
  | ⟨1, _⟩ => show 0 + 1 * (y 1).val = (y 1).val; omega

/-- The running sum after a chunk. -/
theorem acc_step (v : View sig .tc .vmem S256x1280 .f32) (f : v.ty.Contents (Elt Ideal)) (a : FVec Ideal S256x1280 .bf16) (b : FVec Ideal S1280x1280 .bf16)
    (c4 c5 : Prop) [Decidable c4] [Decidable c5] (n : ℕ) (hn : n < 4) (j4 : c4 ↔ n = 0) (j5 : c5 ↔ 0 < n ∧ n < 3)
    (R : S256x5120.Idx → EReal) (W : S5120x1280.Idx → EReal) (hc : ∀ y, k0_pay3 (F := Ideal) a b y = chunk R W n y)
    (h : 0 < n → n < 4 → ∀ y, v.read (Elt Ideal) f y = chunks R W n y)
    (i1 i2 i3 : ∀ a : Fin 2, (![0, 0] : Fin 2 → ℕ) a + S256x1280.size a ≤ S256x1280.size a) :
    (0 < n + 1 → n + 1 < 4 → ∀ y, v.read (Elt Ideal) (if _h : c5 then v.writes (Elt Ideal) (if _h : c4 then v.writes (Elt Ideal) f [⟨Rect.unit (s := S256x1280) ![0, 0] S256x1280.size i1, k0_pay4 (F := Ideal) a b⟩] else f)
        [⟨Rect.unit (s := S256x1280) ![0, 0] S256x1280.size i2, k0_pay5 (F := Ideal) a b (v.readAt (Elt Ideal) (Rect.unit (s := S256x1280) ![0, 0] S256x1280.size i3).toLoadRect
          (if _h : c4 then v.writes (Elt Ideal) f [⟨Rect.unit (s := S256x1280) ![0, 0] S256x1280.size i1, k0_pay4 (F := Ideal) a b⟩] else f))⟩]
      else (if _h : c4 then v.writes (Elt Ideal) f [⟨Rect.unit (s := S256x1280) ![0, 0] S256x1280.size i1, k0_pay4 (F := Ideal) a b⟩] else f)) y = chunks R W (n + 1) y) := by
  intro _ h3 y
  by_cases h0 : n = 0
  · rw [dif_neg (fun e => by have := j5.1 e; omega), dif_pos (j4.2 h0), full_write, pay4_eq, hc, h0]
    unfold chunks
    rw [Finset.sum_range_one]
  · rw [dif_pos (j5.2 ⟨by omega, by omega⟩), dif_neg (fun e => h0 (j4.1 e)), full_write, pay5_eq, hc, full_read, h (by omega) hn y]
    unfold chunks
    rw [Finset.sum_range_succ]

/-- The last chunk's sum, stored as the tile of the result. -/
theorem out_step (v : View sig .tc .vmem S256x1280 .f32) (f : v.ty.Contents (Elt Ideal)) (v6 : View sig .tc .vmem S256x1280 .bf16) (f6 : v6.ty.Contents (Elt Ideal)) (a : FVec Ideal S256x1280 .bf16) (b : FVec Ideal S1280x1280 .bf16)
    (c4 c5 c6 : Prop) [Decidable c4] [Decidable c5] [Decidable c6] (n : ℕ) (hn : n < 4) (j4 : c4 ↔ n = 0) (j5 : c5 ↔ 0 < n ∧ n < 3) (j6 : c6 ↔ n = 3)
    (R : S256x5120.Idx → EReal) (W : S5120x1280.Idx → EReal) (hc : ∀ y, k0_pay3 (F := Ideal) a b y = chunk R W n y)
    (h : 0 < n → n < 4 → ∀ y, v.read (Elt Ideal) f y = chunks R W n y)
    (i1 i2 i3 i4 i6 : ∀ a : Fin 2, (![0, 0] : Fin 2 → ℕ) a + S256x1280.size a ≤ S256x1280.size a) :
    (n + 1 = 4 → ∀ y, v6.read (Elt Ideal) (if _h : c6 then v6.writes (Elt Ideal) f6 [⟨Rect.unit (s := S256x1280) ![0, 0] S256x1280.size i6, k0_pay6 (F := Ideal) a b
      (v.readAt (Elt Ideal) (Rect.unit (s := S256x1280) ![0, 0] S256x1280.size i4).toLoadRect (if _h : c5 then v.writes (Elt Ideal) (if _h : c4 then v.writes (Elt Ideal) f [⟨Rect.unit (s := S256x1280) ![0, 0] S256x1280.size i1, k0_pay4 (F := Ideal) a b⟩] else f)
        [⟨Rect.unit (s := S256x1280) ![0, 0] S256x1280.size i2, k0_pay5 (F := Ideal) a b (v.readAt (Elt Ideal) (Rect.unit (s := S256x1280) ![0, 0] S256x1280.size i3).toLoadRect
          (if _h : c4 then v.writes (Elt Ideal) f [⟨Rect.unit (s := S256x1280) ![0, 0] S256x1280.size i1, k0_pay4 (F := Ideal) a b⟩] else f))⟩]
      else (if _h : c4 then v.writes (Elt Ideal) f [⟨Rect.unit (s := S256x1280) ![0, 0] S256x1280.size i1, k0_pay4 (F := Ideal) a b⟩] else f)))⟩] else f6) y = chunks R W 4 y) := by
  intro h4 y
  have h3 : n = 3 := by omega
  rw [dif_pos (j6.2 h3), full_write, pay6_eq, hc, full_read, dif_neg (fun e => by have := j5.1 e; omega), dif_neg (fun e => by have := j4.1 e; omega), h (by omega) hn y, h3]
  unfold chunks
  rw [Finset.sum_range_succ _ 3]

theorem cond4_iff : ∀ k : Fin k0_t3_loop.trips, Scalar.cmpi .ne (Scalar.extui (Scalar.cmpi .eq (Scf.iv 0#32 1#32 k) 0#32)) 0#32 = 1#1 ↔ k.val = 0 := by decide +kernel
theorem cond5_iff : ∀ k : Fin k0_t3_loop.trips, Scalar.cmpi .ne (Scalar.extui (Scalar.andi (Scalar.cmpi .sgt (Scf.iv 0#32 1#32 k) 0#32) (Scalar.cmpi .slt (Scalar.addi (Scf.iv 0#32 1#32 k) 1#32) 4#32))) 0#32 = 1#1 ↔ 0 < k.val ∧ k.val < 3 := by decide +kernel
theorem cond6_iff : ∀ k : Fin k0_t3_loop.trips, k0_cond6 k = 1#1 ↔ k.val = 3 := by decide +kernel
theorem trips3_lt : ∀ k : Fin k0_t3_loop.trips, k.val < 4 := by decide +kernel

def v3_inv (c : Dev nD) {arg1 : Memref sig .tc .vmem S256x5120 .bf16} {arg6 : Memref sig .tc .vmem S256x1280 .bf16} {arg7 : Memref sig .tc .vmem S1280x5120 .f32} {arg8 : Memref sig .tc .vmem S256x5120 .fp8e5m2} {arg10 : Memref sig .tc .vmem S256x5120 .fp8e5m2} {arg12 : Memref sig .tc .vmem S5120x1280 .bf16} {arg15 : Memref sig .tc .vmem S256x5120 .bf16} {arg16 : Memref sig .tc .vmem S256x5120 .bf16} {arg17 : Memref sig .tc .vmem S1280x256 .bf16} {arg18 : Memref sig .tc .vmem S256x1280 .f32} {arg20 : Memref sig .tc .vmem S160x1x256 .i32} {arg21 : Memref sig .tc .vmem S4x8x5120 .i32} (X1 : BufTy.Contents (Elt Ideal) arg1.view.ty) (X17 : BufTy.Contents (Elt Ideal) arg17.view.ty) (X12 : BufTy.Contents (Elt Ideal) arg12.view.ty) (R7 : S1280x5120.Idx → EReal) (R16 R15 : S256x5120.Idx → EReal) (n : ℕ) : sProp 𝕄 :=
  iprop((arg1.view.loc (c : Thread nD τ) ↦[arg1.view.set]{fullShare} X1) ∗ (arg17.view.loc (c : Thread nD τ) ↦[arg17.view.set]{fullShare} X17) ∗ (∃ f, ⌜Pfx7 (n * 1280) (fun y => R7 y + outer (arg17.view.read (Elt Ideal) X17) R16 y) R7 (arg7.view.read (Elt Ideal) f)⌝ ∗ (arg7.view.loc (c : Thread nD τ) ↦[arg7.view.set]{fullShare} f)) ∗ (∃ f, ⌜Below (n * 1280) (tile code (arg1.view.read (Elt Ideal) X1)) (arg10.view.read (Elt Ideal) f)⌝ ∗ (arg10.view.loc (c : Thread nD τ) ↦[arg10.view.set]{fullShare} f)) ∗ (∃ f, ⌜Pfx (n * 1280) (tile back (arg1.view.read (Elt Ideal) X1)) R16 (arg16.view.read (Elt Ideal) f)⌝ ∗ (arg16.view.loc (c : Thread nD τ) ↦[arg16.view.set]{fullShare} f)) ∗ (∃ f, ⌜n = 4 → ∀ y, arg6.view.read (Elt Ideal) f y = chunks R15 (arg12.view.read (Elt Ideal) X12) 4 y⌝ ∗ (arg6.view.loc (c : Thread nD τ) ↦[arg6.view.set]{fullShare} f)) ∗ (∃ f, ⌜Below (n * 1280) (tileR code (arg1.view.read (Elt Ideal) X1)) (arg8.view.read (Elt Ideal) f)⌝ ∗ (arg8.view.loc (c : Thread nD τ) ↦[arg8.view.set]{fullShare} f)) ∗ (arg12.view.loc (c : Thread nD τ) ↦[arg12.view.set]{fullShare} X12) ∗ (∃ f, ⌜Pfx (n * 1280) (tileR back (arg1.view.read (Elt Ideal) X1)) R15 (arg15.view.read (Elt Ideal) f)⌝ ∗ (arg15.view.loc (c : Thread nD τ) ↦[arg15.view.set]{fullShare} f)) ∗ (∃ f, ⌜0 < n → n < 4 → ∀ y, arg18.view.read (Elt Ideal) f y = chunks R15 (arg12.view.read (Elt Ideal) X12) n y⌝ ∗ (arg18.view.loc (c : Thread nD τ) ↦[arg18.view.set]{fullShare} f)) ∗ (∃ f, (arg20.view.loc (c : Thread nD τ) ↦[arg20.view.set]{fullShare} f)) ∗ (∃ f, (arg21.view.loc (c : Thread nD τ) ↦[arg21.view.set]{fullShare} f)))

theorem v3_step (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (c0_i32_29 : BitVec 32) (hc0 : c0_i32_29 = 0#32) (X1 : BufTy.Contents (Elt Ideal) arg1.view.ty) (X17 : BufTy.Contents (Elt Ideal) arg17.view.ty) (X12 : BufTy.Contents (Elt Ideal) arg12.view.ty) (R7 : S1280x5120.Idx → EReal) (R16 R15 : S256x5120.Idx → EReal) (k : Fin k0_t3_loop.trips) :
    v3_inv c (arg1 := arg1) (arg6 := arg6) (arg7 := arg7) (arg8 := arg8) (arg10 := arg10) (arg12 := arg12) (arg15 := arg15) (arg16 := arg16) (arg17 := arg17) (arg18 := arg18) (arg20 := arg20) (arg21 := arg21) X1 X17 X12 R7 R16 R15 k.val ⊢ wp frame (wpE (defs₀ (F := Ideal)) Variants.none (c : Thread nD τ) none) Set.univ (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 c0_i32_29 k ())
      (fun _ => v3_inv c (arg1 := arg1) (arg6 := arg6) (arg7 := arg7) (arg8 := arg8) (arg10 := arg10) (arg12 := arg12) (arg15 := arg15) (arg16 := arg16) (arg17 := arg17) (arg18 := arg18) (arg20 := arg20) (arg21 := arg21) X1 X17 X12 R7 R16 R15 (k.val + 1)) := by
  subst hc0
  have hch := fun (f15 : BufTy.Contents (Elt Ideal) arg15.view.ty) (e15 : Pfx (k.val * 1280) (tileR back (arg1.view.read (Elt Ideal) X1)) R15 (arg15.view.read (Elt Ideal) f15)) (y : S256x1280.Idx) =>
    chunk_at arg15.view f15 arg12.view X12 (k0_off22 k) (k0_off23 k) k.val (trips3_lt k) (k0_off22_eq k) (k0_off23_eq k) (k0_off22_inb i k k0_h3) (k0_off23_inb i k k0_h3) _ R15 e15 y
  unfold v3_inv
  iintro ⟨H1, H17, ⟨%f7, %e7, H7⟩, ⟨%f10, %e10, H10⟩, ⟨%f16, %e16, H16⟩, ⟨%f6, %e6, H6⟩, ⟨%f8, %e8, H8⟩, H12, ⟨%f15, %e15, H15⟩, ⟨%f18, %e18, H18⟩, ⟨%f20, H20⟩, ⟨%f21, H21⟩⟩
  unfold k0_t3_body
  sl_exec
  ihave HX := (v4_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 k _ X1 X17 R7 R16 R15 _ _) $$ [H1 H17 H7 H10 H16 H8 H15 H20 H21]
  · unfold v4_inv
    isplitl [H1]; · iexact H1
    isplitl [H17]; · iexact H17
    isplitl [H7]
    · iexists _; isplitr; swap; · iexact H7
      ipureintro
      exact e7
    isplitl [H10]
    · iexists _; isplitr; swap; · iexact H10
      ipureintro
      exact e10
    isplitl [H16]
    · iexists _; isplitr; swap; · iexact H16
      ipureintro
      exact e16
    isplitl [H8]
    · iexists _; isplitr; swap; · iexact H8
      ipureintro
      exact e8
    isplitl [H15]
    · iexists _; isplitr; swap; · iexact H15
      ipureintro
      exact e15
    isplitl [H20]; · iexists _; iexact H20
    iexists _; iexact H21
  iapply HX
  iintro %_ HI
  unfold v4_inv
  icases HI with ⟨H1, H17, ⟨%g7, %eg7, H7⟩, ⟨%g10, %eg10, H10⟩, ⟨%g16, %eg16, H16⟩, ⟨%g8, %eg8, H8⟩, ⟨%g15, %eg15, H15⟩, ⟨%g20, H20⟩, ⟨%g21, H21⟩⟩
  sl_exec
  sl_step
  have en : k.val * 1280 + 5 * 256 = (k.val + 1) * 1280 := by omega
  isplitl [H1]; · iexact H1
  isplitl [H17]; · iexact H17
  isplitl [H7]
  · iexists _; isplitr; swap; · iexact H7
    ipureintro
    exact en ▸ eg7
  isplitl [H10]
  · iexists _; isplitr; swap; · iexact H10
    ipureintro
    exact en ▸ eg10
  isplitl [H16]
  · iexists _; isplitr; swap; · iexact H16
    ipureintro
    exact en ▸ eg16
  isplitl [H6]
  · iexists _; isplitr; swap; · iexact H6
    ipureintro
    exact out_step arg18.view f18 arg6.view f6 _ _ _ _ _ k.val (trips3_lt k) (cond4_iff k) (cond5_iff k) (cond6_iff k) R15 (arg12.view.read (Elt Ideal) X12) (hch f15 e15) e18 _ _ _ _ _
  isplitl [H8]
  · iexists _; isplitr; swap; · iexact H8
    ipureintro
    exact en ▸ eg8
  isplitl [H12]; · iexact H12
  isplitl [H15]
  · iexists _; isplitr; swap; · iexact H15
    ipureintro
    exact en ▸ eg15
  isplitl [H18]
  · iexists _; isplitr; swap; · iexact H18
    ipureintro
    exact acc_step arg18.view f18 _ _ _ _ k.val (trips3_lt k) (cond4_iff k) (cond5_iff k) R15 (arg12.view.read (Elt Ideal) X12) (hch f15 e15) e18 _ _ _
  isplitl [H20]; · iexists _; iexact H20
  iexists _; iexact H21

theorem v3_wp (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg5 : Memref sig .tc .hbm S1280x5120 .fp8e4m3) (harg5 : arg5.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg14 : Memref sig .tc .vmem S2x1280x256 .fp8e4m3) (harg14 : arg14.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (arg22 : DmaSems sig S2) (v10 : BitVec 32) (k0_h3 : k0_cond3 i = 1#1) (c0_i32_29 : BitVec 32) (hc0 : c0_i32_29 = 0#32) (X1 : BufTy.Contents (Elt Ideal) arg1.view.ty) (X17 : BufTy.Contents (Elt Ideal) arg17.view.ty) (X12 : BufTy.Contents (Elt Ideal) arg12.view.ty) (R7 : S1280x5120.Idx → EReal) (R16 R15 : S256x5120.Idx → EReal) {β : Type} (kk : Unit → Prog (TpuEff nD τ sig (Elt Ideal) Λ₀ .tc) β) (Q : β → sProp 𝕄) :
    v3_inv c (arg1 := arg1) (arg6 := arg6) (arg7 := arg7) (arg8 := arg8) (arg10 := arg10) (arg12 := arg12) (arg15 := arg15) (arg16 := arg16) (arg17 := arg17) (arg18 := arg18) (arg20 := arg20) (arg21 := arg21) X1 X17 X12 R7 R16 R15 0
    ⊢ iprop((∀ acc : Unit, v3_inv c (arg1 := arg1) (arg6 := arg6) (arg7 := arg7) (arg8 := arg8) (arg10 := arg10) (arg12 := arg12) (arg15 := arg15) (arg16 := arg16) (arg17 := arg17) (arg18 := arg18) (arg20 := arg20) (arg21 := arg21) X1 X17 X12 R7 R16 R15 4 -∗ wp frame (wpE (defs₀ (F := Ideal)) Variants.none (c : Thread nD τ) none) Set.univ (kk acc) Q)
      -∗ wp frame (wpE (defs₀ (F := Ideal)) Variants.none (c : Thread nD τ) none) Set.univ
        (Scf.Loop.for k0_t3_loop (k0_t3_ok i k0_h3) ⟨⟩ (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 c0_i32_29) >>= kk) Q) :=
  Scf.wp_for_bind Idealize.ShloMosaic.frame _ _ _ _ _ _ _ _ (fun n _ => v3_inv c (arg1 := arg1) (arg6 := arg6) (arg7 := arg7) (arg8 := arg8) (arg10 := arg10) (arg12 := arg12) (arg15 := arg15) (arg16 := arg16) (arg17 := arg17) (arg18 := arg18) (arg20 := arg20) (arg21 := arg21) X1 X17 X12 R7 R16 R15 n)
    (fun k _ => v3_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v10 k0_h3 c0_i32_29 hc0 X1 X17 X12 R7 R16 R15 k)

end Cert.KernelIdeal.Hand

end
-- ==== Proof.KernelIdealBodyVal.lean ====
module

public import proofs.«01_k».proof.Proof.KernelIdealT1
public import proofs.«01_k».proof.Proof.KernelIdealT1V
public import proofs.«01_k».proof.Proof.KernelIdealValB
public import proofs.«01_k».proof.Proof.KernelIdealXt

@[expose] public section

set_option maxRecDepth 16384
set_option maxHeartbeats 4000000

noncomputable section

namespace Cert.KernelIdeal.Hand.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The resource algebra: the pipeline's, with the counters of the kernel's own transfers. -/
local notation "𝕄" => MT nD τ sig Unit (Elt Ideal) ℕ (Pipeline.UD sig nD τ) ℕ

/-! The first transfer's ends, as the program spells them. -/
abbrev slot0 : Memref sig .tc .vmem S1280x256 .fp8e4m3 :=
  ((Memref.whole cc0_scratch2).slice (Rect.unit (s := S2x1280x256) ![0, 0, 0] S1x1280x256.size inb_S2x1280x256_S1x1280x256_0_0_0) (fun _ => rfl)).squeeze S1280x256 squeezes_S1x1280x256_S1280x256
abbrev blk0 : Memref sig .tc .hbm S1280x256 .fp8e4m3 :=
  (Memref.whole main_arg3).slice (Rect.unit (s := S1280x5120) ![0, 0] S1280x256.size inb_S1280x5120_S1280x256_0_0) (fun _ => rfl)
abbrev cell0 : SemLoc sig :=
  SemLoc.dma ((SemArray.slice cc0_scratch10 (Rect.unit (s := S2) ![0] S1.size inb_S2_S1_0)).squeeze S_ squeezes_S1_S_).sem

/-- The two slots of the staging buffer, each at some contents. -/
def slots (c : Dev nD) : sProp 𝕄 := iprop((∃ f, held (F := Ideal) c (slotAt 0) f) ∗ (∃ f, held (F := Ideal) c (slotAt 1) f))

def inv1 (c : Dev nD) (fh : Buf (Elt Ideal) ((c : Thread nD τ).loc main_arg3)) {arg12 : Memref sig .tc .vmem S5120x1280 .bf16} {arg13 : Memref sig .tc .vmem S160x1280 .f32} (X13 : BufTy.Contents (Elt Ideal) arg13.view.ty) (n : ℕ) : sProp 𝕄 :=
  iprop(ring1v c fh n ∗ (∃ W, owes (c : Thread nD τ) 0 W) ∗ (arg13.view.loc (c : Thread nD τ) ↦[arg13.view.set]{fullShare} X13) ∗ (∃ f, ⌜∀ y, (y 0).val < 256 * n → arg12.view.read (Elt Ideal) f y = wT ((Memref.whole main_arg3).view.read (Elt Ideal) fh) (arg13.view.read (Elt Ideal) X13) y⌝ ∗ (arg12.view.loc (c : Thread nD τ) ↦[arg12.view.set]{fullShare} f)))

/-- The loop over the weight's blocks, by its ring. -/
theorem wp_t1 (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt Ideal) ((c : Thread nD τ).loc main_arg3)) (X13 : BufTy.Contents (Elt Ideal) arg13.view.ty)
    {β : Type} (kk : Unit → Prog (TpuEff nD τ sig (Elt Ideal) Λ₀ .tc) β) (Q : β → sProp 𝕄) :
    inv1 c fh (arg12 := arg12) X13 0
    ⊢ iprop((∀ acc : Unit, inv1 c fh (arg12 := arg12) X13 20 -∗ wp frame (wpE (defs₀ (F := Ideal)) Variants.none (c : Thread nD τ) none) Set.univ (kk acc) Q)
      -∗ wp frame (wpE (defs₀ (F := Ideal)) Variants.none (c : Thread nD τ) none) Set.univ
        (Scf.Loop.for k0_t1_loop (k0_t1_ok i k0_h1) ⟨⟩ (k0_t1_body (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1) >>= kk) Q) :=
  Scf.wp_for_bind Idealize.ShloMosaic.frame _ _ _ _ _ _ _ _ (fun n _ => inv1 c fh (arg12 := arg12) X13 n)
    (fun k _ => step1v c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fh X13 k)

/-- The quarter of the scale block that a step's previous tile lies in. -/
def qt (i : grid0.Coords) : Fin 4 := ⟨((i 0).val + 3) % 4, Nat.mod_lt _ (by decide)⟩

theorem zero_pay (r : Fin 1280) (l : Fin 5120) : (k0_pay247 (F := Ideal)) (ix2 r l) = 0 := by
  refine Eq.trans (b := Ideal.ofBits .f32 0x00000000#32) (by pointwise [k0_pay247]) ?_
  norm_num [Ideal.ofBits, Ideal.ieee]

/-- The weight scaled, transposed, from the codes and the scale bytes. -/
def wD (C : S1280x5120.Idx → EReal) (S : S1280x160.Idx → BitVec 8) : S5120x1280.Idx → EReal := fun y =>
  C (ix2 (y 1) (y 0)) * powb (S (ix2 (y 1) (⟨(y 0).val / 32, by have : (y 0).val < 5120 := (y 0).isLt; omega⟩ : Fin 160)))

theorem pay249_at (s : Vec Ideal S1280x160 .i8) (g : Fin 160) (l : Fin 1280) : k0_pay249 (F := Ideal) s (ix2 g l) = powb (s (ix2 l g)) := by
  pointwise [k0_pay249]
  rw [powb]

theorem wT_wD (v4 : View sig .tc .vmem S1280x160 .i8) (X4 : v4.ty.Contents (Elt Ideal)) (v13 : View sig .tc .vmem S160x1280 .f32) (f13 : v13.ty.Contents (Elt Ideal))
    (i4 : ∀ a : Fin 2, (![0, 0] : Fin 2 → ℕ) a + S1280x160.size a ≤ S1280x160.size a) (i13 : ∀ a : Fin 2, (![0, 0] : Fin 2 → ℕ) a + S160x1280.size a ≤ S160x1280.size a)
    (C : S1280x5120.Idx → EReal) (y : S5120x1280.Idx) :
    wT C (v13.read (Elt Ideal) (v13.writes (Elt Ideal) f13 [⟨Rect.unit (s := S160x1280) ![0, 0] S160x1280.size i13,
      k0_pay249 (F := Ideal) (v4.readAt (Elt Ideal) (Rect.unit (s := S1280x160) ![0, 0] S1280x160.size i4).toLoadRect X4)⟩])) y = wD C (v4.read (Elt Ideal) X4) y := by
  unfold wT wD
  refine Ideal.mul_congr rfl ?_
  have hy : (y 0).val < 5120 := (y 0).isLt
  refine (View.read_writes_cons_unit_of_mem v13 _ i13 _ _ _ (ix2 (⟨(y 0).val / 32, by omega⟩ : Fin 160) (y 1)) rfl
    (Fin.forall_fin_two.mpr ⟨by show (y 0).val / 32 = 0 + (y 0).val / 32; omega, by show (y 1).val = 0 + (y 1).val; omega⟩)).trans ?_
  refine (pay249_at _ _ _).trans (congrArg powb ?_)
  rw [View.readAt_unit v4 X4 i4 rfl i4]
  show v4.read (Elt Ideal) X4 _ = _
  congr 1
  funext a
  refine Fin.ext ?_
  match a with
  | ⟨0, _⟩ => show 0 + 1 * (y 1).val = (y 1).val; omega
  | ⟨1, _⟩ => show 0 + 1 * ((y 0).val / 32) = (y 0).val / 32; omega

theorem part44_core (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt Ideal) ((c : Thread nD τ).loc main_arg3)) (fb : Buf (Elt Ideal) (blk0.view.loc (c : Thread nD τ))) (efb : fb = fh)
    (fs0 : Buf (Elt Ideal) (slot0.view.loc (c : Thread nD τ))) (fs1 : Buf (Elt Ideal) ((slotAt 1).view.loc (c : Thread nD τ)))
    (X1 : BufTy.Contents (Elt Ideal) arg1.view.ty) (X4 : BufTy.Contents (Elt Ideal) arg4.view.ty) (W) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ held c slot0 fs0 ∗ held c (slotAt 1) fs1
      ∗ semVal ((c : Thread nD τ), cell0) 0 ∗ semVal ((c : Thread nD τ), cellAt 1) 0 ∗ held c blk0 fb ∗ wcOn c (Finset.univ \ (blkAt 0).view.set) fh
      ∗ owes (c : Thread nD τ) 0 W)
    ⊢ wp frame (wpE (defs₀ (F := Ideal)) Variants.none (c : Thread nD τ) none) Set.univ
        (k0_part44 (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1)
        (fun _ => iprop((arg1.view.loc (c : Thread nD τ) ↦[arg1.view.set]{fullShare} X1) ∗ (arg4.view.loc (c : Thread nD τ) ↦[arg4.view.set]{fullShare} X4) ∗ (∃ f, ⌜∀ y, (arg7.view.read (Elt Ideal) f) y = 0⌝ ∗ (arg7.view.loc (c : Thread nD τ) ↦[arg7.view.set]{fullShare} f)) ∗ (∃ f, ⌜∀ y, (arg8.view.read (Elt Ideal) f) y = tileR code (arg1.view.read (Elt Ideal) X1) y⌝ ∗ (arg8.view.loc (c : Thread nD τ) ↦[arg8.view.set]{fullShare} f)) ∗ (∃ f, ⌜∀ y, (arg10.view.read (Elt Ideal) f) y = tile code (arg1.view.read (Elt Ideal) X1) y⌝ ∗ (arg10.view.loc (c : Thread nD τ) ↦[arg10.view.set]{fullShare} f)) ∗ (∃ f, ⌜∀ y, (arg12.view.read (Elt Ideal) f) y = wD ((Memref.whole main_arg3).view.read (Elt Ideal) fh) (arg4.view.read (Elt Ideal) X4) y⌝ ∗ (arg12.view.loc (c : Thread nD τ) ↦[arg12.view.set]{fullShare} f)) ∗ (∃ f, (arg13.view.loc (c : Thread nD τ) ↦[arg13.view.set]{fullShare} f)) ∗ (∃ f, ⌜∀ y, (arg15.view.read (Elt Ideal) f) y = tileR back (arg1.view.read (Elt Ideal) X1) y⌝ ∗ (arg15.view.loc (c : Thread nD τ) ↦[arg15.view.set]{fullShare} f)) ∗ (∃ f, ⌜∀ y, (arg16.view.read (Elt Ideal) f) y = tile back (arg1.view.read (Elt Ideal) X1) y⌝ ∗ (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots c
      ∗ semVal ((c : Thread nD τ), cellAt 0) 0 ∗ semVal ((c : Thread nD τ), cellAt 1) 0 ∗ wcOn c Finset.univ fh ∗ (∃ W, owes (c : Thread nD τ) 0 W))) := by
  rw [k0_part44_eq_skeleton]; unfold k0_part44_skel
  iintro ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, HS0, HS1, HV0, HV1, HB, HR, HO⟩
  subst efb
  sl_exec
  ihave HX := (wp_t1 c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fb _ _ _) $$ [HV0 HS1 HV1 HR HO H13 H12]
  · unfold inv1 ring1v
    rw [dif_pos (show 0 < 20 by decide)]
    isplitl [HV0 HS1 HV1 HR]
    · iexists _; iexists _
      isplitr; swap
      isplitl [HV0]; · iexact HV0
      isplitl [HS1]; · iexact HS1
      isplitl [HV1]; · iexact HV1
      iexact HR
      · ipureintro
        exact fun y => dma_read (slotAt 0) _ _ y
    isplitl [HO]; · iexists _; iexact HO
    isplitl [H13]; · iexact H13
    iexists _; isplitr; swap; · iexact H12
    ipureintro
    exact fun y hy => absurd hy (Nat.not_lt_zero _)
  iapply HX
  iintro %_ HI
  unfold inv1 ring1v
  rw [dif_neg (show ¬ 20 < 20 by decide)]
  icases HI with ⟨⟨%g0, %g1, HS0, HS1, HV0, HV1, HC⟩, ⟨%W', HO⟩, H13, ⟨%f12', %h12, H12⟩⟩
  sl_exec
  ihave HY := (v2_wp c i arg1 harg1 arg2 harg2 arg3 harg3 arg4 harg4 _ _ arg6 harg6 arg7 harg7 arg8 harg8 arg9 harg9 arg10 harg10 arg11 harg11 arg12 harg12 arg13 harg13 _ _ arg15 harg15 arg16 harg16 arg17 harg17 arg18 harg18 arg19 harg19 arg20 harg20 arg21 harg21 _ v10 k0_h1 X1 _ _) $$ [H1 H10 H16 H8 H15 H20 H21]
  · unfold v2_inv
    isplitl [H1]; · iexact H1
    isplitl [H10]
    · iexists _; isplitr; swap; · iexact H10
      ipureintro
      exact fun y hy => absurd hy (Nat.not_lt_zero _)
    isplitl [H16]
    · iexists _; isplitr; swap; · iexact H16
      ipureintro
      exact fun y hy => absurd hy (Nat.not_lt_zero _)
    isplitl [H8]
    · iexists _; isplitr; swap; · iexact H8
      ipureintro
      exact fun y hy => absurd hy (Nat.not_lt_zero _)
    isplitl [H15]
    · iexists _; isplitr; swap; · iexact H15
      ipureintro
      exact fun y hy => absurd hy (Nat.not_lt_zero _)
    isplitl [H20]; · iexists _; iexact H20
    iexists _; iexact H21
  iapply HY
  iintro %_ HI
  unfold v2_inv
  icases HI with ⟨H1, ⟨%g10, %eg10, H10⟩, ⟨%g16, %eg16, H16⟩, ⟨%g8, %eg8, H8⟩, ⟨%g15, %eg15, H15⟩, ⟨%g20, H20⟩, ⟨%g21, H21⟩⟩
  sl_exec
  sl_step
  unfold slots
  isplitl [H1]; · iexact H1
  isplitl [H4]; · iexact H4
  isplitl [H7]
  · iexists _; isplitr; swap; · iexact H7
    ipureintro
    intro y
    refine (View.read_writes_cons_unit_of_mem _ _ _ _ _ y (ix2 (y 0) (y 1)) rfl
      (Fin.forall_fin_two.mpr ⟨by show (y 0).val = 0 + (y 0).val; omega, by show (y 1).val = 0 + (y 1).val; omega⟩)).trans ?_
    exact zero_pay (y 0) (y 1)
  isplitl [H8]
  · iexists _; isplitr; swap; · iexact H8
    ipureintro
    exact fun y => eg8 y (y 1).isLt
  isplitl [H10]
  · iexists _; isplitr; swap; · iexact H10
    ipureintro
    exact fun y => eg10 y (y 1).isLt
  isplitl [H12]
  · iexists _; isplitr; swap; · iexact H12
    ipureintro
    intro y
    refine (h12 y (y 0).isLt).trans ?_
    exact wT_wD arg4.view X4 arg13.view _ _ _ _ y
  isplitl [H13]; · iexists _; iexact H13
  isplitl [H15]
  · iexists _; isplitr; swap; · iexact H15
    ipureintro
    exact fun y => eg15 y (y 1).isLt
  isplitl [H16]
  · iexists _; isplitr; swap; · iexact H16
    ipureintro
    exact fun y => eg16 y (y 1).isLt
  isplitl [H20]; · iexists _; iexact H20
  isplitl [H21]; · iexists _; iexact H21
  isplitl [HS0 HS1]
  · isplitl [HS0]; · iexists _; iexact HS0
    iexists _; iexact HS1
  isplitl [HV0]; · iexact HV0
  isplitl [HV1]; · iexact HV1
  isplitl [HC]; · iexact HC
  iexists _; iexact HO

theorem part44_run (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (v10 : BitVec 32) (k0_h1 : k0_cond1 i = 1#1)
    (fh : Buf (Elt Ideal) ((c : Thread nD τ).loc main_arg3)) (X1 : BufTy.Contents (Elt Ideal) arg1.view.ty) (X4 : BufTy.Contents (Elt Ideal) arg4.view.ty) (W) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots c
      ∗ semVal ((c : Thread nD τ), cellAt 0) 0 ∗ semVal ((c : Thread nD τ), cellAt 1) 0 ∗ wcOn c Finset.univ fh ∗ owes (c : Thread nD τ) 0 W)
    ⊢ wp frame (wpE (defs₀ (F := Ideal)) Variants.none (c : Thread nD τ) none) Set.univ
        (k0_part44 (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10 v10 k0_h1)
        (fun _ => iprop((arg1.view.loc (c : Thread nD τ) ↦[arg1.view.set]{fullShare} X1) ∗ (arg4.view.loc (c : Thread nD τ) ↦[arg4.view.set]{fullShare} X4) ∗ (∃ f, ⌜∀ y, (arg7.view.read (Elt Ideal) f) y = 0⌝ ∗ (arg7.view.loc (c : Thread nD τ) ↦[arg7.view.set]{fullShare} f)) ∗ (∃ f, ⌜∀ y, (arg8.view.read (Elt Ideal) f) y = tileR code (arg1.view.read (Elt Ideal) X1) y⌝ ∗ (arg8.view.loc (c : Thread nD τ) ↦[arg8.view.set]{fullShare} f)) ∗ (∃ f, ⌜∀ y, (arg10.view.read (Elt Ideal) f) y = tile code (arg1.view.read (Elt Ideal) X1) y⌝ ∗ (arg10.view.loc (c : Thread nD τ) ↦[arg10.view.set]{fullShare} f)) ∗ (∃ f, ⌜∀ y, (arg12.view.read (Elt Ideal) f) y = wD ((Memref.whole main_arg3).view.read (Elt Ideal) fh) (arg4.view.read (Elt Ideal) X4) y⌝ ∗ (arg12.view.loc (c : Thread nD τ) ↦[arg12.view.set]{fullShare} f)) ∗ (∃ f, (arg13.view.loc (c : Thread nD τ) ↦[arg13.view.set]{fullShare} f)) ∗ (∃ f, ⌜∀ y, (arg15.view.read (Elt Ideal) f) y = tileR back (arg1.view.read (Elt Ideal) X1) y⌝ ∗ (arg15.view.loc (c : Thread nD τ) ↦[arg15.view.set]{fullShare} f)) ∗ (∃ f, ⌜∀ y, (arg16.view.read (Elt Ideal) f) y = tile back (arg1.view.read (Elt Ideal) X1) y⌝ ∗ (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ slots c
      ∗ semVal ((c : Thread nD τ), cellAt 0) 0 ∗ semVal ((c : Thread nD τ), cellAt 1) 0 ∗ wcOn c Finset.univ fh ∗ (∃ W, owes (c : Thread nD τ) 0 W))) := by
  iintro ⟨H1, H4, H7, H8, H10, H12, H13, H15, H16, H20, H21, HS, HV0, HV1, HC, HO⟩
  unfold slots
  icases HS with ⟨⟨%fs0, HS0⟩, ⟨%fs1, HS1⟩⟩
  ihave HC' := (wc_split c fh 0) $$ HC
  icases HC' with ⟨HB, HR⟩
  iapply (part44_core c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  v10 k0_h1 fh fh rfl fs0 fs1 X1 X4 W)
  isplitl [H1]; · iexact H1
  isplitl [H4]; · iexact H4
  isplitl [H7]; · iexact H7
  isplitl [H8]; · iexact H8
  isplitl [H10]; · iexact H10
  isplitl [H12]; · iexact H12
  isplitl [H13]; · iexact H13
  isplitl [H15]; · iexact H15
  isplitl [H16]; · iexact H16
  isplitl [H20]; · iexact H20
  isplitl [H21]; · iexact H21
  isplitl [HS0]; · iexact HS0
  isplitl [HS1]; · iexact HS1
  isplitl [HV0]; · iexact HV0
  isplitl [HV1]; · iexact HV1
  isplitl [HB]; · iexact HB
  isplitl [HR]; · iexact HR
  iexact HO

theorem cond_or (i : grid0.Coords) : (k0_cond1 i = 1#1 ∧ ¬ k0_cond3 i = 1#1) ∨ (¬ k0_cond1 i = 1#1 ∧ k0_cond3 i = 1#1) := by
  unfold k0_cond1 k0_cond3
  generalize i 0 = n
  revert n; decide +kernel

theorem body_first (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (h1 : k0_cond1 i = 1#1) (h3 : ¬ k0_cond3 i = 1#1)
    (fh : Buf (Elt Ideal) ((c : Thread nD τ).loc main_arg3)) (X1 : BufTy.Contents (Elt Ideal) arg1.view.ty) (X4 : BufTy.Contents (Elt Ideal) arg4.view.ty) :
    iprop((arg1.view.loc (c : Thread nD τ) ↦[arg1.view.set]{fullShare} X1) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg9.view.loc (c : Thread nD τ) ↦[arg9.view.set]{fullShare} f)) ∗ (∃ f, (arg11.view.loc (c : Thread nD τ) ↦[arg11.view.set]{fullShare} f)) ∗ slots c
      ∗ semVal ((c : Thread nD τ), cellAt 0) 0 ∗ semVal ((c : Thread nD τ), cellAt 1) 0 ∗ wcOn c Finset.univ fh ∗ (∃ W, owes (c : Thread nD τ) 0 W))
    ⊢ wp frame (wpE (defs₀ (F := Ideal)) Variants.none (c : Thread nD τ) none) Set.univ
        (cc0_mx_backward (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10)
        (fun _ => iprop((arg1.view.loc (c : Thread nD τ) ↦[arg1.view.set]{fullShare} X1) ∗ (arg4.view.loc (c : Thread nD τ) ↦[arg4.view.set]{fullShare} X4) ∗ (∃ f, ⌜∀ y, (arg7.view.read (Elt Ideal) f) y = 0⌝ ∗ (arg7.view.loc (c : Thread nD τ) ↦[arg7.view.set]{fullShare} f)) ∗ (∃ f, ⌜∀ y, (arg8.view.read (Elt Ideal) f) y = tileR code (arg1.view.read (Elt Ideal) X1) y⌝ ∗ (arg8.view.loc (c : Thread nD τ) ↦[arg8.view.set]{fullShare} f)) ∗ (∃ f, ⌜∀ y, (arg10.view.read (Elt Ideal) f) y = tile code (arg1.view.read (Elt Ideal) X1) y⌝ ∗ (arg10.view.loc (c : Thread nD τ) ↦[arg10.view.set]{fullShare} f)) ∗ (∃ f, ⌜∀ y, (arg12.view.read (Elt Ideal) f) y = wD ((Memref.whole main_arg3).view.read (Elt Ideal) fh) (arg4.view.read (Elt Ideal) X4) y⌝ ∗ (arg12.view.loc (c : Thread nD τ) ↦[arg12.view.set]{fullShare} f)) ∗ (∃ f, (arg13.view.loc (c : Thread nD τ) ↦[arg13.view.set]{fullShare} f)) ∗ (∃ f, ⌜∀ y, (arg15.view.read (Elt Ideal) f) y = tileR back (arg1.view.read (Elt Ideal) X1) y⌝ ∗ (arg15.view.loc (c : Thread nD τ) ↦[arg15.view.set]{fullShare} f)) ∗ (∃ f, ⌜∀ y, (arg16.view.read (Elt Ideal) f) y = tile back (arg1.view.read (Elt Ideal) X1) y⌝ ∗ (arg16.view.loc (c : Thread nD τ) ↦[arg16.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg9.view.loc (c : Thread nD τ) ↦[arg9.view.set]{fullShare} f)) ∗ (∃ f, (arg11.view.loc (c : Thread nD τ) ↦[arg11.view.set]{fullShare} f)) ∗ slots c
      ∗ semVal ((c : Thread nD τ), cellAt 0) 0 ∗ semVal ((c : Thread nD τ), cellAt 1) 0 ∗ wcOn c Finset.univ fh ∗ (∃ W, owes (c : Thread nD τ) 0 W))) := by
  rw [cc0_mx_backward_eq_skeleton]; unfold cc0_mx_backward_skel
  rw [dif_pos h1, dif_neg h3]
  iintro ⟨H1, H4, ⟨%f7, H7⟩, ⟨%f8, H8⟩, ⟨%f10, H10⟩, ⟨%f12, H12⟩, ⟨%f13, H13⟩, ⟨%f15, H15⟩, ⟨%f16, H16⟩, ⟨%f20, H20⟩, ⟨%f21, H21⟩, ⟨%f9, H9⟩, ⟨%f11, H11⟩, HS, HV0, HV1, HC, ⟨%W, HO⟩⟩
  rw [wp_bind]
  iapply (wp_wand_r Idealize.ShloMosaic.frame (wpE (defs₀ (F := Ideal)) Variants.none (c : Thread nD τ) none) Set.univ)
  isplitl [H1 H4 H7 H8 H10 H12 H13 H15 H16 H20 H21 HS HV0 HV1 HC HO]
  · iapply (part44_run c i arg1 harg1 arg2 harg2 arg3 harg3 arg4 harg4  arg6 harg6 arg7 harg7 arg8 harg8 arg9 harg9 arg10 harg10 arg11 harg11 arg12 harg12 arg13 harg13  arg15 harg15 arg16 harg16 arg17 harg17 arg18 harg18 arg19 harg19 arg20 harg20 arg21 harg21  _ h1 fh X1 X4 W)
    isplitl [H1]; · iexact H1
    isplitl [H4]; · iexact H4
    isplitl [H7]; · iexists _; iexact H7
    isplitl [H8]; · iexists _; iexact H8
    isplitl [H10]; · iexists _; iexact H10
    isplitl [H12]; · iexists _; iexact H12
    isplitl [H13]; · iexists _; iexact H13
    isplitl [H15]; · iexists _; iexact H15
    isplitl [H16]; · iexists _; iexact H16
    isplitl [H20]; · iexists _; iexact H20
    isplitl [H21]; · iexists _; iexact H21
    isplitl [HS]; · iexact HS
    isplitl [HV0]; · iexact HV0
    isplitl [HV1]; · iexact HV1
    isplitl [HC]; · iexact HC
    iexact HO
  iintro %v ⟨H1, H4, ⟨%f7, %e7, H7⟩, ⟨%f8, %e8, H8⟩, ⟨%f10, %e10, H10⟩, ⟨%f12, %e12, H12⟩, ⟨%f13, H13⟩, ⟨%f15, %e15, H15⟩, ⟨%f16, %e16, H16⟩, ⟨%f20, H20⟩, ⟨%f21, H21⟩, HS, HV0, HV1, HC, HO⟩
  sl_exec
  sl_step
  isplitl [H1]; · iexact H1
  isplitl [H4]; · iexact H4
  isplitl [H7]
  · iexists _; isplitr; swap; · iexact H7
    ipureintro
    exact e7
  isplitl [H8]
  · iexists _; isplitr; swap; · iexact H8
    ipureintro
    exact e8
  isplitl [H10]
  · iexists _; isplitr; swap; · iexact H10
    ipureintro
    exact e10
  isplitl [H12]
  · iexists _; isplitr; swap; · iexact H12
    ipureintro
    exact e12
  isplitl [H13]; · iexists _; iexact H13
  isplitl [H15]
  · iexists _; isplitr; swap; · iexact H15
    ipureintro
    exact e15
  isplitl [H16]
  · iexists _; isplitr; swap; · iexact H16
    ipureintro
    exact e16
  isplitl [H20]; · iexists _; iexact H20
  isplitl [H21]; · iexists _; iexact H21
  isplitl [H9]; · iexists _; iexact H9
  isplitl [H11]; · iexists _; iexact H11
  isplitl [HS]; · iexact HS
  isplitl [HV0]; · iexact HV0
  isplitl [HV1]; · iexact HV1
  isplitl [HC]; · iexact HC
  iexact HO

theorem off21_eq (i : grid0.Coords) : k0_off21 i = ![8 * (((i 0).val + 3) % 4), 0] := by
  unfold k0_off21
  generalize i 0 = n
  revert n; decide +kernel
instance closed21 (i : grid0.Coords) : ClosedOff (k0_off21 i) := ⟨![8 * (((i 0).val + 3) % 4), 0], off21_eq i⟩

theorem body_later (c : Dev nD) (i : grid0.Coords) (arg1 : Memref sig .tc .vmem S256x5120 .bf16) (harg1 : arg1.IsWhole) (arg2 : Memref sig .tc .vmem S256x1280 .fp8e4m3) (harg2 : arg2.IsWhole) (arg3 : Memref sig .tc .vmem S32x1280 .i8) (harg3 : arg3.IsWhole) (arg4 : Memref sig .tc .vmem S1280x160 .i8) (harg4 : arg4.IsWhole) (arg6 : Memref sig .tc .vmem S256x1280 .bf16) (harg6 : arg6.IsWhole) (arg7 : Memref sig .tc .vmem S1280x5120 .f32) (harg7 : arg7.IsWhole) (arg8 : Memref sig .tc .vmem S256x5120 .fp8e5m2) (harg8 : arg8.IsWhole) (arg9 : Memref sig .tc .vmem S256x160 .i8) (harg9 : arg9.IsWhole) (arg10 : Memref sig .tc .vmem S256x5120 .fp8e5m2) (harg10 : arg10.IsWhole) (arg11 : Memref sig .tc .vmem S32x5120 .i8) (harg11 : arg11.IsWhole) (arg12 : Memref sig .tc .vmem S5120x1280 .bf16) (harg12 : arg12.IsWhole) (arg13 : Memref sig .tc .vmem S160x1280 .f32) (harg13 : arg13.IsWhole) (arg15 : Memref sig .tc .vmem S256x5120 .bf16) (harg15 : arg15.IsWhole) (arg16 : Memref sig .tc .vmem S256x5120 .bf16) (harg16 : arg16.IsWhole) (arg17 : Memref sig .tc .vmem S1280x256 .bf16) (harg17 : arg17.IsWhole) (arg18 : Memref sig .tc .vmem S256x1280 .f32) (harg18 : arg18.IsWhole) (arg19 : Memref sig .tc .vmem S32x1280 .f32) (harg19 : arg19.IsWhole) (arg20 : Memref sig .tc .vmem S160x1x256 .i32) (harg20 : arg20.IsWhole) (arg21 : Memref sig .tc .vmem S4x8x5120 .i32) (harg21 : arg21.IsWhole) (h1 : ¬ k0_cond1 i = 1#1) (h3 : k0_cond3 i = 1#1)
    (X1 : BufTy.Contents (Elt Ideal) arg1.view.ty) (X2 : BufTy.Contents (Elt Ideal) arg2.view.ty) (X3 : BufTy.Contents (Elt Ideal) arg3.view.ty) (X7 : BufTy.Contents (Elt Ideal) arg7.view.ty) (X12 : BufTy.Contents (Elt Ideal) arg12.view.ty) (X15 : BufTy.Contents (Elt Ideal) arg15.view.ty) (X16 : BufTy.Contents (Elt Ideal) arg16.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg6.view.loc (c : Thread nD τ) ↦[arg6.view.set]{fullShare} f)) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f))) : sProp 𝕄)
    ⊢ wp frame (wpE (defs₀ (F := Ideal)) Variants.none (c : Thread nD τ) none) Set.univ
        (cc0_mx_backward (F := Ideal) i arg1 harg1 arg2 harg2 arg3 harg3 arg4 harg4 (Memref.whole main_arg3) (Memref.isWhole_whole _) arg6 harg6 arg7 harg7 arg8 harg8 arg9 harg9 arg10 harg10 arg11 harg11 arg12 harg12 arg13 harg13 (Memref.whole cc0_scratch2) (Memref.isWhole_whole _) arg15 harg15 arg16 harg16 arg17 harg17 arg18 harg18 arg19 harg19 arg20 harg20 arg21 harg21 cc0_scratch10)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, ⌜∀ y, (arg6.view.read (Elt Ideal) f) y = chunks (arg15.view.read (Elt Ideal) X15) (arg12.view.read (Elt Ideal) X12) 4 y⌝ ∗ (arg6.view.loc (c : Thread nD τ) ↦[arg6.view.set]{fullShare} f)) ∗ (∃ f, ⌜∀ y, (arg7.view.read (Elt Ideal) f) y = (arg7.view.read (Elt Ideal) X7) y + outer (xT (qt i) (arg2.view.read (Elt Ideal) X2) (arg3.view.read (Elt Ideal) X3)) (arg16.view.read (Elt Ideal) X16) y⌝ ∗ (arg7.view.loc (c : Thread nD τ) ↦[arg7.view.set]{fullShare} f)) ∗ (∃ f, ⌜∀ y, (arg8.view.read (Elt Ideal) f) y = tileR code (arg1.view.read (Elt Ideal) X1) y⌝ ∗ (arg8.view.loc (c : Thread nD τ) ↦[arg8.view.set]{fullShare} f)) ∗ (∃ f, (arg9.view.loc (c : Thread nD τ) ↦[arg9.view.set]{fullShare} f)) ∗ (∃ f, ⌜∀ y, (arg10.view.read (Elt Ideal) f) y = tile code (arg1.view.read (Elt Ideal) X1) y⌝ ∗ (arg10.view.loc (c : Thread nD τ) ↦[arg10.view.set]{fullShare} f)) ∗ (∃ f, (arg11.view.loc (c : Thread nD τ) ↦[arg11.view.set]{fullShare} f)) ∗ (arg12.view.loc (c : Thread nD τ) ↦[arg12.view.set]{fullShare} X12) ∗ (∃ f, ⌜∀ y, (arg15.view.read (Elt Ideal) f) y = tileR back (arg1.view.read (Elt Ideal) X1) y⌝ ∗ (arg15.view.loc (c : Thread nD τ) ↦[arg15.view.set]{fullShare} f)) ∗ (∃ f, ⌜∀ y, (arg16.view.read (Elt Ideal) f) y = tile back (arg1.view.read (Elt Ideal) X1) y⌝ ∗ (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)))) := by
  rw [cc0_mx_backward_eq_skeleton]; unfold cc0_mx_backward_skel
  rw [dif_neg h1, dif_pos h3]
  iintro ⟨H1, H2, H3, ⟨%f6, H6⟩, H7, ⟨%f8, H8⟩, ⟨%f9, H9⟩, ⟨%f10, H10⟩, ⟨%f11, H11⟩, H12, H15, H16, ⟨%f17, H17⟩, ⟨%f18, H18⟩, ⟨%f19, H19⟩, ⟨%f20, H20⟩, ⟨%f21, H21⟩⟩
  sl_exec
  ihave HX := (v3_wp c i arg1 harg1 arg2 harg2 arg3 harg3 arg4 harg4 _ _ arg6 harg6 arg7 harg7 arg8 harg8 arg9 harg9 arg10 harg10 arg11 harg11 arg12 harg12 arg13 harg13 _ _ arg15 harg15 arg16 harg16 arg17 harg17 arg18 harg18 arg19 harg19 arg20 harg20 arg21 harg21 _ _ h3 _ rfl X1 _ X12 (arg7.view.read (Elt Ideal) X7) (arg16.view.read (Elt Ideal) X16) (arg15.view.read (Elt Ideal) X15) _ _) $$ [H1 H17 H7 H10 H16 H6 H8 H12 H15 H18 H20 H21]
  · unfold v3_inv
    isplitl [H1]; · iexact H1
    isplitl [H17]; · iexact H17
    isplitl [H7]
    · iexists _; isplitr; swap; · iexact H7
      ipureintro
      exact fun y => (if_neg (by omega)).symm
    isplitl [H10]
    · iexists _; isplitr; swap; · iexact H10
      ipureintro
      exact fun y hy => absurd hy (by omega)
    isplitl [H16]
    · iexists _; isplitr; swap; · iexact H16
      ipureintro
      exact fun y => (if_neg (by omega)).symm
    isplitl [H6]
    · iexists _; isplitr; swap; · iexact H6
      ipureintro
      exact fun h => absurd h (by decide)
    isplitl [H8]
    · iexists _; isplitr; swap; · iexact H8
      ipureintro
      exact fun y hy => absurd hy (by omega)
    isplitl [H12]; · iexact H12
    isplitl [H15]
    · iexists _; isplitr; swap; · iexact H15
      ipureintro
      exact fun y => (if_neg (by omega)).symm
    isplitl [H18]
    · iexists _; isplitr; swap; · iexact H18
      ipureintro
      exact fun h => absurd h (by decide)
    isplitl [H20]; · iexists _; iexact H20
    iexists _; iexact H21
  iapply HX
  iintro %_ HI
  unfold v3_inv
  icases HI with ⟨H1, H17, ⟨%g7, %eg7, H7⟩, ⟨%g10, %eg10, H10⟩, ⟨%g16, %eg16, H16⟩, ⟨%g6, %eg6, H6⟩, ⟨%g8, %eg8, H8⟩, H12, ⟨%g15, %eg15, H15⟩, ⟨%g18, %eg18, H18⟩, ⟨%g20, H20⟩, ⟨%g21, H21⟩⟩
  sl_exec
  sl_step
  isplitl [H1]; · iexact H1
  isplitl [H2]; · iexact H2
  isplitl [H3]; · iexact H3
  isplitl [H6]
  · iexists _; isplitr; swap; · iexact H6
    ipureintro
    exact eg6 rfl
  isplitl [H7]
  · iexists _; isplitr; swap; · iexact H7
    ipureintro
    intro y
    refine (eg7 y).trans ((if_pos (y 1).isLt).trans ?_)
    exact congrArg (fun z => _ + outer z _ y) (funext fun z => xt_read arg2.view X2 arg3.view X3 arg19.view arg17.view (k0_off21 i) (k0_off21_inb i h3) _ _ _ _ _ _ _ _ _ _ (qt i) (off21_eq i) z)
  isplitl [H8]
  · iexists _; isplitr; swap; · iexact H8
    ipureintro
    exact fun y => eg8 y (y 1).isLt
  isplitl [H9]; · iexists _; iexact H9
  isplitl [H10]
  · iexists _; isplitr; swap; · iexact H10
    ipureintro
    exact fun y => eg10 y (y 1).isLt
  isplitl [H11]; · iexists _; iexact H11
  isplitl [H12]; · iexact H12
  isplitl [H15]
  · iexists _; isplitr; swap; · iexact H15
    ipureintro
    exact fun y => (eg15 y).trans (if_pos (y 1).isLt)
  isplitl [H16]
  · iexists _; isplitr; swap; · iexact H16
    ipureintro
    exact fun y => (eg16 y).trans (if_pos (y 1).isLt)
  isplitl [H17]; · iexists _; iexact H17
  isplitl [H18]; · iexists _; iexact H18
  isplitl [H19]; · iexists _; iexact H19
  isplitl [H20]; · iexists _; iexact H20
  iexists _; iexact H21

end Cert.KernelIdeal.Hand.Val

end
-- ==== Proof.KernelIdealHandVal.lean ====
module

public import proofs.«01_k».proof.Proof.KernelIdealBodyVal
public import proofs.«01_k».proof.Proof.Gen.KernelIdeal.Frame
public import Idealize.ShloMosaic.Lib.Pipeline.FrameSuffixR
public import Idealize.ShloMosaic.Adequacy
public import Idealize.ShloMosaic.Init

@[expose] public section

set_option maxRecDepth 16384
set_option maxHeartbeats 4000000

noncomputable section

namespace Cert.KernelIdeal.Hand.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The resource algebra: the pipeline's, with the counters of the kernel's own transfers. -/
local notation "𝕄" => MT nD τ sig Unit (Elt Ideal) ℕ (Pipeline.UD sig nD τ) ℕ

variable (m : (ℓ : Loc nD τ sig) → Buf (Elt Ideal) ℓ) (ρ : Dev nD → PrngReg)

/-- The two semaphores of the kernel's own transfers. -/
abbrev osem0 : Fin 2 → SemLoc sig := fun j => (![SemLoc.dma 18, SemLoc.dma 19] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt Ideal) (τ := τ) osem0 c : sProp 𝕄)
      = iprop(semVal ((c : Thread nD τ), SemLoc.dma 18) 0 ∗ semVal ((c : Thread nD τ), SemLoc.dma 19) 0) := by
  rw [Pipeline.ownSems0_eq_of_list c osem0 [0, 1] (by decide) (by decide)]; rfl
/-- The weight codes, read where they lie. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c : Thread nD τ).loc main_arg3 ↦{fullShare} V m c main_arg3) := by
  rw [BI.bigSep_eq_bigSepL_of_eq [main_arg3] (by decide) (by decide)]; rfl

theorem PhiD0_eq (c : Dev nD) :
    (Pipeline.ΦD osem0 spec0 H0 (V m) c : sProp 𝕄)
      = iprop(iprop((∃ d, owns (c : Thread nD τ) (Memref.whole cc0_scratch0) fullShare d) ∗ (∃ d, owns (c : Thread nD τ) (Memref.whole cc0_scratch1) fullShare d) ∗ (∃ f : Buf (Elt Ideal) ((c : Thread nD τ).loc cc0_scratch2), (c : Thread nD τ).loc cc0_scratch2 ↦{fullShare} f) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d))
          ∗ (∃ r, prngReg c r)
          ∗ iprop(semVal ((c : Thread nD τ), SemLoc.dma 18) 0 ∗ semVal ((c : Thread nD τ), SemLoc.dma 19) 0)
          ∗ iprop((c : Thread nD τ).loc main_arg3 ↦{fullShare} V m c main_arg3)) := by
  rw [Pipeline.ΦD_eq, scopedRest0_eq, ownSems00_eq, hbmPts0_eq]
  simp only [owns_whole]; try rfl

/-- The staging buffer is its two slots and what lies beside them. -/
theorem slots_open (c : Dev nD) :
    iprop(∃ f : Buf (Elt Ideal) ((c : Thread nD τ).loc cc0_scratch2), (c : Thread nD τ).loc cc0_scratch2 ↦{fullShare} f)
    ⊢ (iprop(slots c ∗ (∃ f : Buf (Elt Ideal) ((c : Thread nD τ).loc cc0_scratch2), (c : Thread nD τ).loc cc0_scratch2 ↦[(Finset.univ \ (slotAt 0).view.set) \ (slotAt 1).view.set]{fullShare} f)) : sProp 𝕄) := by
  iintro ⟨%f, H⟩
  ihave H' := ((pointsTo_split_subset (I := (slotAt 0).view.set) (Finset.subset_univ _)).1) $$ H
  icases H' with ⟨H0, HR⟩
  ihave H' := ((pointsTo_split_subset (ℓ := (c : Thread nD τ).loc cc0_scratch2) (q := fullShare) (f := f) (I := (slotAt 1).view.set) (S := Finset.univ \ (slotAt 0).view.set) (Finset.subset_sdiff.mpr ⟨Finset.subset_univ _, slot_disj.symm⟩)).1) $$ HR
  icases H' with ⟨H1, HR⟩
  unfold slots
  isplitl [H0 H1]
  · isplitl [H0]; · iexists _; iexact H0
    iexists _; iexact H1
  iexists _; iexact HR
theorem slots_close (c : Dev nD) :
    (iprop(slots c ∗ (∃ f : Buf (Elt Ideal) ((c : Thread nD τ).loc cc0_scratch2), (c : Thread nD τ).loc cc0_scratch2 ↦[(Finset.univ \ (slotAt 0).view.set) \ (slotAt 1).view.set]{fullShare} f)) : sProp 𝕄)
    ⊢ iprop(∃ f : Buf (Elt Ideal) ((c : Thread nD τ).loc cc0_scratch2), (c : Thread nD τ).loc cc0_scratch2 ↦{fullShare} f) := by
  unfold slots
  iintro ⟨⟨⟨%f0, H0⟩, ⟨%f1, H1⟩⟩, ⟨%f, HR⟩⟩
  have e1 : (slotAt 1).view.set ∪ ((Finset.univ \ (slotAt 0).view.set) \ (slotAt 1).view.set) = Finset.univ \ (slotAt 0).view.set :=
    Finset.union_sdiff_of_subset (Finset.subset_sdiff.mpr ⟨Finset.subset_univ _, slot_disj.symm⟩)
  have e0 : (slotAt 0).view.set ∪ (Finset.univ \ (slotAt 0).view.set) = Finset.univ := Finset.union_sdiff_of_subset (Finset.subset_univ _)
  ihave HR := (pointsTo_join (f := f1) (Finset.disjoint_sdiff (s := (slotAt 1).view.set) (t := Finset.univ \ (slotAt 0).view.set))) $$ [H1 HR]
  · isplitl [H1]; · iexact H1
    iexact HR
  rw [e1]
  ihave HR := (pointsTo_join (f := f0) (Finset.disjoint_sdiff (s := (slotAt 0).view.set) (t := Finset.univ))) $$ [H0 HR]
  · isplitl [H0]; · iexact H0
    iexact HR
  rw [e0]
  iexists _; iexact HR

theorem hmainD (𝒱₀ : Variants) : Pipeline.HMain (Ix := Unit) (Name := ℕ) (U := Pipeline.UD sig nD τ) (Lvl := ℕ) cfgs 0 defs₀ 𝒱₀ m (main (F := Ideal)) (V m) :=
  Pipeline.hmain_prefix cfgs 0 defs₀ 𝒱₀ m main hostOps0 hostOps0_sub hostOps0_fresh main_chain

/-! An input's buffer holds its block. -/
theorem before0_0 {c : Dev nD} (dat : Dat τ (Elt Ideal) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1 {c : Dev nD} (dat : Dat τ (Elt Ideal) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2 {c : Dev nD} (dat : Dat τ (Elt Ideal) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3 {c : Dev nD} (dat : Dat τ (Elt Ideal) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The blocks of a point: the gradient's, the input codes' and their scales'. -/
def dyB (c : Dev nD) (t : Fin cfg0.N) : S256x5120.Idx → EReal := iblk m c 0 t
def xB (c : Dev nD) (t : Fin cfg0.N) : S256x1280.Idx → EReal := iblk m c 1 t
def sB (c : Dev nD) (t : Fin cfg0.N) : S32x1280.Idx → BitVec 8 := iblk m c 2 t

/-- What a later point adds to the weight gradient: the outer product of the point's input tile with the gradient
    tile of the point before. -/
def part (c : Dev nD) (n : ℕ) (h : n + 1 < cfg0.N) : S1280x5120.Idx → EReal :=
  outer (xT (qt (grid0.coords ⟨n + 1, h⟩)) (xB m c ⟨n + 1, h⟩) (sB m c ⟨n + 1, h⟩)) (tile back (dyB m c ⟨n, Nat.lt_of_succ_lt h⟩))

/-- The weight gradient after point `n`. -/
def dwAt (c : Dev nD) : ℕ → S1280x5120.Idx → EReal
  | 0 => fun _ => 0
  | n + 1 => fun y => dwAt c n y + if h : n + 1 < cfg0.N then part m c n h y else 0

/-- What the scratch holds before point `n`: the quantised gradient tile of the point before. -/
def prevIs (c : Dev nD) (n : ℕ) (d : S256x5120.Idx → EReal) : Prop :=
  ∀ t : Fin cfg0.N, t.val + 1 = n → d = tile back (dyB m c t)

/-- What the other scratch holds before point `n`: the tile of the point before, quantised along its rows. -/
def rowIs (c : Dev nD) (n : ℕ) (d : S256x5120.Idx → EReal) : Prop :=
  ∀ t : Fin cfg0.N, t.val + 1 = n → d = tileR back (dyB m c t)

/-- The weight scaled, transposed, from the arrays as the call finds them. -/
def wAll (c : Dev nD) : S5120x1280.Idx → EReal :=
  wD ((Memref.whole main_arg3).view.read (Elt Ideal) (V m c main_arg3)) (iblk m c 3 (⟨0, by decide⟩ : Fin cfg0.N))

/-- After the first point the scaled weight lies ready. -/
def wIs (c : Dev nD) (n : ℕ) (d : S5120x1280.Idx → EReal) : Prop := n ≠ 0 → d = wAll m c

/-- The input gradient's tile at a point: from the gradient tile of the point before (the first point leaves none). -/
def dxAt (c : Dev nD) (t : Fin cfg0.N) : S256x1280.Idx → EReal :=
  chunks (tileR back (dyB m c ⟨t.val - 1, Nat.lt_of_le_of_lt (Nat.sub_le _ _) t.isLt⟩)) (wAll m c) 4

/-- What lies outside the windows before point `n`: as at the start, but for the quantised tiles and the weight. -/
def Phi (c : Dev nD) (n : ℕ) : sProp 𝕄 :=
  iprop(iprop((∃ d, ⌜wIs m c n d⌝ ∗ owns (c : Thread nD τ) (Memref.whole cc0_scratch0) fullShare d) ∗ (∃ d, owns (c : Thread nD τ) (Memref.whole cc0_scratch1) fullShare d) ∗ (∃ f : Buf (Elt Ideal) ((c : Thread nD τ).loc cc0_scratch2), (c : Thread nD τ).loc cc0_scratch2 ↦{fullShare} f) ∗ (∃ d, ⌜rowIs m c n d⌝ ∗ owns (c : Thread nD τ) (Memref.whole cc0_scratch3) fullShare d) ∗ (∃ d, ⌜prevIs m c n d⌝ ∗ owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d))
          ∗ (∃ r, prngReg c r)
          ∗ iprop(semVal ((c : Thread nD τ), SemLoc.dma 18) 0 ∗ semVal ((c : Thread nD τ), SemLoc.dma 19) 0)
          ∗ iprop((c : Thread nD τ).loc main_arg3 ↦{fullShare} V m c main_arg3))

theorem phi_in (c : Dev nD) (n : ℕ) (h : ∀ d, prevIs m c n d) (h15 : ∀ d, rowIs m c n d) (h12 : ∀ d, wIs m c n d) : (Pipeline.ΦD osem0 spec0 H0 (V m) c : sProp 𝕄) ⊢ Phi m c n := by
  rw [PhiD0_eq]; unfold Phi
  iintro ⟨⟨⟨%d12, A12⟩, A13, AB, ⟨%d15, A15⟩, ⟨%d, A16⟩, AR⟩, Hg, HV, HC⟩
  isplitl [A12 A13 AB A15 A16 AR]
  · isplitl [A12]
    · iexists d12; isplitr; · ipureintro; exact h12 d12
      iexact A12
    isplitl [A13]; · iexact A13
    isplitl [AB]; · iexact AB
    isplitl [A15]
    · iexists d15; isplitr; · ipureintro; exact h15 d15
      iexact A15
    isplitl [A16]
    · iexists d; isplitr; · ipureintro; exact h d
      iexact A16
    iexact AR
  isplitl [Hg]; · iexact Hg
  isplitl [HV]; · iexact HV
  iexact HC

theorem phi_out (c : Dev nD) (n : ℕ) : Phi m c n ⊢ (Pipeline.ΦD osem0 spec0 H0 (V m) c : sProp 𝕄) := by
  rw [PhiD0_eq]; unfold Phi
  iintro ⟨⟨⟨%d12, -, A12⟩, A13, AB, ⟨%d15, -, A15⟩, ⟨%d, -, A16⟩, AR⟩, Hg, HV, HC⟩
  isplitl [A12 A13 AB A15 A16 AR]
  · isplitl [A12]
    · iexists d12; iexact A12
    isplitl [A13]; · iexact A13
    isplitl [AB]; · iexact AB
    isplitl [A15]
    · iexists d15; iexact A15
    isplitl [A16]
    · iexists d; iexact A16
    iexact AR
  isplitl [Hg]; · iexact Hg
  isplitl [HV]; · iexact HV
  iexact HC

/-- The results of which nothing is said. -/
abbrev fgt : Fin cfg0.W → Bool := ![false, false, false, false, false, false, false, true, false, true]

/-- The proof data: the arrays as the call finds them, each input's block kept, the weight gradient's running sum and
    the codes of the point's gradient tile. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxAt m c t
    | ⟨5, _⟩ => dwAt m c t.val
    | ⟨6, _⟩ => tileR code (dyB m c t)
    | ⟨7, _⟩ => fun _ => default
    | ⟨8, _⟩ => tile code (dyB m c t)
    | ⟨n + 9, h⟩ => fun _ => default
  Φ t := Phi m c t.val
  q _ := fullShare
  owed _ := 0

theorem first_zero : ∀ t : Fin cfg0.N, k0_cond1 (grid0.coords t) = 1#1 → t.val = 0 :=
  (by decide +kernel : ∀ t : Fin 129, k0_cond1 (grid0.coords t) = 1#1 → t.val = 0)
theorem later_pos : ∀ t : Fin cfg0.N, ¬ k0_cond1 (grid0.coords t) = 1#1 → t.val ≠ 0 :=
  (by decide +kernel : ∀ t : Fin 129, ¬ k0_cond1 (grid0.coords t) = 1#1 → t.val ≠ 0)

theorem idle_5 (i : grid0.Coords) : cfg0.idle 5 i = false := by
  show (!(k0_cond1 i == 1#1) && !(k0_cond3 i == 1#1)) = false
  rcases cond_or i with ⟨h, -⟩ | ⟨-, h⟩ <;> rw [h] <;> simp
/-- The first point stores nothing of the input gradient, nor is its buffer written back there. -/
theorem idle_4_first (t : Fin cfg0.N) (h : ¬ k0_cond3 (grid0.coords t) = 1#1) : cfg0.idle 4 (grid0.coords t) = true := by
  show (!(k0_cond3 (grid0.coords t) == 1#1)) = true
  rw [beq_eq_false_iff_ne.mpr h]; rfl
theorem idle_4_later (t : Fin cfg0.N) (h : k0_cond3 (grid0.coords t) = 1#1) : cfg0.idle 4 (grid0.coords t) = false := by
  show (!(k0_cond3 (grid0.coords t) == 1#1)) = false
  rw [h]; rfl
theorem flush_4_first : ∀ t : Fin cfg0.N, t.val = 0 → (cfg0.win 4).flush t = false :=
  by
  have h : (cfg0.win 4).flush (⟨0, by decide⟩ : Fin cfg0.N) = false := by decide +kernel
  intro t ht
  obtain rfl : t = ⟨0, by decide⟩ := Fin.ext ht
  exact h
theorem idle_6 (i : grid0.Coords) : cfg0.idle 6 i = false := idle_5 i
theorem idle_8 (i : grid0.Coords) : cfg0.idle 8 i = false := idle_5 i

theorem before_dw (c : Dev nD) (t : Fin cfg0.N) (ht : t.val ≠ 0) (d) : (dats m 0 c).before 5 t d = dwAt m c (t.val - 1) :=
  ((dats m 0 c).before_out_kept 5 rfl t ht (Bool.eq_false_iff.mpr fun h => by
      have h1 : (t.val - 1) % 129 = 128 := (flush0_5 ⟨t.val - 1, Nat.lt_of_le_of_lt (Nat.sub_le _ _) t.isLt⟩).mp h
      have h2 : t.val < 129 := t.isLt
      omega) idle_5 (fun _ _ => rfl) d).trans rfl

theorem dw_later (c : Dev nD) (t : Fin cfg0.N) (ht : t.val ≠ 0) (g7 X7 : S1280x5120.Idx → EReal) (x : S256x1280.Idx → EReal) (s : S32x1280.Idx → BitVec 8)
    (d : S256x5120.Idx → EReal) (hX : X7 = dwAt m c (t.val - 1)) (hx : x = xB m c t) (hs : s = sB m c t) (hd : prevIs m c t.val d)
    (hg : ∀ y, g7 y = X7 y + outer (xT (qt (grid0.coords t)) x s) d y) : g7 = dwAt m c t.val := by
  obtain ⟨n, hn⟩ := t
  obtain ⟨k, rfl⟩ := Nat.exists_eq_succ_of_ne_zero ht
  have hd' := hd ⟨k, Nat.lt_of_succ_lt hn⟩ rfl
  subst hX hx hs hd'
  funext y
  rw [hg y]
  exact congrArg (dwAt m c k y + ·) (dif_pos (c := k + 1 < cfg0.N) (t := fun h => part m c k h y) (e := fun _ => (0 : EReal)) hn).symm

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ X, owns (c : Thread nD τ) (win0_7.stage (cfg0.slots t 7)) fullShare X) ∗ (∃ d, owns (c : Thread nD τ) (win0_8.stage (cfg0.slots t 8)) fullShare ((dats m 0 c).before 8 t d)) ∗ (∃ X, owns (c : Thread nD τ) (win0_9.stage (cfg0.slots t 9)) fullShare X))
def bodyPost (P4 : sProp 𝕄) (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ P4 ∗ owns (c : Thread nD τ) (win0_5.stage (cfg0.slots t 5)) fullShare ((dats m 0 c).after 5 t) ∗ owns (c : Thread nD τ) (win0_6.stage (cfg0.slots t 6)) fullShare ((dats m 0 c).after 6 t) ∗ (∃ X, owns (c : Thread nD τ) (win0_7.stage (cfg0.slots t 7)) fullShare X) ∗ owns (c : Thread nD τ) (win0_8.stage (cfg0.slots t 8)) fullShare ((dats m 0 c).after 8 t) ∗ (∃ X, owns (c : Thread nD τ) (win0_9.stage (cfg0.slots t 9)) fullShare X))

theorem dx_later (c : Dev nD) (t : Fin cfg0.N) (ht : t.val ≠ 0) (d15 : S256x5120.Idx → EReal) (d12 : S5120x1280.Idx → EReal)
    (h15 : rowIs m c t.val d15) (h12 : wIs m c t.val d12) : chunks d15 d12 4 = dxAt m c t := by
  have e15 := h15 ⟨t.val - 1, Nat.lt_of_le_of_lt (Nat.sub_le _ _) t.isLt⟩ (Nat.succ_pred_eq_of_ne_zero ht)
  have e12 := h12 ht
  unfold dxAt
  rw [e15, e12]

theorem sound_first (c : Dev nD) (t : Fin cfg0.N) (h1 : k0_cond1 (grid0.coords t) = 1#1) (h3 : ¬ k0_cond3 (grid0.coords t) = 1#1) :
    bodyPre m c t ⊢ wp frame (wpE (defs₀ (F := Ideal)) Variants.none c none) Set.univ (bodyAt0 t) (fun _ => bodyPost m iprop(∃ d, owns (c : Thread nD τ) (win0_4.stage (cfg0.slots t 4)) fullShare ((dats m 0 c).before 4 t d)) c t) := by
  unfold bodyPre bodyPost bodyAt0
  rw [show (dats m 0 c).Φ t.succ = Phi m c (t.val + 1) from rfl, show (dats m 0 c).Φ t.castSucc = Phi m c t.val from rfl]
  unfold Phi
  unfold Dat.owesAt Pipeline.owesWithin
  rw [show (dats m 0 c).owed t.castSucc = 0 from rfl, show (dats m 0 c).owed t.succ = 0 from rfl]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 5 t = dwAt m c t.val from rfl, show (dats m 0 c).after 6 t = tileR code (dyB m c t) from rfl, show (dats m 0 c).after 8 t = tile code (dyB m c t) from rfl]
  simp only [before0_0 m (dats m 0 c) rfl (fun _ => rfl), before0_1 m (dats m 0 c) rfl (fun _ => rfl),
    before0_2 m (dats m 0 c) rfl (fun _ => rfl), before0_3 m (dats m 0 c) rfl (fun _ => rfl)]
  unfold owns
  iintro ⟨⟨⟨⟨%d12, %p12, %f12, %e12, H12⟩, ⟨%d13, %f13, -, H13⟩, HB, ⟨%d15, %p15, %f15, %e15, H15⟩, ⟨%d16, %p16, %f16, %e16, H16⟩, ⟨%d17, %f17, -, H17⟩, ⟨%d18, %f18, -, H18⟩, ⟨%d19, %f19, -, H19⟩, ⟨%d20, %f20, -, H20⟩, ⟨%d21, %f21, -, H21⟩⟩, Hg, ⟨HV0, HV1⟩, HC⟩, ⟨%W, -, HO⟩, ⟨%d1, %f1, %e1, H1⟩, ⟨%d2, %f2, %e2, H2⟩, ⟨%d3, %f3, %e3, H3⟩, ⟨%d4, %f4, %e4, H4⟩, ⟨%d6, %f6, %e6, H6⟩, ⟨%d7, %f7, %e7, H7⟩, ⟨%d8, %f8, -, H8⟩, ⟨%d9, %f9, -, H9⟩, ⟨%d10, %f10, -, H10⟩, ⟨%d11, %f11, -, H11⟩⟩
  ihave HB := (slots_open c) $$ HB
  icases HB with ⟨HS, HRB⟩
  iapply (wp_wand_r Idealize.ShloMosaic.frame (wpE (defs₀ (F := Ideal)) Variants.none (c : Thread nD τ) none) Set.univ)
  isplitl [H1 H4 H7 H8 H10 H12 H13 H15 H16 H20 H21 H9 H11 HS HV0 HV1 HC HO]
  · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h3 (V m c main_arg3) f1 f4)
    isplitl [H1]; · iexact H1
    isplitl [H4]; · iexact H4
    isplitl [H7]; · iexists _; iexact H7
    isplitl [H8]; · iexists _; iexact H8
    isplitl [H10]; · iexists _; iexact H10
    isplitl [H12]; · iexists _; iexact H12
    isplitl [H13]; · iexists _; iexact H13
    isplitl [H15]; · iexists _; iexact H15
    isplitl [H16]; · iexists _; iexact H16
    isplitl [H20]; · iexists _; iexact H20
    isplitl [H21]; · iexists _; iexact H21
    isplitl [H9]; · iexists _; iexact H9
    isplitl [H11]; · iexists _; iexact H11
    isplitl [HS]; · iexact HS
    isplitl [HV0]; · iexact HV0
    isplitl [HV1]; · iexact HV1
    isplitl [HC]; · iexact HC
    iexists _; iexact HO
  iintro %_ ⟨H1, H4, ⟨%g7, %eg7, H7⟩, ⟨%g8, %eg8, H8⟩, ⟨%g10, %eg10, H10⟩, ⟨%g12, %eg12, H12⟩, ⟨%g13, H13⟩, ⟨%g15, %eg15, H15⟩, ⟨%g16, %eg16, H16⟩, ⟨%g20, H20⟩, ⟨%g21, H21⟩, ⟨%g9, H9⟩, ⟨%g11, H11⟩, HS, HV0, HV1, HC, HO⟩
  ihave HB := (slots_close c) $$ [HS HRB]
  · isplitl [HS]; · iexact HS
    iexact HRB
  isplitl [HB H12 H13 H15 H16 H17 H18 H19 H20 H21 Hg HV0 HV1 HC]
  · isplitl [HB H12 H13 H15 H16 H17 H18 H19 H20 H21]
    · isplitl [H12]
      · iexists _; isplitr; swap
        · iexists _; isplitr; swap; · iexact H12
          ipureintro; rfl
        ipureintro
        intro _
        obtain rfl : t = ⟨0, by decide⟩ := Fin.ext (first_zero t h1)
        exact (funext eg12).trans (congrArg (wD _) e4)
      isplitl [H13]
      · iexists _; iexists _; isplitr; swap; · iexact H13
        ipureintro; rfl
      isplitl [HB]; · iexact HB
      isplitl [H15]
      · iexists _; isplitr; swap
        · iexists _; isplitr; swap; · iexact H15
          ipureintro; rfl
        ipureintro
        intro t' ht'
        obtain rfl : t' = t := Fin.ext (Nat.succ.inj ht')
        exact (funext eg15).trans (congrArg (tileR back) e1)
      isplitl [H16]
      · iexists _; isplitr; swap
        · iexists _; isplitr; swap; · iexact H16
          ipureintro; rfl
        ipureintro
        intro t' ht'
        obtain rfl : t' = t := Fin.ext (Nat.succ.inj ht')
        exact (funext eg16).trans (congrArg (tile back) e1)
      isplitl [H17]
      · iexists _; iexists _; isplitr; swap; · iexact H17
        ipureintro; rfl
      isplitl [H18]
      · iexists _; iexists _; isplitr; swap; · iexact H18
        ipureintro; rfl
      isplitl [H19]
      · iexists _; iexists _; isplitr; swap; · iexact H19
        ipureintro; rfl
      isplitl [H20]
      · iexists _; iexists _; isplitr; swap; · iexact H20
        ipureintro; rfl
      iexists _; iexists _; isplitr; swap; · iexact H21
      ipureintro; rfl
    isplitl [Hg]; · iexact Hg
    isplitl [HV0 HV1]
    · isplitl [HV0]; · iexact HV0
      iexact HV1
    iexact HC
  isplitl [HO]
  · icases HO with ⟨%W', HO⟩
    iexists W'; isplitr; · ipureintro; exact fun _ _ => Or.inl trivial
    iexact HO
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H6]
  · iexists d6; iexists _; isplitr; swap; · iexact H6
    ipureintro; exact e6
  isplitl [H7]
  · iexists _; isplitr; swap; · iexact H7
    ipureintro
    exact (funext eg7).trans (by rw [first_zero t h1]; rfl)
  isplitl [H8]
  · iexists _; isplitr; swap; · iexact H8
    ipureintro
    exact (funext eg8).trans (congrArg (tileR code) e1)
  isplitl [H9]
  · iexists _; iexists _; isplitr; swap; · iexact H9
    ipureintro; rfl
  isplitl [H10]
  · iexists _; isplitr; swap; · iexact H10
    ipureintro
    exact (funext eg10).trans (congrArg (tile code) e1)
  iexists _; iexists _; isplitr; swap; · iexact H11
  ipureintro; rfl

theorem sound_later (c : Dev nD) (t : Fin cfg0.N) (h1 : ¬ k0_cond1 (grid0.coords t) = 1#1) (h3 : k0_cond3 (grid0.coords t) = 1#1) :
    bodyPre m c t ⊢ wp frame (wpE (defs₀ (F := Ideal)) Variants.none c none) Set.univ (bodyAt0 t) (fun _ => bodyPost m (owns (c : Thread nD τ) (win0_4.stage (cfg0.slots t 4)) fullShare ((dats m 0 c).after 4 t)) c t) := by
  unfold bodyPre bodyPost bodyAt0
  rw [show (dats m 0 c).Φ t.succ = Phi m c (t.val + 1) from rfl, show (dats m 0 c).Φ t.castSucc = Phi m c t.val from rfl]
  unfold Phi
  unfold Dat.owesAt Pipeline.owesWithin
  rw [show (dats m 0 c).owed t.castSucc = 0 from rfl, show (dats m 0 c).owed t.succ = 0 from rfl]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 5 t = dwAt m c t.val from rfl, show (dats m 0 c).after 6 t = tileR code (dyB m c t) from rfl, show (dats m 0 c).after 8 t = tile code (dyB m c t) from rfl]
  rw [show (dats m 0 c).after 4 t = dxAt m c t from rfl]
  simp only [before0_0 m (dats m 0 c) rfl (fun _ => rfl), before0_1 m (dats m 0 c) rfl (fun _ => rfl),
    before0_2 m (dats m 0 c) rfl (fun _ => rfl), before0_3 m (dats m 0 c) rfl (fun _ => rfl)]
  unfold owns
  iintro ⟨⟨⟨⟨%d12, %p12, %f12, %e12, H12⟩, ⟨%d13, %f13, -, H13⟩, HB, ⟨%d15, %p15, %f15, %e15, H15⟩, ⟨%d16, %p16, %f16, %e16, H16⟩, ⟨%d17, %f17, -, H17⟩, ⟨%d18, %f18, -, H18⟩, ⟨%d19, %f19, -, H19⟩, ⟨%d20, %f20, -, H20⟩, ⟨%d21, %f21, -, H21⟩⟩, Hg, ⟨HV0, HV1⟩, HC⟩, ⟨%W, -, HO⟩, ⟨%d1, %f1, %e1, H1⟩, ⟨%d2, %f2, %e2, H2⟩, ⟨%d3, %f3, %e3, H3⟩, ⟨%d4, %f4, %e4, H4⟩, ⟨%d6, %f6, %e6, H6⟩, ⟨%d7, %f7, %e7, H7⟩, ⟨%d8, %f8, -, H8⟩, ⟨%d9, %f9, -, H9⟩, ⟨%d10, %f10, -, H10⟩, ⟨%d11, %f11, -, H11⟩⟩
  iapply (wp_wand_r Idealize.ShloMosaic.frame (wpE (defs₀ (F := Ideal)) Variants.none (c : Thread nD τ) none) Set.univ)
  isplitl [H1 H2 H3 H6 H7 H8 H9 H10 H11 H12 H15 H16 H17 H18 H19 H20 H21]
  · iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h3 f1 f2 f3 _ f12 f15 _)
    isplitl [H1]; · iexact H1
    isplitl [H2]; · iexact H2
    isplitl [H3]; · iexact H3
    isplitl [H6]; · iexists _; iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H15]; · iexact H15
    isplitl [H16]; · iexact H16
    isplitl [H17]; · iexists _; iexact H17
    isplitl [H18]; · iexists _; iexact H18
    isplitl [H19]; · iexists _; iexact H19
    isplitl [H20]; · iexists _; iexact H20
    iexists _; iexact H21
  iintro %_ ⟨H1, H2, H3, ⟨%g6, %eg6, H6⟩, ⟨%g7, %eg7, H7⟩, ⟨%g8, %eg8, H8⟩, ⟨%g9, H9⟩, ⟨%g10, %eg10, H10⟩, ⟨%g11, H11⟩, H12, ⟨%g15, %eg15, H15⟩, ⟨%g16, %eg16, H16⟩, ⟨%g17, H17⟩, ⟨%g18, H18⟩, ⟨%g19, H19⟩, ⟨%g20, H20⟩, ⟨%g21, H21⟩⟩
  ihave HO : iprop(∃ W, owes (c : Thread nD τ) 0 W) $$ [HO]
  · iexists _; iexact HO
  isplitl [HB H12 H13 H15 H16 H17 H18 H19 H20 H21 Hg HV0 HV1 HC]
  · isplitl [HB H12 H13 H15 H16 H17 H18 H19 H20 H21]
    · isplitl [H12]
      · iexists _; isplitr; swap
        · iexists _; isplitr; swap; · iexact H12
          ipureintro; rfl
        ipureintro
        intro _
        exact e12.trans (p12 (later_pos t h1))
      isplitl [H13]
      · iexists _; iexists _; isplitr; swap; · iexact H13
        ipureintro; rfl
      isplitl [HB]; · iexact HB
      isplitl [H15]
      · iexists _; isplitr; swap
        · iexists _; isplitr; swap; · iexact H15
          ipureintro; rfl
        ipureintro
        intro t' ht'
        obtain rfl : t' = t := Fin.ext (Nat.succ.inj ht')
        exact (funext eg15).trans (congrArg (tileR back) e1)
      isplitl [H16]
      · iexists _; isplitr; swap
        · iexists _; isplitr; swap; · iexact H16
          ipureintro; rfl
        ipureintro
        intro t' ht'
        obtain rfl : t' = t := Fin.ext (Nat.succ.inj ht')
        exact (funext eg16).trans (congrArg (tile back) e1)
      isplitl [H17]
      · iexists _; iexists _; isplitr; swap; · iexact H17
        ipureintro; rfl
      isplitl [H18]
      · iexists _; iexists _; isplitr; swap; · iexact H18
        ipureintro; rfl
      isplitl [H19]
      · iexists _; iexists _; isplitr; swap; · iexact H19
        ipureintro; rfl
      isplitl [H20]
      · iexists _; iexists _; isplitr; swap; · iexact H20
        ipureintro; rfl
      iexists _; iexists _; isplitr; swap; · iexact H21
      ipureintro; rfl
    isplitl [Hg]; · iexact Hg
    isplitl [HV0 HV1]
    · isplitl [HV0]; · iexact HV0
      iexact HV1
    iexact HC
  isplitl [HO]
  · icases HO with ⟨%W', HO⟩
    iexists W'; isplitr; · ipureintro; exact fun _ _ => Or.inl trivial
    iexact HO
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H6]
  · iexists _; isplitr; swap; · iexact H6
    ipureintro
    exact (funext eg6).trans (dx_later m c t (later_pos t h1) _ _ (by rw [e15]; exact p15) (by rw [e12]; exact p12))
  isplitl [H7]
  · iexists _; isplitr; swap; · iexact H7
    ipureintro
    exact dw_later m c t (later_pos t h1) _ _ _ _ _ (e7.trans (before_dw m c t (later_pos t h1) d7)) e2 e3 (by rw [e16]; exact p16) eg7
  isplitl [H8]
  · iexists _; isplitr; swap; · iexact H8
    ipureintro
    exact (funext eg8).trans (congrArg (tileR code) e1)
  isplitl [H9]
  · iexists _; iexists _; isplitr; swap; · iexact H9
    ipureintro; rfl
  isplitl [H10]
  · iexists _; isplitr; swap; · iexact H10
    ipureintro
    exact (funext eg10).trans (congrArg (tile code) e1)
  iexists _; iexists _; isplitr; swap; · iexact H11
  ipureintro; rfl

theorem defs₀_row (t : Fin cfg0.N) :
  defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ fgt := fun t => by
  rcases cond_or (grid0.coords t) with ⟨h1, h3⟩ | ⟨h1, h3⟩
  · rw [bigSep_W0, bigSep_W0, defs₀_row, idle_5, idle_4_first t h3, flush_4_first t (first_zero t h1)]
    exact triple_restated (sound_first m c t h1 h3) rfl .rfl fun _ => .rfl
  · rw [bigSep_W0, bigSep_W0, defs₀_row, idle_5, idle_4_later t h3]
    exact triple_restated (sound_later m c t h1 h3) rfl .rfl fun _ => .rfl

set_option backward.isDefEq.respectTransparency.types false in
theorem run_main : θ_run defs (onTc (τ := τ) (main (F := Ideal))) (s₀ m ρ)
    (fun r => Pipeline.RDat.FramePost (cfgs 0) (fun c => (dats m 0 c).toRForget fgt) (V m) r ∧ r.2.sem = fun _ => 0) :=
  Pipeline.θ_run_frame_dma_forget (Q' := _) cfgs (dats m) (0 : Fin 1) launch0 osem0 defs₀ Variants.none fgt ownSemFacts0 H0 H0_sub m ρ main
    (hbody := fun c => (body_obligation m c).loose) (hshare := fun c => (dats m 0 c).share_full fun _ => rfl)
    (howed := fun _ _ => rfl) (V := V m)
    (hmain := hmainD m Variants.none) (hA := A_eq m) (hin := fun c => phi_in m c 0 (fun _ t h => absurd h (Nat.succ_ne_zero _)) (fun _ t h => absurd h (Nat.succ_ne_zero _)) (fun _ h => absurd rfl h)) (hout := fun c => phi_out m c _) (hQ' := fun _ h => h)

end Cert.KernelIdeal.Hand.Val

end
-- ==== Proof.KernelIdealFinal.lean ====
module

public import proofs.«01_k».proof.Proof.KernelIdealHandVal
public import Idealize.ShloMosaic.Lib.Pipeline.ValueKit
public import Idealize.ShloMosaic.Lib.Pointwise

@[expose] public section

set_option maxRecDepth 16384

noncomputable section

namespace Cert.KernelIdeal.Hand.Val

open Idealize.ShloMosaic Idealize.ShloMosaic.TcCoe Idealize.ShloMosaic.Tactic
open Idealize.SL Idealize.SL.RA Idealize.SL.BI
open Idealize.SL.Sem
open Idealize.ShloMosaic.Pipeline (Dat Cfg Window)
open Cert.KernelIdeal Cert.KernelIdeal.Gen

/-- Every element of the gradient quantised (`q`) against the largest magnitude of its 32 rows. -/
def full (q : EReal → EReal → EReal) (A : S32768x5120.Idx → EReal) : S32768x5120.Idx → EReal := fun i =>
  q (A i) (amax fun r => A (ix2 ⟨32 * ((i 0).val / 32) + r.val, by have := (i 0).isLt; have := r.isLt; show _ < 32768; change (i 0).val < 32768 at *; omega⟩ (i 1)))

/-- Every element of the gradient quantised (`q`) against the largest magnitude of its 32 columns. -/
def fullR (q : EReal → EReal → EReal) (A : S32768x5120.Idx → EReal) : S32768x5120.Idx → EReal := fun i =>
  q (A i) (amax fun r => A (ix2 (i 0) ⟨32 * ((i 1).val / 32) + r.val, by have := (i 1).isLt; have := r.isLt; show _ < 5120; change (i 1).val < 5120 at *; omega⟩))

/-- One product of the weight gradient. -/
def term (A : S32768x5120.Idx → EReal) (X : S32768x1280.Idx → EReal) (S : S1024x1280.Idx → BitVec 8) (y : S1280x5120.Idx) (K : Fin 32768) : EReal :=
  X (ix2 K (y 0)) * powb (S (ix2 ⟨K.val / 32, by have := K.isLt; omega⟩ (y 0))) * full back A (ix2 K (y 1))

/-- The weight gradient: every row of the input against the same row of the gradient, both dequantised. -/
def total (A : S32768x5120.Idx → EReal) (X : S32768x1280.Idx → EReal) (S : S1024x1280.Idx → BitVec 8) : S1280x5120.Idx → EReal := fun y =>
  ∑ K : Fin 32768, term A X S y K

/-- The input gradient: every row of the gradient against every row of the weight, both dequantised along their rows. -/
def totalX (A : S32768x5120.Idx → EReal) (C : S1280x5120.Idx → EReal) (S : S1280x160.Idx → BitVec 8) : S32768x1280.Idx → EReal := fun y =>
  ∑ L : Fin 5120, fullR back A (ix2 (y 0) L) * wD C S (ix2 L (y 1))

variable (m : (ℓ : Loc nD τ sig) → Buf (Elt Ideal) ℓ)

def A0 (c : Dev nD) : S32768x5120.Idx → EReal := V m c (Pipeline.arrRef spec0 0)
def A1 (c : Dev nD) : S32768x1280.Idx → EReal := V m c (Pipeline.arrRef spec0 1)
def A2 (c : Dev nD) : S1024x1280.Idx → BitVec 8 := V m c (Pipeline.arrRef spec0 2)

def A3 (c : Dev nD) : S1280x160.Idx → BitVec 8 := V m c (Pipeline.arrRef spec0 3)
def A4 (c : Dev nD) : S1280x5120.Idx → EReal := V m c main_arg3

theorem idx3 : ∀ t : Fin cfg0.N, win0_3.index t = ![0, 0] :=
  (by decide +kernel : ∀ t : Fin grid0.N, win0_3.index t = ![0, 0])
theorem idx4 : ∀ t : Fin cfg0.N, win0_4.index t = ![t.val - 1, 0] :=
  (by decide +kernel : ∀ t : Fin grid0.N, win0_4.index t = ![t.val - 1, 0])
theorem idx0 : ∀ t : Fin cfg0.N, win0_0.index t = ![min t.val 127, 0] :=
  (by decide +kernel : ∀ t : Fin grid0.N, win0_0.index t = ![min t.val 127, 0])
theorem idx1 : ∀ t : Fin cfg0.N, win0_1.index t = ![t.val - 1, 0] :=
  (by decide +kernel : ∀ t : Fin grid0.N, win0_1.index t = ![t.val - 1, 0])
theorem idx2 : ∀ t : Fin cfg0.N, win0_2.index t = ![(t.val - 1) / 4, 0] :=
  (by decide +kernel : ∀ t : Fin grid0.N, win0_2.index t = ![(t.val - 1) / 4, 0])
theorem idx6 : ∀ t : Fin cfg0.N, win0_6.index t = ![min t.val 127, 0] :=
  (by decide +kernel : ∀ t : Fin grid0.N, win0_6.index t = ![min t.val 127, 0])
theorem idx8 : ∀ t : Fin cfg0.N, win0_8.index t = ![min t.val 127, 0] :=
  (by decide +kernel : ∀ t : Fin grid0.N, win0_8.index t = ![min t.val 127, 0])
theorem coords_val : ∀ t : Fin cfg0.N, (grid0.coords t 0).val = t.val :=
  (by decide +kernel : ∀ t : Fin grid0.N, (grid0.coords t 0).val = t.val)

theorem dyB_at (c : Dev nD) (t : Fin cfg0.N) (j : Fin 256) (l : Fin 5120) :
    dyB m c t (ix2 j l) = A0 m c (ix2 ⟨256 * min t.val 127 + j.val, by have := j.isLt; omega⟩ l) := by
  unfold dyB iblk A0
  refine congrArg (V m c (Pipeline.arrRef spec0 0)) ?_
  blk_ext [idx0]

theorem xB_at (c : Dev nD) (t : Fin cfg0.N) (j : Fin 256) (l : Fin 1280) :
    xB m c t (ix2 j l) = A1 m c (ix2 ⟨256 * (t.val - 1) + j.val, by have := j.isLt; have : t.val < 129 := t.isLt; omega⟩ l) := by
  unfold xB iblk A1
  refine congrArg (V m c (Pipeline.arrRef spec0 1)) ?_
  blk_ext [idx1]

theorem sB_at (c : Dev nD) (t : Fin cfg0.N) (j : Fin 32) (l : Fin 1280) :
    sB m c t (ix2 j l) = A2 m c (ix2 ⟨32 * ((t.val - 1) / 4) + j.val, by have := j.isLt; have : t.val < 129 := t.isLt; omega⟩ l) := by
  unfold sB iblk A2
  refine congrArg (V m c (Pipeline.arrRef spec0 2)) ?_
  blk_ext [idx2]

theorem tile_full (q : EReal → EReal → EReal) (c : Dev nD) (t : Fin cfg0.N) (j : Fin 256) (l : Fin 5120) :
    tile q (dyB m c t) (ix2 j l) = full q (A0 m c) (ix2 ⟨256 * min t.val 127 + j.val, by have := j.isLt; omega⟩ l) := by
  unfold tile full
  refine congrArg₂ q (dyB_at m c t j l) (congrArg amax (funext fun r => ?_))
  refine (dyB_at m c t _ l).trans (congrArg (fun z => A0 m c (ix2 z l)) (Fin.ext ?_))
  show 256 * min t.val 127 + (32 * (j.val / 32) + r.val) = 32 * ((256 * min t.val 127 + j.val) / 32) + r.val
  omega

theorem tileR_full (q : EReal → EReal → EReal) (c : Dev nD) (t : Fin cfg0.N) (j : Fin 256) (l : Fin 5120) :
    tileR q (dyB m c t) (ix2 j l) = fullR q (A0 m c) (ix2 ⟨256 * min t.val 127 + j.val, by have := j.isLt; omega⟩ l) := by
  unfold tileR fullR
  exact congrArg₂ q (dyB_at m c t j l) (congrArg amax (funext fun r => dyB_at m c t j _))

theorem wsB_at (c : Dev nD) (t : Fin cfg0.N) : iblk m c 3 t = A3 m c := by
  funext y
  unfold iblk A3
  refine congrArg (V m c (Pipeline.arrRef spec0 3)) ?_
  blk_ext [idx3]

theorem wAll_eq (c : Dev nD) : wAll m c = wD (A4 m c) (A3 m c) := by
  unfold wAll
  exact congrArg₂ wD rfl (wsB_at m c _)

theorem chunks_sum (R : S256x5120.Idx → EReal) (W : S5120x1280.Idx → EReal) (y : S256x1280.Idx) :
    chunks R W 4 y = ∑ L : Fin 5120, R (ix2 (y 0) L) * W (ix2 L (y 1)) := by
  unfold chunks
  rw [Finset.sum_range, Fin.sum_univ_tiles 4 1280 rfl]
  refine Finset.sum_congr rfl fun j _ => ?_
  unfold chunk
  refine Finset.sum_congr rfl fun l _ => ?_
  have e : (⟨(1280 * j.val + l.val) % 5120, Nat.mod_lt _ (by decide)⟩ : Fin 5120) = ⟨j.val * 1280 + l.val, by omega⟩ :=
    Fin.ext (by show (1280 * j.val + l.val) % 5120 = j.val * 1280 + l.val; omega)
  rw [e]

theorem dx_at (c : Dev nD) (t : Fin cfg0.N) (j : Fin 256) (l : Fin 1280) :
    dxAt m c t (ix2 j l) = totalX (A0 m c) (A4 m c) (A3 m c) (ix2 ⟨256 * (t.val - 1) + j.val, by have := j.isLt; have : t.val < 129 := t.isLt; omega⟩ l) := by
  have ht : t.val < 129 := t.isLt
  unfold dxAt totalX
  rw [chunks_sum, wAll_eq]
  refine Finset.sum_congr rfl fun L _ => ?_
  refine congrArg₂ (· * ·) ?_ rfl
  refine (tileR_full m back c ⟨t.val - 1, _⟩ j L).trans (congrArg (fun z => fullR back (A0 m c) (ix2 z L)) (Fin.ext ?_))
  show 256 * min (t.val - 1) 127 + j.val = 256 * (t.val - 1) + j.val
  omega

theorem part_at (c : Dev nD) (n : ℕ) (h : n + 1 < cfg0.N) (y : S1280x5120.Idx) :
    part m c n h y = ∑ k : Fin 256, term (A0 m c) (A1 m c) (A2 m c) y ⟨n * 256 + k.val, by have := k.isLt; have : n + 1 < 129 := h; omega⟩ := by
  have hn : n + 1 < 129 := h
  unfold part outer term
  refine Finset.sum_congr rfl fun k _ => ?_
  refine congrArg₂ (· * ·) (congrArg₂ (· * ·) ?_ (congrArg powb ?_)) ?_
  · refine (xB_at m c ⟨n + 1, h⟩ k (y 0)).trans (congrArg (fun z => A1 m c (ix2 z (y 0))) (Fin.ext ?_))
    show 256 * (n + 1 - 1) + k.val = n * 256 + k.val
    omega
  · refine (sB_at m c ⟨n + 1, h⟩ _ (y 0)).trans (congrArg (fun z => A2 m c (ix2 z (y 0))) (Fin.ext ?_))
    show 32 * ((n + 1 - 1) / 4) + (8 * (((grid0.coords ⟨n + 1, h⟩ 0).val + 3) % 4) + k.val / 32) = (n * 256 + k.val) / 32
    rw [coords_val ⟨n + 1, h⟩]
    show 32 * ((n + 1 - 1) / 4) + (8 * ((n + 1 + 3) % 4) + k.val / 32) = (n * 256 + k.val) / 32
    omega
  · refine (tile_full m back c ⟨n, _⟩ k (y 1)).trans (congrArg (fun z => full back (A0 m c) (ix2 z (y 1))) (Fin.ext ?_))
    show 256 * min n 127 + k.val = n * 256 + k.val
    omega

theorem dwAt_sum (c : Dev nD) (y : S1280x5120.Idx) (n : ℕ) :
    dwAt m c n y = ∑ j ∈ Finset.range n, if h : j + 1 < cfg0.N then part m c j h y else 0 := by
  induction n with
  | zero => rfl
  | succ n ih => rw [Finset.sum_range_succ, ← ih]; rfl

theorem dw_total (c : Dev nD) : dwAt m c 128 = total (A0 m c) (A1 m c) (A2 m c) := by
  funext y
  rw [dwAt_sum, Finset.sum_range]
  unfold total
  rw [Fin.sum_univ_tiles 128 256 rfl (term (A0 m c) (A1 m c) (A2 m c) y)]
  refine Finset.sum_congr rfl fun j _ => ?_
  have hj : j.val + 1 < cfg0.N := Nat.succ_lt_succ j.isLt
  rw [dif_pos hj, part_at]

theorem final_dw (c : Dev nD) : (dats m 0 c).arrAt 5 cfg0.N = total (A0 m c) (A1 m c) (A2 m c) := by
  refine (dats m 0 c).arrAt_eq_of_after_last 5 ⟨128, by decide⟩ (by decide +kernel) _ fun j => ?_
  refine Eq.trans ?_ (congrFun (dw_total m c) j)
  rfl

theorem final_cc (c : Dev nD) : (dats m 0 c).arrAt 8 cfg0.N = full code (A0 m c) := by
  refine (dats m 0 c).arrAt_eq_of_covers 8 _ (by decide +kernel) fun t hf y => ?_
  refine (tile_full m code c t (y 0) (y 1)).trans (congrArg (full code (A0 m c)) ?_)
  blk_ext [idx8]

theorem final_rc (c : Dev nD) : (dats m 0 c).arrAt 6 cfg0.N = fullR code (A0 m c) := by
  refine (dats m 0 c).arrAt_eq_of_covers 6 _ (by decide +kernel) fun t hf y => ?_
  refine (tileR_full m code c t (y 0) (y 1)).trans (congrArg (fullR code (A0 m c)) ?_)
  blk_ext [idx6]

theorem final_dx (c : Dev nD) : (dats m 0 c).arrAt 4 cfg0.N = totalX (A0 m c) (A4 m c) (A3 m c) := by
  refine (dats m 0 c).arrAt_eq_of_covers 4 _ (by decide +kernel) fun t hf y => ?_
  refine (dx_at m c t (y 0) (y 1)).trans (congrArg (totalX (A0 m c) (A4 m c) (A3 m c)) ?_)
  blk_ext [idx4]

/-- The run: the input gradient, the weight gradient and the codes of the gradient by both axes, the arguments as they began. -/
theorem run_val (ρ : Dev nD → PrngReg) : θ_run defs (onTc (τ := τ) (main (F := Ideal))) ⟨m, fun _ => 0, ρ⟩ (fun r => ∀ c : Dev nD,
      r.2.mem ((c.tc : Thread nD τ).loc main_v3_0) = totalX (A0 m c) (A4 m c) (A3 m c)
      ∧ r.2.mem ((c.tc : Thread nD τ).loc main_v3_1) = total (A0 m c) (A1 m c) (A2 m c)
      ∧ r.2.mem ((c.tc : Thread nD τ).loc main_v3_2) = fullR code (A0 m c)
      ∧ r.2.mem ((c.tc : Thread nD τ).loc main_v3_4) = full code (A0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
    (((dats m 0 c).toRForget_arrAt_iff (fgt := fgt) (w := 4) rfl cfg0.N _).mp ((h.1 c).1 4)).trans (final_dx m c),
    (((dats m 0 c).toRForget_arrAt_iff (fgt := fgt) (w := 5) rfl cfg0.N _).mp ((h.1 c).1 5)).trans (final_dw m c),
    (((dats m 0 c).toRForget_arrAt_iff (fgt := fgt) (w := 6) rfl cfg0.N _).mp ((h.1 c).1 6)).trans (final_rc m c),
    (((dats m 0 c).toRForget_arrAt_iff (fgt := fgt) (w := 8) rfl cfg0.N _).mp ((h.1 c).1 8)).trans (final_cc m c),
    (h.1 c).2 main_arg0 (by decide) |>.trans (V_main_arg0 m c),
    (h.1 c).2 main_arg1 (by decide) |>.trans (V_main_arg1 m c),
    (h.1 c).2 main_arg2 (by decide) |>.trans (V_main_arg2 m c),
    (h.1 c).2 main_arg3 (by decide) |>.trans (V_main_arg3 m c),
    (Pipeline.RDat.FramePost.arr_in h.1 c 3 rfl).trans (V_main_arg4 m c)⟩) (run_main m ρ)

end Cert.KernelIdeal.Hand.Val

end
-- ==== Proof.ReferenceIdealVal.lean ====
module

public import proofs.«01_k».proof.Proof.Gen.ReferenceIdeal.Value
public import proofs.«01_k».proof.Proof.KernelIdealFinal
public import proofs.«01_k».proof.Proof.Scale
public import Idealize.ShloMosaic.Lib.Pipeline.ValueKit
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.KernelIdeal.Hand (mag amax amax_nonneg code back powb)
open Cert.KernelIdeal.Hand.Val (full fullR term total totalX wD)

theorem cone : Ideal.ofBits .f32 0x3F800000#32 = 1 := by
  have := Scale.f32_pow 127 (by norm_num) (by norm_num)
  norm_num at this ⊢
theorem c113 : Ideal.ofBits .f32 0x42E20000#32 = 113 := by
  have := Scale.f32_word 133 6422528 (by norm_num) (by norm_num) (by norm_num)
  norm_num at this ⊢; exact this
theorem c127 : Ideal.ofBits .f32 0x42FE0000#32 = ((127 : ℝ) : EReal) := by
  have := Scale.f32_word 133 8257536 (by norm_num) (by norm_num) (by norm_num)
  norm_num at this ⊢; exact this
theorem c255 : Ideal.ofBits .f32 0x437F0000#32 = ((255 : ℝ) : EReal) := by
  have := Scale.f32_word 134 8323072 (by norm_num) (by norm_num) (by norm_num)
  norm_num at this ⊢; exact this
theorem chi : Ideal.ofBits .bf16 0x4760#16 = Ideal.ofBits .f32 0x47600000#32 := by
  rw [Scale.c57344]
  simp [Ideal.ofBits, Ideal.ieee, -EReal.coe_mul, -EReal.coe_neg]; norm_num
theorem clo : Ideal.ofBits .bf16 0xC760#16 = Ideal.ofBits .f32 0xC7600000#32 := by
  refine Eq.trans (b := ((-57344 : ℝ) : EReal)) ?_ (Eq.symm ?_)
  · simp [Ideal.ofBits, Ideal.ieee, -EReal.coe_mul, -EReal.coe_neg]; norm_num
  · simp [Ideal.ofBits, Ideal.ieee, -EReal.coe_mul, -EReal.coe_neg]; norm_num
theorem cbot : Ideal.ofBits .f32 0xFF800000#32 = ⊥ := by
  simp [Ideal.ofBits, Ideal.ieee]

/-- The column of one block of 32 rows. -/
def col (v0 : S32768x5120.Idx → EReal) (b : Fin 1024) (l : Fin 5120) : Fin 32 → EReal :=
  fun r => v0 (ix2 ⟨32 * b.val + r.val, by omega⟩ l)

theorem pay3_at (v0 : Vec Ideal S32768x5120 .bf16) (b : Fin 1024) (r : Fin 32) (l : Fin 5120) :
    k0_pay3 (F := Ideal) v0 (ix3 b r l) = col v0 b l r := by
  pointwise [k0_pay3, k0_pay2]
  exact congrArg (fun z => v0 (ix2 z l)) (Fin.ext (by show b.val * 32 + r.val = 32 * b.val + r.val; omega))

theorem fold_amax (Y : Fin 32 → EReal) : Finset.fold max (Ideal.ofBits .f32 0xFF800000#32) (fun x => mag (Y x)) Finset.univ = amax Y := by
  rw [cbot]; rfl

theorem pay4_at (v0 : Vec Ideal S32768x5120 .bf16) (b : Fin 1024) (o : Fin 1) (l : Fin 5120) :
    k0_pay4 (F := Ideal) v0 (ix3 b o l) = Scale.expo (amax (col v0 b l)) := by
  pointwise [k0_pay4]
  have e : Finset.fold max (Ideal.ofBits .f32 0xFF800000#32) (fun x => FloatOps.absf (k0_pay3 (F := Ideal) v0 (ix3 b x l))) Finset.univ = amax (col v0 b l) := by
    rw [← fold_amax]
    refine congrArg (fun f => Finset.fold max _ f Finset.univ) (funext fun x => ?_)
    rw [pay3_at]; rfl
  rw [e]
  unfold Scale.expo
  rw [c113]

theorem pay6_at (v0 : Vec Ideal S32768x5120 .bf16) (b : Fin 1024) (l : Fin 5120) (B : ℕ) (h2 : 2 ≤ B) (h240 : B ≤ 240)
    (he : Scale.expo (amax (col v0 b l)) = (((B : ℝ) - 127 : ℝ) : EReal)) :
    k0_pay6 (F := Ideal) v0 (ix2 b l) = ((B : ℝ) : EReal) := by
  pointwise [k0_pay6]
  rw [pay4_at, c127]
  exact congrArg (fun z : ℝ => (z : EReal)) (Scale.byte_eq _ (amax_nonneg _) B h2 h240 he)

theorem exp2_int (z : ℤ) : Ideal.exp2 ((z : ℝ) : EReal) = (((2 : ℝ) ^ z : ℝ) : EReal) := by
  rw [Ideal.exp2_coe]
  exact congrArg (fun z : ℝ => (z : EReal)) (Real.rpow_intCast 2 z)

theorem full_at (q : EReal → EReal → EReal) (v0 : S32768x5120.Idx → EReal) (R : Fin 32768) (l : Fin 5120) :
    full q v0 (ix2 R l) = q (v0 (ix2 R l)) (amax (col v0 ⟨R.val / 32, by omega⟩ l)) := rfl

theorem pay5_at (v0 : Vec Ideal S32768x5120 .bf16) (R : Fin 32768) (l : Fin 5120) :
    k0_pay5 (F := Ideal) v0 (ix2 R l) = full code v0 (ix2 R l) := by
  pointwise [k0_pay5]
  rw [full_at, pay3_at, pay4_at]
  obtain ⟨B, h2, h240, he, hw, hp, hi⟩ := Scale.scale_eq (amax (col v0 ⟨R.val / 32, by omega⟩ l)) (amax_nonneg _)
  unfold code
  rw [chi, clo, hi, he]
  have e1 : col v0 ⟨R.val / 32, by omega⟩ l ⟨R.val % 32, Nat.mod_lt _ (by norm_num)⟩ = v0 (ix2 R l) :=
    congrArg (fun z => v0 (ix2 z l)) (Fin.ext (by show 32 * (R.val / 32) + R.val % 32 = R.val; omega))
  have e2 : (FloatOps.exp2 (F := Ideal) (φ := .f32) (0 - (((B : ℝ) - 127 : ℝ) : EReal))) = (((2 : ℝ) ^ (127 - (B : ℤ)) : ℝ) : EReal) := by
    rw [← exp2_int]
    show Ideal.exp2 _ = _
    congr 1
    rw [← EReal.coe_zero, ← EReal.coe_sub]; congr 1; push_cast; ring
  rw [e2]
  exact congrArg (fun z => min _ (max _ (z * _))) e1

/-- One block of 32 columns of a row. -/
def rowb (v0 : S32768x5120.Idx → EReal) (R : Fin 32768) (b : Fin 160) : Fin 32 → EReal :=
  fun r => v0 (ix2 R ⟨32 * b.val + r.val, by omega⟩)

theorem pay10_at (v0 : Vec Ideal S32768x5120 .bf16) (R : Fin 32768) (b : Fin 160) (r : Fin 32) :
    k0_pay10 (F := Ideal) (k0_pay2 v0) (ix3 R b r) = rowb v0 R b r := by
  pointwise [k0_pay10, k0_pay2]
  unfold rowb
  congr 2
  refine Fin.ext ?_
  show b.val * 32 + r.val = 32 * b.val + r.val
  omega

theorem pay11_at (v0 : Vec Ideal S32768x5120 .bf16) (R : Fin 32768) (b : Fin 160) (o : Fin 1) :
    k0_pay11 (F := Ideal) (k0_pay10 (k0_pay2 v0)) (ix3 R b o) = Scale.expo (amax (rowb v0 R b)) := by
  pointwise [k0_pay11]
  have e : Finset.fold max (Ideal.ofBits .f32 0xFF800000#32) (fun x => FloatOps.absf (k0_pay10 (F := Ideal) (k0_pay2 v0) (ix3 R b x))) Finset.univ = amax (rowb v0 R b) := by
    rw [← fold_amax]
    refine congrArg (fun f => Finset.fold max _ f Finset.univ) (funext fun x => ?_)
    rw [pay10_at]; rfl
  rw [e]
  unfold Scale.expo
  rw [c113]

theorem fullR_at (q : EReal → EReal → EReal) (v0 : S32768x5120.Idx → EReal) (R : Fin 32768) (l : Fin 5120) :
    fullR q v0 (ix2 R l) = q (v0 (ix2 R l)) (amax (rowb v0 R ⟨l.val / 32, by omega⟩)) := rfl

theorem row_at (v0 : Vec Ideal S32768x5120 .bf16) (R : Fin 32768) (l : Fin 5120) :
    k0_pay12 (F := Ideal) (k0_pay10 (k0_pay2 v0)) (ix2 R l) = fullR code v0 (ix2 R l) := by
  pointwise [k0_pay12]
  rw [fullR_at, pay10_at, pay11_at]
  obtain ⟨B, h2, h240, he, hw, hp, hi⟩ := Scale.scale_eq (amax (rowb v0 R ⟨l.val / 32, by omega⟩)) (amax_nonneg _)
  unfold code
  rw [hi, he]
  have e1 : rowb v0 R ⟨l.val / 32, by omega⟩ ⟨l.val % 32, Nat.mod_lt _ (by norm_num)⟩ = v0 (ix2 R l) :=
    congrArg (fun z => v0 (ix2 R z)) (Fin.ext (by show 32 * (l.val / 32) + l.val % 32 = l.val; omega))
  have e2 : (FloatOps.exp2 (F := Ideal) (φ := .f32) (0 - (((B : ℝ) - 127 : ℝ) : EReal))) = (((2 : ℝ) ^ (127 - (B : ℤ)) : ℝ) : EReal) := by
    rw [← exp2_int]
    show Ideal.exp2 _ = _
    congr 1
    rw [← EReal.coe_zero, ← EReal.coe_sub]; congr 1; push_cast; ring
  rw [e2, chi, clo]
  exact congrArg (fun z => min _ (max _ (z * _))) e1

theorem pay13_at (v0 : Vec Ideal S32768x5120 .bf16) (R : Fin 32768) (b : Fin 160) (B : ℕ) (h2 : 2 ≤ B) (h240 : B ≤ 240)
    (he : Scale.expo (amax (rowb v0 R b)) = (((B : ℝ) - 127 : ℝ) : EReal)) :
    k0_pay13 (F := Ideal) (k0_pay10 (k0_pay2 v0)) (ix2 R b) = ((B : ℝ) : EReal) := by
  pointwise [k0_pay13]
  rw [pay11_at, c127]
  exact congrArg (fun z : ℝ => (z : EReal)) (Scale.byte_eq _ (amax_nonneg _) B h2 h240 he)

/-- What the reference makes of a scale's byte. -/
def refpow (b : BitVec 8) : EReal :=
  if FloatOps.sitofp (F := Ideal) FTy.f32 (BitVec.setWidth 32 b) = (0 : EReal) then 0
  else if FloatOps.sitofp (F := Ideal) FTy.f32 (BitVec.setWidth 32 b) = Ideal.ofBits FTy.f32 0x437F0000#32 then Ideal.ofBits FTy.f32 0x7F800000#32
  else FloatOps.exp2 (F := Ideal) (φ := .f32) (FloatOps.sitofp (F := Ideal) FTy.f32 (BitVec.setWidth 32 b) - Ideal.ofBits FTy.f32 0x42FE0000#32)

theorem refpow_eq (b : BitVec 8) : refpow b = powb b := by
  have hb : b.toNat < 256 := b.isLt
  have e : FloatOps.sitofp (F := Ideal) FTy.f32 (BitVec.setWidth 32 b) = ((b.toNat : ℝ) : EReal) := by
    show (((BitVec.setWidth 32 b).toInt : ℝ) : EReal) = _
    congr 1
    rw [BitVec.toInt_eq_toNat_of_lt (by rw [BitVec.toNat_setWidth]; omega), BitVec.toNat_setWidth, Nat.mod_eq_of_lt (by omega)]
    push_cast; rfl
  have ew : IntOp.shli .vector (b.setWidth 32) 23#32 = BitVec.ofNat 32 (b.toNat * 8388608) := by
    unfold IntOp.shli
    rw [if_pos (by decide)]
    apply BitVec.eq_of_toNat_eq
    simp [BitVec.toNat_shiftLeft, Nat.shiftLeft_eq]
  unfold refpow powb
  rw [e, ew, c255, c127]
  by_cases h0 : b.toNat = 0
  · rw [h0]; simp
  · rw [if_neg (by exact_mod_cast h0)]
    by_cases h1 : b.toNat = 255
    · rw [h1, if_pos (by norm_num)]
    · rw [if_neg (by exact_mod_cast h1), Scale.f32_pow _ (by omega) (by omega), ← exp2_int]
      show Ideal.exp2 _ = _
      congr 1
      rw [← EReal.coe_sub]; congr 1; push_cast; rfl

theorem pay9_at (v0 : Vec Ideal S32768x5120 .bf16) (v58 : Vec Ideal S32768x1280 .fp8e4m3) (v60 : Vec Ideal S1024x1280 .i8) (j : Fin 1280) (l : Fin 5120) :
    k0_pay9 (F := Ideal) (k0_pay5 v0) (k0_pay6 v0) (k0_pay7 v0) (k0_pay8 v0) v58 v60 (ix2 j l) = total v0 v58 v60 (ix2 j l) := by
  refine Eq.trans (b := ∑ x : Fin 32768, Scalar.select (k0_pay8 (F := Ideal) v0 (ix2 ⟨x.val / 32, by omega⟩ l)) 0
      ((v58 (ix2 x j) * refpow (v60 (ix2 ⟨x.val / 32, by omega⟩ j))) *
        (k0_pay5 (F := Ideal) v0 (ix2 x l) * if k0_pay6 (F := Ideal) v0 (ix2 ⟨x.val / 32, by omega⟩ l) = Ideal.ofBits FTy.f32 0x437F0000#32
          then Ideal.ofBits FTy.f32 0x7F800000#32 else k0_pay7 (F := Ideal) v0 (ix2 ⟨x.val / 32, by omega⟩ l)))) ?_ ?_
  · pointwise [k0_pay9]
    rfl
  unfold total
  refine Finset.sum_congr rfl fun x _ => ?_
  obtain ⟨B, h2, h240, he, hw, hp, hi⟩ := Scale.scale_eq (amax (col v0 ⟨x.val / 32, by omega⟩ l)) (amax_nonneg _)
  have e4 := pay6_at v0 ⟨x.val / 32, by omega⟩ l B h2 h240 he
  have e5 : k0_pay7 (F := Ideal) v0 (ix2 ⟨x.val / 32, by omega⟩ l) = (((2 : ℝ) ^ ((B : ℤ) - 127) : ℝ) : EReal) := by
    pointwise [k0_pay7]
    rw [e4, c127, ← exp2_int]
    show Ideal.exp2 _ = _
    congr 1
    rw [← EReal.coe_sub]; congr 1; push_cast; rfl
  have e6 : k0_pay8 (F := Ideal) v0 (ix2 ⟨x.val / 32, by omega⟩ l) = 0#1 := by
    pointwise [k0_pay8]
    rw [e4]
    have : B ≠ 0 := by omega
    simp [this]
  rw [e6, e4, e5, c255, if_neg (by have : B ≠ 255 := by omega
                                   exact_mod_cast this), refpow_eq, pay5_at, full_at]
  show v58 (ix2 x j) * powb (v60 (ix2 ⟨x.val / 32, _⟩ j)) * (code (v0 (ix2 x l)) (amax (col v0 ⟨x.val / 32, by omega⟩ l)) * _)
    = v58 (ix2 x j) * powb (v60 (ix2 ⟨x.val / 32, _⟩ j)) * back (v0 (ix2 x l)) (amax (col v0 ⟨x.val / 32, by omega⟩ l))
  unfold back
  rw [hp]

/-- The product for the input gradient, of the two dequantised arrays. -/
theorem dx_at (v0 : Vec Ideal S32768x5120 .bf16) (w : Vec Ideal S1280x5120 .fp8e4m3) (s : Vec Ideal S1280x160 .i8) (R : Fin 32768) (k : Fin 1280) :
    k0_pay1 (F := Ideal) (k0_pay12 (k0_pay10 (k0_pay2 v0))) (k0_pay13 (k0_pay10 (k0_pay2 v0))) (k0_pay14 (k0_pay10 (k0_pay2 v0)))
      (k0_pay15 (k0_pay10 (k0_pay2 v0))) k0_pay16 w s (ix2 R k) = totalX v0 w s (ix2 R k) := by
  refine Eq.trans (b := ∑ x : Fin 5120, Scalar.select (k0_pay15 (F := Ideal) (k0_pay10 (k0_pay2 v0)) (ix2 R ⟨x.val / 32, by omega⟩)) 0
      ((k0_pay12 (F := Ideal) (k0_pay10 (k0_pay2 v0)) (ix2 R x) *
          if k0_pay13 (F := Ideal) (k0_pay10 (k0_pay2 v0)) (ix2 R ⟨x.val / 32, by omega⟩) = k0_pay16 (F := Ideal) (ix2 R ⟨x.val / 32, by omega⟩)
          then Ideal.ofBits FTy.f32 0x7F800000#32 else k0_pay14 (F := Ideal) (k0_pay10 (k0_pay2 v0)) (ix2 R ⟨x.val / 32, by omega⟩)) *
        (w (ix2 k x) * refpow (s (ix2 k ⟨x.val / 32, by omega⟩))))) ?_ ?_
  · pointwise [k0_pay1]
    rfl
  unfold totalX
  refine Finset.sum_congr rfl fun x _ => ?_
  obtain ⟨B, h2, h240, he, hw, hp, hi⟩ := Scale.scale_eq (amax (rowb v0 R ⟨x.val / 32, by omega⟩)) (amax_nonneg _)
  have e3 := pay13_at v0 R ⟨x.val / 32, by omega⟩ B h2 h240 he
  have e4 : k0_pay14 (F := Ideal) (k0_pay10 (k0_pay2 v0)) (ix2 R ⟨x.val / 32, by omega⟩) = (((2 : ℝ) ^ ((B : ℤ) - 127) : ℝ) : EReal) := by
    pointwise [k0_pay14]
    rw [e3, c127, ← exp2_int]
    show Ideal.exp2 _ = _
    congr 1
    rw [← EReal.coe_sub]; congr 1; push_cast; rfl
  have e5 : k0_pay15 (F := Ideal) (k0_pay10 (k0_pay2 v0)) (ix2 R ⟨x.val / 32, by omega⟩) = 0#1 := by
    pointwise [k0_pay15]
    rw [e3]
    have : B ≠ 0 := by omega
    simp [this]
  have e6 : k0_pay16 (F := Ideal) (ix2 R ⟨x.val / 32, by omega⟩) = ((255 : ℝ) : EReal) := by
    pointwise [k0_pay16]
    exact c255
  rw [e5, e3, e4, e6, if_neg (by have : B ≠ 255 := by omega
                                 exact_mod_cast this), refpow_eq, row_at, fullR_at]
  show (code (v0 (ix2 R x)) (amax (rowb v0 R ⟨x.val / 32, by omega⟩)) * _) * (w (ix2 k x) * powb (s (ix2 k ⟨x.val / 32, _⟩)))
    = back (v0 (ix2 R x)) (amax (rowb v0 R ⟨x.val / 32, by omega⟩)) * (w (ix2 k x) * powb (s (ix2 k ⟨x.val / 32, _⟩)))
  unfold back
  rw [hp]

variable (m : (ℓ : Loc nD τ sig) → Buf (Elt Ideal) ℓ)

def A0 (c : Dev nD) : S32768x5120.Idx → EReal := V m c (Pipeline.arrRef spec0 0)
def A1 (c : Dev nD) : S32768x1280.Idx → EReal := V m c (Pipeline.arrRef spec0 1)
def A2 (c : Dev nD) : S1024x1280.Idx → BitVec 8 := V m c (Pipeline.arrRef spec0 2)
def A3 (c : Dev nD) : S1280x5120.Idx → EReal := V m c (Pipeline.arrRef spec0 3)
def A4 (c : Dev nD) : S1280x160.Idx → BitVec 8 := V m c (Pipeline.arrRef spec0 4)

theorem ib0 (c : Dev nD) (t : Fin cfg0.N) : iblk m c 0 t = A0 m c := by
  funext y
  unfold iblk A0
  refine congrArg (V m c (Pipeline.arrRef spec0 0)) ?_
  have e : ∀ t : Fin cfg0.N, win0_0.index t = ![0, 0] := (by decide +kernel : ∀ t : Fin grid0.N, win0_0.index t = ![0, 0])
  blk_ext [e]
theorem ib1 (c : Dev nD) (t : Fin cfg0.N) : iblk m c 1 t = A1 m c := by
  funext y
  unfold iblk A1
  refine congrArg (V m c (Pipeline.arrRef spec0 1)) ?_
  have e : ∀ t : Fin cfg0.N, win0_1.index t = ![0, 0] := (by decide +kernel : ∀ t : Fin grid0.N, win0_1.index t = ![0, 0])
  blk_ext [e]
theorem ib2 (c : Dev nD) (t : Fin cfg0.N) : iblk m c 2 t = A2 m c := by
  funext y
  unfold iblk A2
  refine congrArg (V m c (Pipeline.arrRef spec0 2)) ?_
  have e : ∀ t : Fin cfg0.N, win0_2.index t = ![0, 0] := (by decide +kernel : ∀ t : Fin grid0.N, win0_2.index t = ![0, 0])
  blk_ext [e]
theorem ib3 (c : Dev nD) (t : Fin cfg0.N) : iblk m c 3 t = A3 m c := by
  funext y
  unfold iblk A3
  refine congrArg (V m c (Pipeline.arrRef spec0 3)) ?_
  have e : ∀ t : Fin cfg0.N, win0_3.index t = ![0, 0] := (by decide +kernel : ∀ t : Fin grid0.N, win0_3.index t = ![0, 0])
  blk_ext [e]
theorem ib4 (c : Dev nD) (t : Fin cfg0.N) : iblk m c 4 t = A4 m c := by
  funext y
  unfold iblk A4
  refine congrArg (V m c (Pipeline.arrRef spec0 4)) ?_
  have e : ∀ t : Fin cfg0.N, win0_4.index t = ![0, 0] := (by decide +kernel : ∀ t : Fin grid0.N, win0_4.index t = ![0, 0])
  blk_ext [e]

theorem out5_eq (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) (j : Fin 32768) (l : Fin 1280) :
    out0_5 (F := Ideal) x0 x1 x2 x3 x4 (ix2 j l) = totalX x0 x3 x4 (ix2 j l) := by
  rw [← dx_at]
  unfold out0_5 k0_pay18
  rw [View.canon_cons_unit_lit, View.ld_unit_lit, View.ld_unit_lit, View.ld_unit_lit]
  all_goals exact Fin.forall_fin_two.mpr ⟨rfl, rfl⟩

theorem out5_all (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) :
    out0_5 (F := Ideal) x0 x1 x2 x3 x4 = totalX x0 x3 x4 := by
  funext y
  idx_vars y
  exact out5_eq x0 x1 x2 x3 x4 _ _

theorem out6_eq (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) (j : Fin 1280) (l : Fin 5120) :
    out0_6 (F := Ideal) x0 x1 x2 x3 x4 (ix2 j l) = total x0 x1 x2 (ix2 j l) := by
  rw [← pay9_at]
  unfold out0_6 k0_pay17
  rw [View.canon_cons_unit_lit, View.ld_unit_lit, View.ld_unit_lit, View.ld_unit_lit]
  all_goals exact Fin.forall_fin_two.mpr ⟨rfl, rfl⟩

theorem out6_all (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) :
    out0_6 (F := Ideal) x0 x1 x2 x3 x4 = total x0 x1 x2 := by
  funext y
  idx_vars y
  exact out6_eq x0 x1 x2 x3 x4 _ _

theorem out7_eq (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) (j : Fin 32768) (l : Fin 5120) :
    out0_7 (F := Ideal) x0 x1 x2 x3 x4 (ix2 j l) = fullR code x0 (ix2 j l) := by
  rw [← row_at]
  unfold out0_7 k0_pay18
  rw [View.canon_cons_unit_lit, View.ld_unit_lit]
  all_goals exact Fin.forall_fin_two.mpr ⟨rfl, rfl⟩

theorem out7_all (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) :
    out0_7 (F := Ideal) x0 x1 x2 x3 x4 = fullR code x0 := by
  funext y
  idx_vars y
  exact out7_eq x0 x1 x2 x3 x4 _ _

theorem out8_eq (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) (j : Fin 32768) (l : Fin 5120) :
    out0_8 (F := Ideal) x0 x1 x2 x3 x4 (ix2 j l) = full code x0 (ix2 j l) := by
  rw [← pay5_at]
  unfold out0_8 k0_pay17
  rw [View.canon_cons_unit_lit, View.ld_unit_lit]
  all_goals exact Fin.forall_fin_two.mpr ⟨rfl, rfl⟩

theorem out8_all (x0 : Vec Ideal S32768x5120 .bf16) (x1 : Vec Ideal S32768x1280 .fp8e4m3) (x2 : Vec Ideal S1024x1280 .i8) (x3 : Vec Ideal S1280x5120 .fp8e4m3) (x4 : Vec Ideal S1280x160 .i8) :
    out0_8 (F := Ideal) x0 x1 x2 x3 x4 = full code x0 := by
  funext y
  idx_vars y
  exact out8_eq x0 x1 x2 x3 x4 _ _

theorem final_dx (c : Dev nD) : (dats m 0 c).arrAt 5 cfg0.N = totalX (A0 m c) (A3 m c) (A4 m c) := by
  have h : (dats m 0 c).after 5 ⟨0, by decide⟩ = totalX (A0 m c) (A3 m c) (A4 m c) := by
    refine (after0_5 m c ⟨0, by decide⟩).trans ?_
    rw [ib0, ib1, ib2, ib3, ib4]
    exact out5_all _ _ _ _ _
  refine (dats m 0 c).arrAt_eq_of_after_last 5 ⟨0, by decide⟩ (by decide +kernel) _ fun j => ?_
  exact congrFun h j

theorem final_dw (c : Dev nD) : (dats m 0 c).arrAt 6 cfg0.N = total (A0 m c) (A1 m c) (A2 m c) := by
  have h : (dats m 0 c).after 6 ⟨0, by decide⟩ = total (A0 m c) (A1 m c) (A2 m c) := by
    refine (after0_6 m c ⟨0, by decide⟩).trans ?_
    rw [ib0, ib1, ib2, ib3, ib4]
    exact out6_all _ _ _ _ _
  refine (dats m 0 c).arrAt_eq_of_after_last 6 ⟨0, by decide⟩ (by decide +kernel) _ fun j => ?_
  exact congrFun h j

theorem final_rc (c : Dev nD) : (dats m 0 c).arrAt 7 cfg0.N = fullR code (A0 m c) := by
  have h : (dats m 0 c).after 7 ⟨0, by decide⟩ = fullR code (A0 m c) := by
    refine (after0_7 m c ⟨0, by decide⟩).trans ?_
    rw [ib0, ib1, ib2, ib3, ib4]
    exact out7_all _ _ _ _ _
  refine (dats m 0 c).arrAt_eq_of_after_last 7 ⟨0, by decide⟩ (by decide +kernel) _ fun j => ?_
  exact congrFun h j

theorem final_cc (c : Dev nD) : (dats m 0 c).arrAt 8 cfg0.N = full code (A0 m c) := by
  have h : (dats m 0 c).after 8 ⟨0, by decide⟩ = full code (A0 m c) := by
    refine (after0_8 m c ⟨0, by decide⟩).trans ?_
    rw [ib0, ib1, ib2, ib3, ib4]
    exact out8_all _ _ _ _ _
  refine (dats m 0 c).arrAt_eq_of_after_last 8 ⟨0, by decide⟩ (by decide +kernel) _ fun j => ?_
  exact congrFun h j

/-- The run: the input gradient, the weight gradient and the codes of the gradient by both axes, the arguments as they began. -/
theorem run_val (ρ : Dev nD → PrngReg) : θ_run defs (onTc (τ := τ) (main (F := Ideal))) ⟨m, fun _ => 0, ρ⟩ (fun r => ∀ c : Dev nD,
      r.2.mem ((c : Thread nD τ).loc main_v3_0) = totalX (A0 m c) (A3 m c) (A4 m c)
      ∧ r.2.mem ((c : Thread nD τ).loc main_v3_1) = total (A0 m c) (A1 m c) (A2 m c)
      ∧ r.2.mem ((c : Thread nD τ).loc main_v3_2) = fullR code (A0 m c)
      ∧ r.2.mem ((c : Thread nD τ).loc main_v3_3) = full code (A0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1.trans (final_dx m c), (h c).2.1.trans (final_dw m c), (h c).2.2.1.trans (final_rc m c),
    (h c).2.2.2.1.trans (final_cc m c), (h c).2.2.2.2⟩) (Value.run_blocks m ρ)

end Cert.ReferenceIdeal.Hand

end
-- ==== Proof.Algebraic.lean ====
/- The kernel and the reference compute the same four arrays: their value runs (Proof/KernelIdealFinal.lean,
   Proof/ReferenceIdealVal.lean) name the same functions of the same reshaped arguments. -/
module

public import proofs.«01_k».proof.Defs
public import proofs.«01_k».proof.Proof.KernelIdealFinal
public import proofs.«01_k».proof.Proof.ReferenceIdealVal
public import Idealize.ShloMosaic.Lib.StableHlo.Run

@[expose] public section

set_option maxRecDepth 16384

noncomputable section

namespace Cert.KernelIdeal.Hand.Val

open Idealize.ShloMosaic Idealize.ShloMosaic.TcCoe
open Cert.KernelIdeal Cert.KernelIdeal.Gen

variable (m : (ℓ : Loc nD τ sig) → Buf (Elt Ideal) ℓ)

/-- The gradient the call reads is the first argument without its leading unit axis. -/
theorem A0_eq (c : Dev nD) : A0 m c = shapeCast S32768x5120 (m ((c : Thread nD τ).loc main_arg0) : S1x32768x5120.Idx → EReal) shapeCasts_S1x32768x5120_S32768x5120 := by
  show StableHlo.after hostOps0 _ (Proc.devRef .tc main_v0) = _
  after_results
  rfl

/-- The codes of the input are the second argument without its leading unit axis. -/
theorem A1_eq (c : Dev nD) : A1 m c = shapeCast S32768x1280 (m ((c : Thread nD τ).loc main_arg1) : S1x32768x1280.Idx → EReal) shapeCasts_S1x32768x1280_S32768x1280 := by
  show StableHlo.after hostOps0 _ (Proc.devRef .tc main_v1) = _
  after_results
  rfl

/-- The scales of the input are the third argument without its leading unit axis. -/
theorem A2_eq (c : Dev nD) : A2 m c = shapeCast S1024x1280 (m ((c : Thread nD τ).loc main_arg2) : S1x1024x1280.Idx → BitVec 8) shapeCasts_S1x1024x1280_S1024x1280 := by
  show StableHlo.after hostOps0 _ (Proc.devRef .tc main_v2) = _
  after_results
  rfl

/-- The weight's codes and scales are the fourth and fifth arguments as they stand. -/
theorem A4_eq (c : Dev nD) : A4 m c = m ((c : Thread nD τ).loc main_arg3) := V_main_arg3 m c
theorem A3_eq (c : Dev nD) : A3 m c = m ((c : Thread nD τ).loc main_arg4) := V_main_arg4 m c

end Cert.KernelIdeal.Hand.Val

namespace Cert.ReferenceIdeal.Hand

open Idealize.ShloMosaic Idealize.ShloMosaic.TcCoe
open Cert.ReferenceIdeal Cert.ReferenceIdeal.Gen

variable (m : (ℓ : Loc nD τ sig) → Buf (Elt Ideal) ℓ)

/-- The gradient the reference reads is the first argument without its leading unit axis. -/
theorem A0_eq (c : Dev nD) : A0 m c = shapeCast S32768x5120 (m ((c : Thread nD τ).loc main_arg0) : S1x32768x5120.Idx → EReal) shapeCasts_S1x32768x5120_S32768x5120 := by
  show StableHlo.after hostOps0 _ (Proc.devRef .tc main_v0) = _
  after_results
  rfl

/-- The codes of the input are the second argument without its leading unit axis. -/
theorem A1_eq (c : Dev nD) : A1 m c = shapeCast S32768x1280 (m ((c : Thread nD τ).loc main_arg1) : S1x32768x1280.Idx → EReal) shapeCasts_S1x32768x1280_S32768x1280 := by
  show StableHlo.after hostOps0 _ (Proc.devRef .tc main_v1) = _
  after_results
  rfl

/-- The scales of the input are the third argument without its leading unit axis. -/
theorem A2_eq (c : Dev nD) : A2 m c = shapeCast S1024x1280 (m ((c : Thread nD τ).loc main_arg2) : S1x1024x1280.Idx → BitVec 8) shapeCasts_S1x1024x1280_S1024x1280 := by
  show StableHlo.after hostOps0 _ (Proc.devRef .tc main_v2) = _
  after_results
  rfl

/-- The weight's codes and scales are the fourth and fifth arguments as they stand. -/
theorem A3_eq (c : Dev nD) : A3 m c = m ((c : Thread nD τ).loc main_arg3) := V_main_arg3 m c
theorem A4_eq (c : Dev nD) : A4 m c = m ((c : Thread nD τ).loc main_arg4) := V_main_arg4 m c

end Cert.ReferenceIdeal.Hand

namespace Cert.Proof

open Idealize.ShloMosaic Idealize.ShloMosaic.TcCoe Idealize.SL.Sem

/-- From agreeing arguments the two programs end with the same input gradient, the same weight gradient and the same codes by both axes. -/
theorem algebraic : Cert.algebraic_KernelIdeal_ReferenceIdeal (hKernelIdeal := Cert.KernelIdeal.Gen.facts) (hReferenceIdeal := Cert.ReferenceIdeal.Gen.facts) := by
  intro m g m' g' _ hargs
  have h0 : ∀ c, Cert.ReferenceIdeal.Hand.A0 m' c = Cert.KernelIdeal.Hand.Val.A0 m c := fun c => by
    rw [Cert.ReferenceIdeal.Hand.A0_eq, Cert.KernelIdeal.Hand.Val.A0_eq]
    exact congrArg (fun z => shapeCast Cert.KernelIdeal.S32768x5120 (z : Cert.KernelIdeal.S1x32768x5120.Idx → EReal) Cert.KernelIdeal.Gen.shapeCasts_S1x32768x5120_S32768x5120) (hargs c).1
  have h1 : ∀ c, Cert.ReferenceIdeal.Hand.A1 m' c = Cert.KernelIdeal.Hand.Val.A1 m c := fun c => by
    rw [Cert.ReferenceIdeal.Hand.A1_eq, Cert.KernelIdeal.Hand.Val.A1_eq]
    exact congrArg (fun z => shapeCast Cert.KernelIdeal.S32768x1280 (z : Cert.KernelIdeal.S1x32768x1280.Idx → EReal) Cert.KernelIdeal.Gen.shapeCasts_S1x32768x1280_S32768x1280) (hargs c).2.1
  have h2 : ∀ c, Cert.ReferenceIdeal.Hand.A2 m' c = Cert.KernelIdeal.Hand.Val.A2 m c := fun c => by
    rw [Cert.ReferenceIdeal.Hand.A2_eq, Cert.KernelIdeal.Hand.Val.A2_eq]
    exact congrArg (fun z => shapeCast Cert.KernelIdeal.S1024x1280 (z : Cert.KernelIdeal.S1x1024x1280.Idx → BitVec 8) Cert.KernelIdeal.Gen.shapeCasts_S1x1024x1280_S1024x1280) (hargs c).2.2.1
  have h3 : ∀ c, Cert.ReferenceIdeal.Hand.A3 m' c = Cert.KernelIdeal.Hand.Val.A4 m c := fun c => by
    rw [Cert.ReferenceIdeal.Hand.A3_eq, Cert.KernelIdeal.Hand.Val.A4_eq]
    exact (hargs c).2.2.2.1
  have h4 : ∀ c, Cert.ReferenceIdeal.Hand.A4 m' c = Cert.KernelIdeal.Hand.Val.A3 m c := fun c => by
    rw [Cert.ReferenceIdeal.Hand.A4_eq, Cert.KernelIdeal.Hand.Val.A3_eq]
    exact (hargs c).2.2.2.2
  refine ⟨fun c => Cert.KernelIdeal.Hand.Val.totalX (Cert.KernelIdeal.Hand.Val.A0 m c) (Cert.KernelIdeal.Hand.Val.A4 m c) (Cert.KernelIdeal.Hand.Val.A3 m c),
    fun c => Cert.KernelIdeal.Hand.Val.total (Cert.KernelIdeal.Hand.Val.A0 m c) (Cert.KernelIdeal.Hand.Val.A1 m c) (Cert.KernelIdeal.Hand.Val.A2 m c),
    fun c => Cert.KernelIdeal.Hand.Val.fullR Cert.KernelIdeal.Hand.code (Cert.KernelIdeal.Hand.Val.A0 m c),
    fun c => Cert.KernelIdeal.Hand.Val.full Cert.KernelIdeal.Hand.code (Cert.KernelIdeal.Hand.Val.A0 m c), Cert.KernelIdeal.Hand.Val.run_val m g, ?_⟩
  refine (θ_run _ _ _).mono (fun r h c => ⟨(h c).1.trans ?_, (h c).2.1.trans ?_, (h c).2.2.1.trans ?_, (h c).2.2.2.1.trans ?_, (h c).2.2.2.2⟩) (Cert.ReferenceIdeal.Hand.run_val m' g')
  · rw [h0, h3, h4]
  · rw [h0, h1, h2]
  · rw [h0]
  · rw [h0]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.KernelHand
public import proofs.«01_k».proof.Proof.KernelIdealHand
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem

theorem preserves : Cert.preserves_Kernel_KernelIdeal :=
  ⟨IdealRules.bf16_pair.statement _ _, IdealRules.bf16_pair.statement _ _, IdealRules.truncf_extf.statement _ _ _⟩

theorem claim : Cert.Claim := ⟨Cert.Kernel.Gen.facts, Cert.KernelIdeal.Gen.facts, Cert.ReferenceIdeal.Gen.facts,
  fun m ρ _ => Cert.Kernel.Hand.frame_all m ρ,
  fun m ρ _ => Cert.KernelIdeal.Hand.frame_all m ρ,
  fun m ρ _ => Cert.ReferenceIdeal.Gen.frame m ρ,
  preserves, algebraic⟩

end Cert.Proof

end
